-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre_KernelIdeal [hPre_pre_KernelIdeal : Cert.Pre_pre_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_pre_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_pre_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_pre_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_pre_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre_ReferenceIdeal [hPre_pre_ReferenceIdeal : Cert.Pre_pre_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_pre_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_pre_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_pre_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_pre_KernelIdeal [hKernelIdeal : Cert.KernelIdeal.Facts] [hPre_pre_KernelIdeal : Cert.Pre_pre_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_pre_ReferenceIdeal [hReferenceIdeal : Cert.ReferenceIdeal.Facts] [hPre_pre_ReferenceIdeal : Cert.Pre_pre_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_pre_KernelIdeal [hKernelIdeal : Cert.KernelIdeal.Facts] [hReferenceIdeal : Cert.ReferenceIdeal.Facts] [hPre_pre_KernelIdeal : Cert.Pre_pre_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![65536, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![2048, 2]⟩ ⟨2, ![65536, 2]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 512, 1024]⟩ ⟨3, ![128, 512, 1024]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v188) = Layout.block ⟨2, ![2048, 1024]⟩ ⟨2, ![65536, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v41) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_pre_KernelIdeal : Cert.Pre_pre_KernelIdeal.Facts) (hPre_pre_ReferenceIdeal : Cert.Pre_pre_ReferenceIdeal.Facts),
    quiescent_Kernel (hKernel := hKernel)
    ∧ quiescent_KernelIdeal (hKernelIdeal := hKernelIdeal)
    ∧ quiescent_KernelIdeal_pre_pre_KernelIdeal (hKernelIdeal := hKernelIdeal) (hPre_pre_KernelIdeal := hPre_pre_KernelIdeal)
    ∧ quiescent_ReferenceIdeal (hReferenceIdeal := hReferenceIdeal)
    ∧ quiescent_ReferenceIdeal_pre_pre_ReferenceIdeal (hReferenceIdeal := hReferenceIdeal) (hPre_pre_ReferenceIdeal := hPre_pre_ReferenceIdeal)
    ∧ preserves_Kernel_KernelIdeal
    ∧ algebraic_KernelIdeal_ReferenceIdeal_pre_pre_KernelIdeal (hKernelIdeal := hKernelIdeal) (hReferenceIdeal := hReferenceIdeal) (hPre_pre_KernelIdeal := hPre_pre_KernelIdeal)
-- ==== Pre_pre_KernelIdeal.lean ====
abbrev S2048x512 : Shape := ⟨2, ![2048, 512]⟩
abbrev S512x128 : Shape := ⟨2, ![512, 128]⟩
abbrev S2048x2 : Shape := ⟨2, ![2048, 2]⟩
abbrev S4x512x1024 : Shape := ⟨3, ![4, 512, 1024]⟩
abbrev S4096 : Shape := ⟨1, ![4096]⟩
abbrev S128 : Shape := ⟨1, ![128]⟩
abbrev S4096x1 : Shape := ⟨2, ![4096, 1]⟩
abbrev S1x128 : Shape := ⟨2, ![1, 128]⟩
abbrev S4096x128 : Shape := ⟨2, ![4096, 128]⟩
abbrev S_ : Shape := ⟨0, ![]⟩

class Facts : Prop where
  shapeCasts_S2048x2_S4096 : S2048x2.ShapeCasts S4096
  bcast_S4096_S4096x1_0 : S4096.BroadcastsInDim S4096x1 (![0] : Fin 1 → Fin S4096x1.rank)
  bcast_S128_S1x128_1 : S128.BroadcastsInDim S1x128 (![1] : Fin 1 → Fin S1x128.rank)
  bcast_S4096x1_S4096x128_0_1 : S4096x1.BroadcastsInDim S4096x128 (![0, 1] : Fin 2 → Fin S4096x128.rank)
  bcast_S1x128_S4096x128_0_1 : S1x128.BroadcastsInDim S4096x128 (![0, 1] : Fin 2 → Fin S4096x128.rank)
  natLt_1_32 : 1 < 32
  reducesTo_S4096x128_S128_d0 : S4096x128.ReducesTo [0] S128
  h_S_ : 0 < S_.numel
  bcast_S_S2048x2 : S_.BroadcastsInDim S2048x2 (![] : Fin 0 → Fin S2048x2.rank)
  bcast_S_S128 : S_.BroadcastsInDim S128 (![] : Fin 0 → Fin S128.rank)
  bcast_S_S2048x512 : S_.BroadcastsInDim S2048x512 (![] : Fin 0 → Fin S2048x512.rank)
  bcast_S_S512x128 : S_.BroadcastsInDim S512x128 (![] : Fin 0 → Fin S512x128.rank)

variable [Facts]

def fn_part1 {F : FTy → Type} [FloatOps F] (main_arg1 : FVec F S512x128 .f32) (main_v13 : IVec S2048x2 1) (main_v15 : IVec S128 1) (main_v18 : IVec S2048x512 1) : IVec S2048x2 1 × IVec S128 1 × IVec S2048x512 1 × IVec S512x128 1 :=
  let main_v19 : FVec F S512x128 .f32 := Host.absf main_arg1
  let main_cst_3 : FVec F S_ .f32 := constant S_ .f32 0x7F800000#32
  let main_v20 : FVec F S512x128 .f32 := broadcastInDim S512x128 ![] bcast_S_S512x128 main_cst_3
  let main_v21 : IVec S512x128 1 := cmpf .olt main_v19 main_v20
  (main_v13, main_v15, main_v18, main_v21)

def fn {F : FTy → Type} [FloatOps F] (main_arg0 : FVec F S2048x512 .f32) (main_arg1 : FVec F S512x128 .f32) (main_arg2 : IVec S2048x2 32) (main_arg3 : FVec F S4x512x1024 .f32) : IVec S2048x2 1 × IVec S128 1 × IVec S2048x512 1 × IVec S512x128 1 :=
  let main_v0 : IVec S4096 32 := shapeCast S4096 main_arg2 shapeCasts_S2048x2_S4096
  let main_v1 : IVec S128 32 := iotaInDim S128 32 0
  let main_v2 : IVec S4096x1 32 := broadcastInDim S4096x1 ![0] bcast_S4096_S4096x1_0 main_v0
  let main_v3 : IVec S1x128 32 := broadcastInDim S1x128 ![1] bcast_S128_S1x128_1 main_v1
  let main_v4 : IVec S4096x128 32 := broadcastInDim S4096x128 ![0, 1] bcast_S4096x1_S4096x128_0_1 main_v2
  let main_v5 : IVec S4096x128 32 := broadcastInDim S4096x128 ![0, 1] bcast_S1x128_S4096x128_0_1 main_v3
  let main_v6 : IVec S4096x128 1 := cmpi .eq main_v4 main_v5
  let main_v7 : IVec S4096x128 32 := (extui 32 · natLt_1_32) main_v6
  let main_c : IVec S_ 32 := constantI S_ 32 0#32
  let main_v8 : IVec S128 32 := (fun x v => Host.reduce IntOp.addi x v reducesTo_S4096x128_S128_d0 h_S_) main_v7 main_c
  let main_c_0 : IVec S_ 32 := constantI S_ 32 0#32
  let main_v9 : IVec S2048x2 32 := broadcastInDim S2048x2 ![] bcast_S_S2048x2 main_c_0
  let main_v10 : IVec S2048x2 1 := cmpi .sge main_arg2 main_v9
  let main_c_1 : IVec S_ 32 := constantI S_ 32 128#32
  let main_v11 : IVec S2048x2 32 := broadcastInDim S2048x2 ![] bcast_S_S2048x2 main_c_1
  let main_v12 : IVec S2048x2 1 := cmpi .slt main_arg2 main_v11
  let main_v13 : IVec S2048x2 1 := andi main_v10 main_v12
  let main_c_2 : IVec S_ 32 := constantI S_ 32 64#32
  let main_v14 : IVec S128 32 := broadcastInDim S128 ![] bcast_S_S128 main_c_2
  let main_v15 : IVec S128 1 := cmpi .sle main_v8 main_v14
  let main_v16 : FVec F S2048x512 .f32 := Host.absf main_arg0
  let main_cst : FVec F S_ .f32 := constant S_ .f32 0x7F800000#32
  let main_v17 : FVec F S2048x512 .f32 := broadcastInDim S2048x512 ![] bcast_S_S2048x512 main_cst
  let main_v18 : IVec S2048x512 1 := cmpf .olt main_v16 main_v17
  fn_part1 (F := F) main_arg1 main_v13 main_v15 main_v18
-- ==== Pre_pre_ReferenceIdeal.lean ====
abbrev S65536x512 : Shape := ⟨2, ![65536, 512]⟩
abbrev S512x128 : Shape := ⟨2, ![512, 128]⟩
abbrev S65536x2 : Shape := ⟨2, ![65536, 2]⟩
abbrev S128x512x1024 : Shape := ⟨3, ![128, 512, 1024]⟩
abbrev S131072 : Shape := ⟨1, ![131072]⟩
abbrev S128 : Shape := ⟨1, ![128]⟩
abbrev S131072x1 : Shape := ⟨2, ![131072, 1]⟩
abbrev S1x128 : Shape := ⟨2, ![1, 128]⟩
abbrev S131072x128 : Shape := ⟨2, ![131072, 128]⟩
abbrev S_ : Shape := ⟨0, ![]⟩

class Facts : Prop where
  shapeCasts_S65536x2_S131072 : S65536x2.ShapeCasts S131072
  bcast_S131072_S131072x1_0 : S131072.BroadcastsInDim S131072x1 (![0] : Fin 1 → Fin S131072x1.rank)
  bcast_S128_S1x128_1 : S128.BroadcastsInDim S1x128 (![1] : Fin 1 → Fin S1x128.rank)
  bcast_S131072x1_S131072x128_0_1 : S131072x1.BroadcastsInDim S131072x128 (![0, 1] : Fin 2 → Fin S131072x128.rank)
  bcast_S1x128_S131072x128_0_1 : S1x128.BroadcastsInDim S131072x128 (![0, 1] : Fin 2 → Fin S131072x128.rank)
  natLt_1_32 : 1 < 32
  reducesTo_S131072x128_S128_d0 : S131072x128.ReducesTo [0] S128
  h_S_ : 0 < S_.numel
  bcast_S_S65536x2 : S_.BroadcastsInDim S65536x2 (![] : Fin 0 → Fin S65536x2.rank)
  bcast_S_S128 : S_.BroadcastsInDim S128 (![] : Fin 0 → Fin S128.rank)
  bcast_S_S65536x512 : S_.BroadcastsInDim S65536x512 (![] : Fin 0 → Fin S65536x512.rank)
  bcast_S_S512x128 : S_.BroadcastsInDim S512x128 (![] : Fin 0 → Fin S512x128.rank)

variable [Facts]

def fn_part1 {F : FTy → Type} [FloatOps F] (main_arg1 : FVec F S512x128 .f32) (main_v13 : IVec S65536x2 1) (main_v15 : IVec S128 1) (main_v18 : IVec S65536x512 1) : IVec S65536x2 1 × IVec S128 1 × IVec S65536x512 1 × IVec S512x128 1 :=
  let main_v19 : FVec F S512x128 .f32 := Host.absf main_arg1
  let main_cst_3 : FVec F S_ .f32 := constant S_ .f32 0x7F800000#32
  let main_v20 : FVec F S512x128 .f32 := broadcastInDim S512x128 ![] bcast_S_S512x128 main_cst_3
  let main_v21 : IVec S512x128 1 := cmpf .olt main_v19 main_v20
  (main_v13, main_v15, main_v18, main_v21)

def fn {F : FTy → Type} [FloatOps F] (main_arg0 : FVec F S65536x512 .f32) (main_arg1 : FVec F S512x128 .f32) (main_arg2 : IVec S65536x2 32) (main_arg3 : FVec F S128x512x1024 .f32) : IVec S65536x2 1 × IVec S128 1 × IVec S65536x512 1 × IVec S512x128 1 :=
  let main_v0 : IVec S131072 32 := shapeCast S131072 main_arg2 shapeCasts_S65536x2_S131072
  let main_v1 : IVec S128 32 := iotaInDim S128 32 0
  let main_v2 : IVec S131072x1 32 := broadcastInDim S131072x1 ![0] bcast_S131072_S131072x1_0 main_v0
  let main_v3 : IVec S1x128 32 := broadcastInDim S1x128 ![1] bcast_S128_S1x128_1 main_v1
  let main_v4 : IVec S131072x128 32 := broadcastInDim S131072x128 ![0, 1] bcast_S131072x1_S131072x128_0_1 main_v2
  let main_v5 : IVec S131072x128 32 := broadcastInDim S131072x128 ![0, 1] bcast_S1x128_S131072x128_0_1 main_v3
  let main_v6 : IVec S131072x128 1 := cmpi .eq main_v4 main_v5
  let main_v7 : IVec S131072x128 32 := (extui 32 · natLt_1_32) main_v6
  let main_c : IVec S_ 32 := constantI S_ 32 0#32
  let main_v8 : IVec S128 32 := (fun x v => Host.reduce IntOp.addi x v reducesTo_S131072x128_S128_d0 h_S_) main_v7 main_c
  let main_c_0 : IVec S_ 32 := constantI S_ 32 0#32
  let main_v9 : IVec S65536x2 32 := broadcastInDim S65536x2 ![] bcast_S_S65536x2 main_c_0
  let main_v10 : IVec S65536x2 1 := cmpi .sge main_arg2 main_v9
  let main_c_1 : IVec S_ 32 := constantI S_ 32 128#32
  let main_v11 : IVec S65536x2 32 := broadcastInDim S65536x2 ![] bcast_S_S65536x2 main_c_1
  let main_v12 : IVec S65536x2 1 := cmpi .slt main_arg2 main_v11
  let main_v13 : IVec S65536x2 1 := andi main_v10 main_v12
  let main_c_2 : IVec S_ 32 := constantI S_ 32 64#32
  let main_v14 : IVec S128 32 := broadcastInDim S128 ![] bcast_S_S128 main_c_2
  let main_v15 : IVec S128 1 := cmpi .sle main_v8 main_v14
  let main_v16 : FVec F S65536x512 .f32 := Host.absf main_arg0
  let main_cst : FVec F S_ .f32 := constant S_ .f32 0x7F800000#32
  let main_v17 : FVec F S65536x512 .f32 := broadcastInDim S65536x512 ![] bcast_S_S65536x512 main_cst
  let main_v18 : IVec S65536x512 1 := cmpf .olt main_v16 main_v17
  fn_part1 (F := F) main_arg1 main_v13 main_v15 main_v18
-- ==== Kernel.lean ====
abbrev S2048x512 : Shape := ⟨2, ![2048, 512]⟩
abbrev S512x128 : Shape := ⟨2, ![512, 128]⟩
abbrev S2048x2 : Shape := ⟨2, ![2048, 2]⟩
abbrev S4x512x1024 : Shape := ⟨3, ![4, 512, 1024]⟩
abbrev S32 : Shape := ⟨1, ![32]⟩
abbrev S_ : Shape := ⟨0, ![]⟩
abbrev S1 : Shape := ⟨1, ![1]⟩
abbrev S32x1 : Shape := ⟨2, ![32, 1]⟩
abbrev S2 : Shape := ⟨1, ![2]⟩
abbrev S1x2 : Shape := ⟨2, ![1, 2]⟩
abbrev S32x2 : Shape := ⟨2, ![32, 2]⟩
abbrev S64 : Shape := ⟨1, ![64]⟩
abbrev S128 : Shape := ⟨1, ![128]⟩
abbrev S64x1 : Shape := ⟨2, ![64, 1]⟩
abbrev S2048x128 : Shape := ⟨2, ![2048, 128]⟩
abbrev S2048 : Shape := ⟨1, ![2048]⟩
abbrev S2048x1 : Shape := ⟨2, ![2048, 1]⟩
abbrev S2048x2x1 : Shape := ⟨3, ![2048, 2, 1]⟩
abbrev S1x1x1 : Shape := ⟨3, ![1, 1, 1]⟩
abbrev S4096 : Shape := ⟨1, ![4096]⟩
abbrev S4096x1 : Shape := ⟨2, ![4096, 1]⟩
abbrev S4095 : Shape := ⟨1, ![4095]⟩
abbrev S8192x512 : Shape := ⟨2, ![8192, 512]⟩
abbrev S4096x512 : Shape := ⟨2, ![4096, 512]⟩
abbrev S8192x1024 : Shape := ⟨2, ![8192, 1024]⟩
abbrev S2x2x512x1024 : Shape := ⟨4, ![2, 2, 512, 1024]⟩
abbrev S2x512x1024 : Shape := ⟨3, ![2, 512, 1024]⟩
abbrev S1x2x512x1024 : Shape := ⟨4, ![1, 2, 512, 1024]⟩
abbrev S64x512 : Shape := ⟨2, ![64, 512]⟩
abbrev S1x1x512x1024 : Shape := ⟨4, ![1, 1, 512, 1024]⟩
abbrev S512x1024 : Shape := ⟨2, ![512, 1024]⟩
abbrev S64x1024 : Shape := ⟨2, ![64, 1024]⟩
abbrev S1x1 : Shape := ⟨2, ![1, 1]⟩
abbrev S2048x1024 : Shape := ⟨2, ![2048, 1024]⟩

abbrev nBuf : Space → Nat
  | .hbm => 358
  | .vmem => 5
  | .smem => 2
  | _ => 0

abbrev hbmTy0_0 (i : Nat) : BufTy := match i % 128 with
  | 0 => ⟨S2048x512, .f32⟩
  | 1 => ⟨S512x128, .f32⟩
  | 2 => ⟨S2048x2, .i32⟩
  | 3 => ⟨S4x512x1024, .f32⟩
  | 4 => ⟨S32, .i32⟩
  | 5 => ⟨S32, .i32⟩
  | 6 => ⟨S32, .i32⟩
  | 7 => ⟨S32, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S_, .i32⟩
  | 19 => ⟨S1, .i32⟩
  | 20 => ⟨S_, .i32⟩
  | 21 => ⟨S32, .i32⟩
  | 22 => ⟨S32, .i32⟩
  | 23 => ⟨S32, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S32, .i32⟩
  | 31 => ⟨S32, .i32⟩
  | 32 => ⟨S_, .i32⟩
  | 33 => ⟨S32, .i32⟩
  | 34 => ⟨S32, .i1⟩
  | 35 => ⟨S_, .i32⟩
  | 36 => ⟨S32, .i32⟩
  | 37 => ⟨S32, .i1⟩
  | 38 => ⟨S_, .i32⟩
  | 39 => ⟨S_, .i1⟩
  | 40 => ⟨S32, .i1⟩
  | 41 => ⟨S32, .i1⟩
  | 42 => ⟨S32, .i1⟩
  | 43 => ⟨S32, .i32⟩
  | 44 => ⟨S32, .i32⟩
  | 45 => ⟨S32, .i32⟩
  | 46 => ⟨S_, .i32⟩
  | 47 => ⟨S32, .i32⟩
  | 48 => ⟨S32, .i1⟩
  | 49 => ⟨S_, .i32⟩
  | 50 => ⟨S32, .i32⟩
  | 51 => ⟨S32, .i32⟩
  | 52 => ⟨S32, .i32⟩
  | 53 => ⟨S32x1, .i32⟩
  | 54 => ⟨S32, .i32⟩
  | 55 => ⟨S32, .i32⟩
  | 56 => ⟨S32, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S32, .i32⟩
  | 64 => ⟨S32, .i32⟩
  | 65 => ⟨S_, .i32⟩
  | 66 => ⟨S32, .i32⟩
  | 67 => ⟨S32, .i1⟩
  | 68 => ⟨S_, .i32⟩
  | 69 => ⟨S32, .i32⟩
  | 70 => ⟨S32, .i1⟩
  | 71 => ⟨S_, .i32⟩
  | 72 => ⟨S_, .i1⟩
  | 73 => ⟨S32, .i1⟩
  | 74 => ⟨S32, .i1⟩
  | 75 => ⟨S32, .i1⟩
  | 76 => ⟨S32, .i32⟩
  | 77 => ⟨S32, .i32⟩
  | 78 => ⟨S32, .i32⟩
  | 79 => ⟨S_, .i32⟩
  | 80 => ⟨S32, .i32⟩
  | 81 => ⟨S32, .i1⟩
  | 82 => ⟨S_, .i32⟩
  | 83 => ⟨S32, .i32⟩
  | 84 => ⟨S32, .i32⟩
  | 85 => ⟨S32, .i32⟩
  | 86 => ⟨S32x1, .i32⟩
  | 87 => ⟨S32, .i32⟩
  | 88 => ⟨S_, .i32⟩
  | 89 => ⟨S_, .i1⟩
  | 90 => ⟨S_, .i32⟩
  | 91 => ⟨S_, .i32⟩
  | 92 => ⟨S_, .i32⟩
  | 93 => ⟨S1, .i32⟩
  | 94 => ⟨S_, .i32⟩
  | 95 => ⟨S1, .i32⟩
  | 96 => ⟨S_, .i32⟩
  | 97 => ⟨S_, .i1⟩
  | 98 => ⟨S_, .i32⟩
  | 99 => ⟨S_, .i32⟩
  | 100 => ⟨S_, .i32⟩
  | 101 => ⟨S1, .i32⟩
  | 102 => ⟨S_, .i32⟩
  | 103 => ⟨S1, .i32⟩
  | 104 => ⟨S2, .i32⟩
  | 105 => ⟨S32x1, .i32⟩
  | 106 => ⟨S_, .i32⟩
  | 107 => ⟨S32x1, .i32⟩
  | 108 => ⟨S32x1, .i32⟩
  | 109 => ⟨S1x2, .i32⟩
  | 110 => ⟨S32x2, .i32⟩
  | 111 => ⟨S32x2, .i32⟩
  | 112 => ⟨S32x2, .i32⟩
  | 113 => ⟨S64, .i32⟩
  | 114 => ⟨S32x1, .i32⟩
  | 115 => ⟨S_, .i32⟩
  | 116 => ⟨S32x1, .i32⟩
  | 117 => ⟨S32x1, .i32⟩
  | 118 => ⟨S_, .i32⟩
  | 119 => ⟨S32x1, .i32⟩
  | 120 => ⟨S32x1, .i32⟩
  | 121 => ⟨S1x2, .i32⟩
  | 122 => ⟨S32x2, .i32⟩
  | 123 => ⟨S32x2, .i32⟩
  | 124 => ⟨S32x2, .i32⟩
  | 125 => ⟨S64, .i32⟩
  | 126 => ⟨S32x1, .i32⟩
  | 127 => ⟨S_, .i32⟩
  | _ => ⟨S2048x512, .f32⟩

abbrev hbmTy0_1 (i : Nat) : BufTy := match i % 128 with
  | 0 => ⟨S32x1, .i32⟩
  | 1 => ⟨S32x1, .i32⟩
  | 2 => ⟨S1x2, .i32⟩
  | 3 => ⟨S32x2, .i32⟩
  | 4 => ⟨S32x2, .i32⟩
  | 5 => ⟨S32x2, .i32⟩
  | 6 => ⟨S_, .i32⟩
  | 7 => ⟨S32x2, .i32⟩
  | 8 => ⟨S32x2, .i32⟩
  | 9 => ⟨S64, .i32⟩
  | 10 => ⟨S_, .i32⟩
  | 11 => ⟨S128, .i32⟩
  | 12 => ⟨S_, .i32⟩
  | 13 => ⟨S64, .i32⟩
  | 14 => ⟨S64, .i1⟩
  | 15 => ⟨S_, .i32⟩
  | 16 => ⟨S64, .i32⟩
  | 17 => ⟨S64, .i32⟩
  | 18 => ⟨S64, .i32⟩
  | 19 => ⟨S64x1, .i32⟩
  | 20 => ⟨S128, .i32⟩
  | 21 => ⟨S_, .i32⟩
  | 22 => ⟨S64, .i32⟩
  | 23 => ⟨S64, .i32⟩
  | 24 => ⟨S_, .i32⟩
  | 25 => ⟨S64, .i32⟩
  | 26 => ⟨S64, .i1⟩
  | 27 => ⟨S_, .i32⟩
  | 28 => ⟨S64, .i32⟩
  | 29 => ⟨S64, .i32⟩
  | 30 => ⟨S64, .i32⟩
  | 31 => ⟨S64x1, .i32⟩
  | 32 => ⟨S128, .i32⟩
  | 33 => ⟨S2048x128, .f32⟩
  | 34 => ⟨S_, .f32⟩
  | 35 => ⟨S2048, .f32⟩
  | 36 => ⟨S_, .f32⟩
  | 37 => ⟨S2048, .f32⟩
  | 38 => ⟨S2048, .f32⟩
  | 39 => ⟨S2048x1, .f32⟩
  | 40 => ⟨S2048x128, .f32⟩
  | 41 => ⟨S2048x128, .f32⟩
  | 42 => ⟨S2048x128, .f32⟩
  | 43 => ⟨S_, .f32⟩
  | 44 => ⟨S2048, .f32⟩
  | 45 => ⟨S2048x1, .f32⟩
  | 46 => ⟨S2048x128, .f32⟩
  | 47 => ⟨S2048x128, .f32⟩
  | 48 => ⟨S_, .i32⟩
  | 49 => ⟨S2048x2, .i32⟩
  | 50 => ⟨S2048x2, .i1⟩
  | 51 => ⟨S_, .i32⟩
  | 52 => ⟨S2048x2, .i32⟩
  | 53 => ⟨S2048x2, .i32⟩
  | 54 => ⟨S2048x2, .i32⟩
  | 55 => ⟨S2048x2x1, .i32⟩
  | 56 => ⟨S1, .i32⟩
  | 57 => ⟨S_, .i32⟩
  | 58 => ⟨S2048x2x1, .i32⟩
  | 59 => ⟨S2048x2x1, .i1⟩
  | 60 => ⟨S1x1x1, .i32⟩
  | 61 => ⟨S2048x2x1, .i32⟩
  | 62 => ⟨S2048x2x1, .i1⟩
  | 63 => ⟨S2048x2x1, .i1⟩
  | 64 => ⟨S_, .i1⟩
  | 65 => ⟨S2048x2, .i1⟩
  | 66 => ⟨S2048x2, .f32⟩
  | 67 => ⟨S_, .f32⟩
  | 68 => ⟨S2048x2, .f32⟩
  | 69 => ⟨S2048x2, .f32⟩
  | 70 => ⟨S_, .f32⟩
  | 71 => ⟨S2048, .f32⟩
  | 72 => ⟨S2048x1, .f32⟩
  | 73 => ⟨S2048x2, .f32⟩
  | 74 => ⟨S2048x2, .f32⟩
  | 75 => ⟨S4096, .i32⟩
  | 76 => ⟨S2048, .i32⟩
  | 77 => ⟨S2048x2, .i32⟩
  | 78 => ⟨S4096, .i32⟩
  | 79 => ⟨S4096, .f32⟩
  | 80 => ⟨S4096, .i32⟩
  | 81 => ⟨S4096, .i32⟩
  | 82 => ⟨S4096, .i32⟩
  | 83 => ⟨S_, .i32⟩
  | 84 => ⟨S4096, .i32⟩
  | 85 => ⟨S4096, .i1⟩
  | 86 => ⟨S_, .i32⟩
  | 87 => ⟨S4096, .i32⟩
  | 88 => ⟨S4096, .i32⟩
  | 89 => ⟨S4096, .i32⟩
  | 90 => ⟨S4096x1, .i32⟩
  | 91 => ⟨S4096, .i32⟩
  | 92 => ⟨S_, .i32⟩
  | 93 => ⟨S4096, .i32⟩
  | 94 => ⟨S4096, .i1⟩
  | 95 => ⟨S_, .i32⟩
  | 96 => ⟨S4096, .i32⟩
  | 97 => ⟨S4096, .i32⟩
  | 98 => ⟨S4096, .i32⟩
  | 99 => ⟨S4096x1, .i32⟩
  | 100 => ⟨S4096, .i32⟩
  | 101 => ⟨S_, .i32⟩
  | 102 => ⟨S4096, .i32⟩
  | 103 => ⟨S4096, .i1⟩
  | 104 => ⟨S_, .i32⟩
  | 105 => ⟨S4096, .i32⟩
  | 106 => ⟨S4096, .i32⟩
  | 107 => ⟨S4096, .i32⟩
  | 108 => ⟨S4096x1, .i32⟩
  | 109 => ⟨S4096, .f32⟩
  | 110 => ⟨S4096, .i32⟩
  | 111 => ⟨S_, .i1⟩
  | 112 => ⟨S1, .i1⟩
  | 113 => ⟨S4095, .i32⟩
  | 114 => ⟨S4095, .i32⟩
  | 115 => ⟨S4095, .i1⟩
  | 116 => ⟨S4096, .i1⟩
  | 117 => ⟨S_, .i32⟩
  | 118 => ⟨S_, .i32⟩
  | 119 => ⟨S4096, .i32⟩
  | 120 => ⟨S4096, .i32⟩
  | 121 => ⟨S_, .i32⟩
  | 122 => ⟨S_, .i32⟩
  | 123 => ⟨S4096, .i32⟩
  | 124 => ⟨S4096, .i32⟩
  | 125 => ⟨S_, .i32⟩
  | 126 => ⟨S4096, .i32⟩
  | 127 => ⟨S4096, .i1⟩
  | _ => ⟨S2048x512, .f32⟩

abbrev hbmTy0_2 (i : Nat) : BufTy := match i % 128 with
  | 0 => ⟨S_, .i32⟩
  | 1 => ⟨S4096, .i32⟩
  | 2 => ⟨S4096, .i1⟩
  | 3 => ⟨S_, .i32⟩
  | 4 => ⟨S4096, .i32⟩
  | 5 => ⟨S4096, .i32⟩
  | 6 => ⟨S4096, .i32⟩
  | 7 => ⟨S4096x1, .i32⟩
  | 8 => ⟨S4096, .i32⟩
  | 9 => ⟨S4096, .i32⟩
  | 10 => ⟨S_, .i32⟩
  | 11 => ⟨S_, .i32⟩
  | 12 => ⟨S4096, .i32⟩
  | 13 => ⟨S4096, .i32⟩
  | 14 => ⟨S_, .bf16⟩
  | 15 => ⟨S8192x512, .bf16⟩
  | 16 => ⟨S_, .i32⟩
  | 17 => ⟨S4096, .i32⟩
  | 18 => ⟨S4096, .i1⟩
  | 19 => ⟨S_, .i32⟩
  | 20 => ⟨S4096, .i32⟩
  | 21 => ⟨S4096, .i32⟩
  | 22 => ⟨S4096, .i32⟩
  | 23 => ⟨S4096x1, .i32⟩
  | 24 => ⟨S4096x512, .f32⟩
  | 25 => ⟨S4096x1, .f32⟩
  | 26 => ⟨S4096x512, .f32⟩
  | 27 => ⟨S4096x512, .f32⟩
  | 28 => ⟨S4096x512, .bf16⟩
  | 29 => ⟨S_, .i32⟩
  | 30 => ⟨S4096, .i32⟩
  | 31 => ⟨S4096, .i1⟩
  | 32 => ⟨S_, .i32⟩
  | 33 => ⟨S4096, .i32⟩
  | 34 => ⟨S4096, .i32⟩
  | 35 => ⟨S4096, .i32⟩
  | 36 => ⟨S4096x1, .i32⟩
  | 37 => ⟨S8192x512, .bf16⟩
  | 38 => ⟨S4x512x1024, .bf16⟩
  | 39 => ⟨S8192x1024, .bf16⟩
  | 40 => ⟨S_, .i32⟩
  | 41 => ⟨S4096, .i32⟩
  | 42 => ⟨S_, .i32⟩
  | 43 => ⟨S4096, .i32⟩
  | 44 => ⟨S4096, .i1⟩
  | 45 => ⟨S_, .i32⟩
  | 46 => ⟨S4096, .i32⟩
  | 47 => ⟨S4096, .i32⟩
  | 48 => ⟨S4096, .i32⟩
  | 49 => ⟨S4096x1, .i32⟩
  | 50 => ⟨S4096, .i32⟩
  | 51 => ⟨S2048, .i32⟩
  | 52 => ⟨S_, .i32⟩
  | 53 => ⟨S2048, .i32⟩
  | 54 => ⟨S2048, .i1⟩
  | 55 => ⟨S_, .i32⟩
  | 56 => ⟨S2048, .i32⟩
  | 57 => ⟨S2048, .i32⟩
  | 58 => ⟨S2048, .i32⟩
  | 59 => ⟨S2048x1, .i32⟩
  | 60 => ⟨S1, .i32⟩
  | 61 => ⟨S_, .i32⟩
  | 62 => ⟨S2048x1, .i32⟩
  | 63 => ⟨S2048x1, .i1⟩
  | 64 => ⟨S1x1, .i32⟩
  | 65 => ⟨S2048x1, .i32⟩
  | 66 => ⟨S2048x1, .i1⟩
  | 67 => ⟨S2048x1, .i1⟩
  | 68 => ⟨S_, .i1⟩
  | 69 => ⟨S2048, .i1⟩
  | 70 => ⟨S2048x1024, .bf16⟩
  | 71 => ⟨S2048x1024, .i1⟩
  | 72 => ⟨S_, .bf16⟩
  | 73 => ⟨S2048x1024, .bf16⟩
  | 74 => ⟨S2048x1024, .bf16⟩
  | 75 => ⟨S2048, .i32⟩
  | 76 => ⟨S_, .i32⟩
  | 77 => ⟨S2048, .i32⟩
  | 78 => ⟨S2048, .i1⟩
  | 79 => ⟨S_, .i32⟩
  | 80 => ⟨S2048, .i32⟩
  | 81 => ⟨S2048, .i32⟩
  | 82 => ⟨S2048, .i32⟩
  | 83 => ⟨S2048x1, .i32⟩
  | 84 => ⟨S1, .i32⟩
  | 85 => ⟨S_, .i32⟩
  | 86 => ⟨S2048x1, .i32⟩
  | 87 => ⟨S2048x1, .i1⟩
  | 88 => ⟨S1x1, .i32⟩
  | 89 => ⟨S2048x1, .i32⟩
  | 90 => ⟨S2048x1, .i1⟩
  | 91 => ⟨S2048x1, .i1⟩
  | 92 => ⟨S_, .i1⟩
  | 93 => ⟨S2048, .i1⟩
  | 94 => ⟨S2048x1024, .bf16⟩
  | 95 => ⟨S2048x1024, .i1⟩
  | 96 => ⟨S_, .bf16⟩
  | 97 => ⟨S2048x1024, .bf16⟩
  | 98 => ⟨S2048x1024, .bf16⟩
  | 99 => ⟨S2048x1024, .f32⟩
  | 100 => ⟨S2048x1024, .f32⟩
  | 101 => ⟨S2048x1024, .f32⟩
  | _ => ⟨S2048x512, .f32⟩

abbrev hbmTy (i : Nat) : BufTy := match i / 128 with
  | 0 => hbmTy0_0 i
  | 1 => hbmTy0_1 i
  | 2 => hbmTy0_2 i
  | _ => ⟨S2048x512, .f32⟩

abbrev bufTy : (tb : Table) → Fin (tcTables nBuf tb) → BufTy
  | .hbm, ⟨i, _⟩ => hbmTy i
  | .local _ .vmem, ⟨0, _⟩ => ⟨S8192x512, .bf16⟩
  | .local _ .vmem, ⟨1, _⟩ => ⟨S4x512x1024, .bf16⟩
  | .local _ .vmem, ⟨2, _⟩ => ⟨S8192x1024, .bf16⟩
  | .local _ .vmem, ⟨3, _⟩ => ⟨S2x2x512x1024, .bf16⟩
  | .local _ .vmem, ⟨4, _⟩ => ⟨S2x2x512x1024, .bf16⟩
  | .local _ .smem, ⟨0, _⟩ => ⟨S1, .i32⟩
  | .local _ .smem, ⟨1, _⟩ => ⟨S1, .i32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 3 → Bool
  | ⟨0, _⟩ => true
  | ⟨1, _⟩ => true
  | ⟨2, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 3 13 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_c_4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_5 : Ref sig .tc := ⟨.hbm, 14, rfl⟩
abbrev main_v5 : Ref sig .tc := ⟨.hbm, 15, rfl⟩
abbrev main_c_6 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_7 : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_c_1 : Ref sig .tc := ⟨.hbm, 32, rfl⟩
abbrev main_call0_v5 : Ref sig .tc := ⟨.hbm, 33, rfl⟩
abbrev main_call0_v6 : Ref sig .tc := ⟨.hbm, 34, rfl⟩
abbrev main_call0_c_2 : Ref sig .tc := ⟨.hbm, 35, rfl⟩
abbrev main_call0_v7 : Ref sig .tc := ⟨.hbm, 36, rfl⟩
abbrev main_call0_v8 : Ref sig .tc := ⟨.hbm, 37, rfl⟩
abbrev main_call0_c_3 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_v13 : Ref sig .tc := ⟨.hbm, 45, rfl⟩
abbrev main_c_8 : Ref sig .tc := ⟨.hbm, 46, rfl⟩
abbrev main_v14 : Ref sig .tc := ⟨.hbm, 47, rfl⟩
abbrev main_v15 : Ref sig .tc := ⟨.hbm, 48, rfl⟩
abbrev main_c_9 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_c_10 : Ref sig .tc := ⟨.hbm, 57, rfl⟩
abbrev main_call1_v0 : Ref sig .tc := ⟨.hbm, 58, rfl⟩
abbrev main_call1_c : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_c_1 : Ref sig .tc := ⟨.hbm, 65, rfl⟩
abbrev main_call1_v5 : Ref sig .tc := ⟨.hbm, 66, rfl⟩
abbrev main_call1_v6 : Ref sig .tc := ⟨.hbm, 67, rfl⟩
abbrev main_call1_c_2 : Ref sig .tc := ⟨.hbm, 68, rfl⟩
abbrev main_call1_v7 : Ref sig .tc := ⟨.hbm, 69, rfl⟩
abbrev main_call1_v8 : Ref sig .tc := ⟨.hbm, 70, rfl⟩
abbrev main_call1_c_3 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_v23 : Ref sig .tc := ⟨.hbm, 78, rfl⟩
abbrev main_c_11 : Ref sig .tc := ⟨.hbm, 79, rfl⟩
abbrev main_v24 : Ref sig .tc := ⟨.hbm, 80, rfl⟩
abbrev main_v25 : Ref sig .tc := ⟨.hbm, 81, rfl⟩
abbrev main_c_12 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_c_13 : Ref sig .tc := ⟨.hbm, 88, rfl⟩
abbrev main_v31 : Ref sig .tc := ⟨.hbm, 89, rfl⟩
abbrev main_c_14 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_c_15 : Ref sig .tc := ⟨.hbm, 96, rfl⟩
abbrev main_v37 : Ref sig .tc := ⟨.hbm, 97, rfl⟩
abbrev main_c_16 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_c_17 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_c_18 : Ref sig .tc := ⟨.hbm, 115, rfl⟩
abbrev main_v53 : Ref sig .tc := ⟨.hbm, 116, rfl⟩
abbrev main_v54 : Ref sig .tc := ⟨.hbm, 117, rfl⟩
abbrev main_c_19 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_c_20 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_c_21 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_c_22 : Ref sig .tc := ⟨.hbm, 138, rfl⟩
abbrev main_v72 : Ref sig .tc := ⟨.hbm, 139, rfl⟩
abbrev main_c_23 : Ref sig .tc := ⟨.hbm, 140, rfl⟩
abbrev main_v73 : Ref sig .tc := ⟨.hbm, 141, rfl⟩
abbrev main_v74 : Ref sig .tc := ⟨.hbm, 142, rfl⟩
abbrev main_c_24 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_c_25 : Ref sig .tc := ⟨.hbm, 149, rfl⟩
abbrev main_v80 : Ref sig .tc := ⟨.hbm, 150, rfl⟩
abbrev main_v81 : Ref sig .tc := ⟨.hbm, 151, rfl⟩
abbrev main_c_26 : Ref sig .tc := ⟨.hbm, 152, rfl⟩
abbrev main_v82 : Ref sig .tc := ⟨.hbm, 153, rfl⟩
abbrev main_v83 : Ref sig .tc := ⟨.hbm, 154, rfl⟩
abbrev main_c_27 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_cst : Ref sig .tc := ⟨.hbm, 162, rfl⟩
abbrev main_v90 : Ref sig .tc := ⟨.hbm, 163, rfl⟩
abbrev main_cst_28 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_cst_29 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_call2_c : Ref sig .tc := ⟨.hbm, 176, rfl⟩
abbrev main_call2_v0 : Ref sig .tc := ⟨.hbm, 177, rfl⟩
abbrev main_call2_v1 : Ref sig .tc := ⟨.hbm, 178, rfl⟩
abbrev main_call2_c_0 : Ref sig .tc := ⟨.hbm, 179, rfl⟩
abbrev main_call2_v2 : Ref sig .tc := ⟨.hbm, 180, rfl⟩
abbrev main_call2_v3 : Ref sig .tc := ⟨.hbm, 181, rfl⟩
abbrev main_call2_v4 : Ref sig .tc := ⟨.hbm, 182, rfl⟩
abbrev main_call2_v5 : Ref sig .tc := ⟨.hbm, 183, rfl⟩
abbrev main_call2_c_1 : Ref sig .tc := ⟨.hbm, 184, rfl⟩
abbrev main_call2_c_2 : Ref sig .tc := ⟨.hbm, 185, rfl⟩
abbrev main_call2_v6 : Ref sig .tc := ⟨.hbm, 186, rfl⟩
abbrev main_call2_v7 : Ref sig .tc := ⟨.hbm, 187, rfl⟩
abbrev main_call2_v8 : Ref sig .tc := ⟨.hbm, 188, rfl⟩
abbrev main_call2_v9 : Ref sig .tc := ⟨.hbm, 189, rfl⟩
abbrev main_call2_v10 : Ref sig .tc := ⟨.hbm, 190, rfl⟩
abbrev main_call2_v11 : Ref sig .tc := ⟨.hbm, 191, rfl⟩
abbrev main_call2_c_3 : Ref sig .tc := ⟨.hbm, 192, rfl⟩
abbrev main_call2_v12 : Ref sig .tc := ⟨.hbm, 193, rfl⟩
abbrev main_call2_v13 : Ref sig .tc := ⟨.hbm, 194, rfl⟩
abbrev main_call2_cst : Ref sig .tc := ⟨.hbm, 195, rfl⟩
abbrev main_call2_v14 : Ref sig .tc := ⟨.hbm, 196, rfl⟩
abbrev main_v101 : Ref sig .tc := ⟨.hbm, 197, rfl⟩
abbrev main_cst_30 : Ref sig .tc := ⟨.hbm, 198, rfl⟩
abbrev main_v102 : Ref sig .tc := ⟨.hbm, 199, rfl⟩
abbrev main_v103 : Ref sig .tc := ⟨.hbm, 200, rfl⟩
abbrev main_v104 : Ref sig .tc := ⟨.hbm, 201, rfl⟩
abbrev main_v105 : Ref sig .tc := ⟨.hbm, 202, rfl⟩
abbrev main_v106 : Ref sig .tc := ⟨.hbm, 203, rfl⟩
abbrev main_v107 : Ref sig .tc := ⟨.hbm, 204, rfl⟩
abbrev main_v108 : Ref sig .tc := ⟨.hbm, 205, rfl⟩
abbrev main_v109 : Ref sig .tc := ⟨.hbm, 206, rfl⟩
abbrev main_v110 : Ref sig .tc := ⟨.hbm, 207, rfl⟩
abbrev main_call3_v0 : Ref sig .tc := ⟨.hbm, 208, rfl⟩
abbrev main_call3_v1_0 : Ref sig .tc := ⟨.hbm, 209, rfl⟩
abbrev main_v111 : Ref sig .tc := ⟨.hbm, 210, rfl⟩
abbrev main_c_31 : Ref sig .tc := ⟨.hbm, 211, rfl⟩
abbrev main_v112 : Ref sig .tc := ⟨.hbm, 212, rfl⟩
abbrev main_v113 : Ref sig .tc := ⟨.hbm, 213, rfl⟩
abbrev main_c_32 : Ref sig .tc := ⟨.hbm, 214, rfl⟩
abbrev main_v114 : Ref sig .tc := ⟨.hbm, 215, rfl⟩
abbrev main_v115 : Ref sig .tc := ⟨.hbm, 216, rfl⟩
abbrev main_v116 : Ref sig .tc := ⟨.hbm, 217, rfl⟩
abbrev main_v117 : Ref sig .tc := ⟨.hbm, 218, rfl⟩
abbrev main_v118 : Ref sig .tc := ⟨.hbm, 219, rfl⟩
abbrev main_c_33 : Ref sig .tc := ⟨.hbm, 220, rfl⟩
abbrev main_v119 : Ref sig .tc := ⟨.hbm, 221, rfl⟩
abbrev main_v120 : Ref sig .tc := ⟨.hbm, 222, rfl⟩
abbrev main_c_34 : Ref sig .tc := ⟨.hbm, 223, rfl⟩
abbrev main_v121 : Ref sig .tc := ⟨.hbm, 224, rfl⟩
abbrev main_v122 : Ref sig .tc := ⟨.hbm, 225, rfl⟩
abbrev main_v123 : Ref sig .tc := ⟨.hbm, 226, rfl⟩
abbrev main_v124 : Ref sig .tc := ⟨.hbm, 227, rfl⟩
abbrev main_v125 : Ref sig .tc := ⟨.hbm, 228, rfl⟩
abbrev main_c_35 : Ref sig .tc := ⟨.hbm, 229, rfl⟩
abbrev main_v126 : Ref sig .tc := ⟨.hbm, 230, rfl⟩
abbrev main_v127 : Ref sig .tc := ⟨.hbm, 231, rfl⟩
abbrev main_c_36 : Ref sig .tc := ⟨.hbm, 232, rfl⟩
abbrev main_v128 : Ref sig .tc := ⟨.hbm, 233, rfl⟩
abbrev main_v129 : Ref sig .tc := ⟨.hbm, 234, rfl⟩
abbrev main_v130 : Ref sig .tc := ⟨.hbm, 235, rfl⟩
abbrev main_v131 : Ref sig .tc := ⟨.hbm, 236, rfl⟩
abbrev main_v132 : Ref sig .tc := ⟨.hbm, 237, rfl⟩
abbrev main_v133 : Ref sig .tc := ⟨.hbm, 238, rfl⟩
abbrev main_c_37 : Ref sig .tc := ⟨.hbm, 239, rfl⟩
abbrev main_v134 : Ref sig .tc := ⟨.hbm, 240, rfl⟩
abbrev main_v135 : Ref sig .tc := ⟨.hbm, 241, rfl⟩
abbrev main_v136 : Ref sig .tc := ⟨.hbm, 242, rfl⟩
abbrev main_v137 : Ref sig .tc := ⟨.hbm, 243, rfl⟩
abbrev main_v138 : Ref sig .tc := ⟨.hbm, 244, rfl⟩
abbrev main_c_38 : Ref sig .tc := ⟨.hbm, 245, rfl⟩
abbrev main_call4_v0 : Ref sig .tc := ⟨.hbm, 246, rfl⟩
abbrev main_call4_v1 : Ref sig .tc := ⟨.hbm, 247, rfl⟩
abbrev main_v139 : Ref sig .tc := ⟨.hbm, 248, rfl⟩
abbrev main_call5_c : Ref sig .tc := ⟨.hbm, 249, rfl⟩
abbrev main_call5_v0 : Ref sig .tc := ⟨.hbm, 250, rfl⟩
abbrev main_v140 : Ref sig .tc := ⟨.hbm, 251, rfl⟩
abbrev main_v141 : Ref sig .tc := ⟨.hbm, 252, rfl⟩
abbrev main_c_39 : Ref sig .tc := ⟨.hbm, 253, rfl⟩
abbrev main_v142 : Ref sig .tc := ⟨.hbm, 254, rfl⟩
abbrev main_v143 : Ref sig .tc := ⟨.hbm, 255, rfl⟩
abbrev main_c_40 : Ref sig .tc := ⟨.hbm, 256, rfl⟩
abbrev main_v144 : Ref sig .tc := ⟨.hbm, 257, rfl⟩
abbrev main_v145 : Ref sig .tc := ⟨.hbm, 258, rfl⟩
abbrev main_c_41 : Ref sig .tc := ⟨.hbm, 259, rfl⟩
abbrev main_v146 : Ref sig .tc := ⟨.hbm, 260, rfl⟩
abbrev main_v147 : Ref sig .tc := ⟨.hbm, 261, rfl⟩
abbrev main_v148 : Ref sig .tc := ⟨.hbm, 262, rfl⟩
abbrev main_v149 : Ref sig .tc := ⟨.hbm, 263, rfl⟩
abbrev main_v150 : Ref sig .tc := ⟨.hbm, 264, rfl⟩
abbrev main_v151 : Ref sig .tc := ⟨.hbm, 265, rfl⟩
abbrev main_c_42 : Ref sig .tc := ⟨.hbm, 266, rfl⟩
abbrev main_call6_v0 : Ref sig .tc := ⟨.hbm, 267, rfl⟩
abbrev main_call6_v1 : Ref sig .tc := ⟨.hbm, 268, rfl⟩
abbrev main_v152 : Ref sig .tc := ⟨.hbm, 269, rfl⟩
abbrev main_cst_43 : Ref sig .tc := ⟨.hbm, 270, rfl⟩
abbrev main_v153 : Ref sig .tc := ⟨.hbm, 271, rfl⟩
abbrev main_c_44 : Ref sig .tc := ⟨.hbm, 272, rfl⟩
abbrev main_v154 : Ref sig .tc := ⟨.hbm, 273, rfl⟩
abbrev main_v155 : Ref sig .tc := ⟨.hbm, 274, rfl⟩
abbrev main_c_45 : Ref sig .tc := ⟨.hbm, 275, rfl⟩
abbrev main_v156 : Ref sig .tc := ⟨.hbm, 276, rfl⟩
abbrev main_v157 : Ref sig .tc := ⟨.hbm, 277, rfl⟩
abbrev main_v158 : Ref sig .tc := ⟨.hbm, 278, rfl⟩
abbrev main_v159 : Ref sig .tc := ⟨.hbm, 279, rfl⟩
abbrev main_v160 : Ref sig .tc := ⟨.hbm, 280, rfl⟩
abbrev main_v161 : Ref sig .tc := ⟨.hbm, 281, rfl⟩
abbrev main_v162 : Ref sig .tc := ⟨.hbm, 282, rfl⟩
abbrev main_v163 : Ref sig .tc := ⟨.hbm, 283, rfl⟩
abbrev main_v164 : Ref sig .tc := ⟨.hbm, 284, rfl⟩
abbrev main_c_46 : Ref sig .tc := ⟨.hbm, 285, rfl⟩
abbrev main_v165 : Ref sig .tc := ⟨.hbm, 286, rfl⟩
abbrev main_v166 : Ref sig .tc := ⟨.hbm, 287, rfl⟩
abbrev main_c_47 : Ref sig .tc := ⟨.hbm, 288, rfl⟩
abbrev main_v167 : Ref sig .tc := ⟨.hbm, 289, rfl⟩
abbrev main_v168 : Ref sig .tc := ⟨.hbm, 290, rfl⟩
abbrev main_v169 : Ref sig .tc := ⟨.hbm, 291, rfl⟩
abbrev main_v170 : Ref sig .tc := ⟨.hbm, 292, rfl⟩
abbrev main_v171 : Ref sig .tc := ⟨.hbm, 293, rfl⟩
abbrev main_v172 : Ref sig .tc := ⟨.hbm, 294, rfl⟩
abbrev main_v173 : Ref sig .tc := ⟨.hbm, 295, rfl⟩
abbrev main_c_48 : Ref sig .tc := ⟨.hbm, 296, rfl⟩
abbrev main_v174 : Ref sig .tc := ⟨.hbm, 297, rfl⟩
abbrev main_c_49 : Ref sig .tc := ⟨.hbm, 298, rfl⟩
abbrev main_v175 : Ref sig .tc := ⟨.hbm, 299, rfl⟩
abbrev main_v176 : Ref sig .tc := ⟨.hbm, 300, rfl⟩
abbrev main_c_50 : Ref sig .tc := ⟨.hbm, 301, rfl⟩
abbrev main_v177 : Ref sig .tc := ⟨.hbm, 302, rfl⟩
abbrev main_v178 : Ref sig .tc := ⟨.hbm, 303, rfl⟩
abbrev main_v179 : Ref sig .tc := ⟨.hbm, 304, rfl⟩
abbrev main_v180 : Ref sig .tc := ⟨.hbm, 305, rfl⟩
abbrev main_v181 : Ref sig .tc := ⟨.hbm, 306, rfl⟩
abbrev main_v182 : Ref sig .tc := ⟨.hbm, 307, rfl⟩
abbrev main_call7_c : Ref sig .tc := ⟨.hbm, 308, rfl⟩
abbrev main_call7_v0 : Ref sig .tc := ⟨.hbm, 309, rfl⟩
abbrev main_call7_v1 : Ref sig .tc := ⟨.hbm, 310, rfl⟩
abbrev main_call7_c_0 : Ref sig .tc := ⟨.hbm, 311, rfl⟩
abbrev main_call7_v2 : Ref sig .tc := ⟨.hbm, 312, rfl⟩
abbrev main_call7_v3 : Ref sig .tc := ⟨.hbm, 313, rfl⟩
abbrev main_call7_v4 : Ref sig .tc := ⟨.hbm, 314, rfl⟩
abbrev main_call7_v5 : Ref sig .tc := ⟨.hbm, 315, rfl⟩
abbrev main_call7_c_1 : Ref sig .tc := ⟨.hbm, 316, rfl⟩
abbrev main_call7_c_2 : Ref sig .tc := ⟨.hbm, 317, rfl⟩
abbrev main_call7_v6 : Ref sig .tc := ⟨.hbm, 318, rfl⟩
abbrev main_call7_v7 : Ref sig .tc := ⟨.hbm, 319, rfl⟩
abbrev main_call7_v8 : Ref sig .tc := ⟨.hbm, 320, rfl⟩
abbrev main_call7_v9 : Ref sig .tc := ⟨.hbm, 321, rfl⟩
abbrev main_call7_v10 : Ref sig .tc := ⟨.hbm, 322, rfl⟩
abbrev main_call7_v11 : Ref sig .tc := ⟨.hbm, 323, rfl⟩
abbrev main_call7_c_3 : Ref sig .tc := ⟨.hbm, 324, rfl⟩
abbrev main_call7_v12 : Ref sig .tc := ⟨.hbm, 325, rfl⟩
abbrev main_call7_v13 : Ref sig .tc := ⟨.hbm, 326, rfl⟩
abbrev main_call7_v14 : Ref sig .tc := ⟨.hbm, 327, rfl⟩
abbrev main_call7_cst : Ref sig .tc := ⟨.hbm, 328, rfl⟩
abbrev main_call7_v15 : Ref sig .tc := ⟨.hbm, 329, rfl⟩
abbrev main_v183 : Ref sig .tc := ⟨.hbm, 330, rfl⟩
abbrev main_v184 : Ref sig .tc := ⟨.hbm, 331, rfl⟩
abbrev main_call8_c : Ref sig .tc := ⟨.hbm, 332, rfl⟩
abbrev main_call8_v0 : Ref sig .tc := ⟨.hbm, 333, rfl⟩
abbrev main_call8_v1 : Ref sig .tc := ⟨.hbm, 334, rfl⟩
abbrev main_call8_c_0 : Ref sig .tc := ⟨.hbm, 335, rfl⟩
abbrev main_call8_v2 : Ref sig .tc := ⟨.hbm, 336, rfl⟩
abbrev main_call8_v3 : Ref sig .tc := ⟨.hbm, 337, rfl⟩
abbrev main_call8_v4 : Ref sig .tc := ⟨.hbm, 338, rfl⟩
abbrev main_call8_v5 : Ref sig .tc := ⟨.hbm, 339, rfl⟩
abbrev main_call8_c_1 : Ref sig .tc := ⟨.hbm, 340, rfl⟩
abbrev main_call8_c_2 : Ref sig .tc := ⟨.hbm, 341, rfl⟩
abbrev main_call8_v6 : Ref sig .tc := ⟨.hbm, 342, rfl⟩
abbrev main_call8_v7 : Ref sig .tc := ⟨.hbm, 343, rfl⟩
abbrev main_call8_v8 : Ref sig .tc := ⟨.hbm, 344, rfl⟩
abbrev main_call8_v9 : Ref sig .tc := ⟨.hbm, 345, rfl⟩
abbrev main_call8_v10 : Ref sig .tc := ⟨.hbm, 346, rfl⟩
abbrev main_call8_v11 : Ref sig .tc := ⟨.hbm, 347, rfl⟩
abbrev main_call8_c_3 : Ref sig .tc := ⟨.hbm, 348, rfl⟩
abbrev main_call8_v12 : Ref sig .tc := ⟨.hbm, 349, rfl⟩
abbrev main_call8_v13 : Ref sig .tc := ⟨.hbm, 350, rfl⟩
abbrev main_call8_v14 : Ref sig .tc := ⟨.hbm, 351, rfl⟩
abbrev main_call8_cst : Ref sig .tc := ⟨.hbm, 352, rfl⟩
abbrev main_call8_v15 : Ref sig .tc := ⟨.hbm, 353, rfl⟩
abbrev main_v185 : Ref sig .tc := ⟨.hbm, 354, rfl⟩
abbrev main_v186 : Ref sig .tc := ⟨.hbm, 355, rfl⟩
abbrev main_v187 : Ref sig .tc := ⟨.hbm, 356, rfl⟩
abbrev main_v188 : Ref sig .tc := ⟨.hbm, 357, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 2

abbrev nD : Nat := 32
abbrev τ : Topo := Topo.v7x

variable {F : FTy → Type} [FloatOps F]

abbrev grid0 : Pipeline.Grid := .none

def k0_dev1 (v0 : BitVec 32) : Nat :=
  let c0_i32 : BitVec 32 := 0#32
  let c1_i32_1 : BitVec 32 := 1#32
  let v3 : BitVec 32 := Scalar.muli v0 c1_i32_1
  let v4 : BitVec 32 := Scalar.addi c0_i32 v3
  v4.toNat

def k0_dev2 (v1 : BitVec 32) : Nat :=
  let c0_i32_4 : BitVec 32 := 0#32
  let c1_i32_3 : BitVec 32 := 1#32
  let v5 : BitVec 32 := Scalar.muli v1 c1_i32_3
  let v6 : BitVec 32 := Scalar.addi c0_i32_4 v5
  v6.toNat

@[reducible] def k0_t1_loop : Scf.Loop 32 :=
  let c0_i32_18 : BitVec 32 := 0#32
  let c16_i32 : BitVec 32 := 16#32
  let v17 : BitVec 32 := Scalar.addi c0_i32_18 c16_i32
  let c1_i32_19 : BitVec 32 := 1#32
  ⟨c0_i32_18, v17, c1_i32_19⟩
def k0_cond2 (k0_t1 : Fin k0_t1_loop.trips) : BitVec 1 :=
  let c2_i32_21 : BitVec 32 := 2#32
  let c0_i32_18 : BitVec 32 := 0#32
  let c1_i32_19 : BitVec 32 := 1#32
  let arg13 : BitVec 32 := Scf.iv c0_i32_18 c1_i32_19 k0_t1
  let v18 : BitVec 32 := Scalar.muli c2_i32_21 arg13
  let c31_i32_24 : BitVec 32 := 31#32
  let v24 : BitVec 1 := Scalar.cmpi .slt v18 c31_i32_24
  let v25 : BitVec 32 := Scalar.extui v24
  let c0_i32_33 : BitVec 32 := 0#32
  let v26 : BitVec 1 := Scalar.cmpi .ne v25 c0_i32_33
  v26

def k0_dev3 (v1 : BitVec 32) : Nat :=
  let c0_i32_153 : BitVec 32 := 0#32
  let c1_i32_152 : BitVec 32 := 1#32
  let v149 : BitVec 32 := Scalar.muli v1 c1_i32_152
  let v150 : BitVec 32 := Scalar.addi c0_i32_153 v149
  v150.toNat
def k0_dev4 (v0 : BitVec 32) : Nat :=
  let c0_i32_161 : BitVec 32 := 0#32
  let c1_i32_160 : BitVec 32 := 1#32
  let v159 : BitVec 32 := Scalar.muli v0 c1_i32_160
  let v160 : BitVec 32 := Scalar.addi c0_i32_161 v159
  v160.toNat
def k0_off1 (k0_t1 : Fin k0_t1_loop.trips) (c0_i32_35 : BitVec 32) : Fin 2 → Nat :=
  let c2_i32_34 : BitVec 32 := 2#32
  let c2_i32_21 : BitVec 32 := 2#32
  let c0_i32_18 : BitVec 32 := 0#32
  let c1_i32_19 : BitVec 32 := 1#32
  let arg13 : BitVec 32 := Scf.iv c0_i32_18 c1_i32_19 k0_t1
  let v18 : BitVec 32 := Scalar.muli c2_i32_21 arg13
  let v27 : BitVec 32 := Scalar.muli c2_i32_34 v18
  let v28 : BitVec 32 := Scalar.addi v27 c0_i32_35
  let c64_i32 : BitVec 32 := 64#32
  let v29 : BitVec 32 := Scalar.muli v28 c64_i32
  let v30 : Index := Scalar.indexCast v29
  let c0_36 : Index := 0#32
  ![v30.toNat, 0]
def k0_off2 (k0_t1 : Fin k0_t1_loop.trips) (c0_i32_35 : BitVec 32) : Fin 2 → Nat :=
  let c2_i32_34 : BitVec 32 := 2#32
  let c2_i32_21 : BitVec 32 := 2#32
  let c0_i32_18 : BitVec 32 := 0#32
  let c1_i32_19 : BitVec 32 := 1#32
  let arg13 : BitVec 32 := Scf.iv c0_i32_18 c1_i32_19 k0_t1
  let v18 : BitVec 32 := Scalar.muli c2_i32_21 arg13
  let v27 : BitVec 32 := Scalar.muli c2_i32_34 v18
  let v28 : BitVec 32 := Scalar.addi v27 c0_i32_35
  let c64_i32 : BitVec 32 := 64#32
  let v29 : BitVec 32 := Scalar.muli v28 c64_i32
  let v37 : Index := Scalar.indexCast v29
  let c0_41 : Index := 0#32
  ![v37.toNat, 0]
def k0_off3 (k0_t1 : Fin k0_t1_loop.trips) (c0_i32_52 : BitVec 32) : Fin 2 → Nat :=
  let c4096_i32 : BitVec 32 := 4096#32
  let c2_i32_51 : BitVec 32 := 2#32
  let c2_i32_21 : BitVec 32 := 2#32
  let c0_i32_18 : BitVec 32 := 0#32
  let c1_i32_19 : BitVec 32 := 1#32
  let arg13 : BitVec 32 := Scf.iv c0_i32_18 c1_i32_19 k0_t1
  let v18 : BitVec 32 := Scalar.muli c2_i32_21 arg13
  let v51 : BitVec 32 := Scalar.muli c2_i32_51 v18
  let v52 : BitVec 32 := Scalar.addi v51 c0_i32_52
  let c64_i32_53 : BitVec 32 := 64#32
  let v53 : BitVec 32 := Scalar.muli v52 c64_i32_53
  let v54 : BitVec 32 := Scalar.addi c4096_i32 v53
  let v55 : Index := Scalar.indexCast v54
  let c0_54 : Index := 0#32
  ![v55.toNat, 0]
def k0_off4 (k0_t1 : Fin k0_t1_loop.trips) (c0_i32_52 : BitVec 32) : Fin 2 → Nat :=
  let c4096_i32 : BitVec 32 := 4096#32
  let c2_i32_51 : BitVec 32 := 2#32
  let c2_i32_21 : BitVec 32 := 2#32
  let c0_i32_18 : BitVec 32 := 0#32
  let c1_i32_19 : BitVec 32 := 1#32
  let arg13 : BitVec 32 := Scf.iv c0_i32_18 c1_i32_19 k0_t1
  let v18 : BitVec 32 := Scalar.muli c2_i32_21 arg13
  let v51 : BitVec 32 := Scalar.muli c2_i32_51 v18
  let v52 : BitVec 32 := Scalar.addi v51 c0_i32_52
  let c64_i32_53 : BitVec 32 := 64#32
  let v53 : BitVec 32 := Scalar.muli v52 c64_i32_53
  let v54 : BitVec 32 := Scalar.addi c4096_i32 v53
  let v62 : Index := Scalar.indexCast v54
  let c0_60 : Index := 0#32
  ![v62.toNat, 0]
def k0_cond4 (k0_t1 : Fin k0_t1_loop.trips) : BitVec 1 :=
  let c2_i32_21 : BitVec 32 := 2#32
  let c0_i32_18 : BitVec 32 := 0#32
  let c1_i32_19 : BitVec 32 := 1#32
  let arg13 : BitVec 32 := Scf.iv c0_i32_18 c1_i32_19 k0_t1
  let v18 : BitVec 32 := Scalar.muli c2_i32_21 arg13
  let c30_i32 : BitVec 32 := 30#32
  let v80 : BitVec 1 := Scalar.cmpi .slt v18 c30_i32
  let v81 : BitVec 32 := Scalar.extui v80
  let c0_i32_82 : BitVec 32 := 0#32
  let v82 : BitVec 1 := Scalar.cmpi .ne v81 c0_i32_82
  v82

def k0_dev5 (v0 : BitVec 32) : Nat :=
  let c0_i32_154 : BitVec 32 := 0#32
  let c1_i32_153 : BitVec 32 := 1#32
  let v149 : BitVec 32 := Scalar.muli v0 c1_i32_153
  let v150 : BitVec 32 := Scalar.addi c0_i32_154 v149
  v150.toNat
def k0_dev6 (v1 : BitVec 32) : Nat :=
  let c0_i32_157 : BitVec 32 := 0#32
  let c1_i32_156 : BitVec 32 := 1#32
  let v151 : BitVec 32 := Scalar.muli v1 c1_i32_156
  let v152 : BitVec 32 := Scalar.addi c0_i32_157 v151
  v152.toNat
def k0_cond6 (k0_t1 : Fin k0_t1_loop.trips) : BitVec 1 :=
  let c2_i32_83 : BitVec 32 := 2#32
  let c0_i32_18 : BitVec 32 := 0#32
  let c1_i32_19 : BitVec 32 := 1#32
  let arg13 : BitVec 32 := Scf.iv c0_i32_18 c1_i32_19 k0_t1
  let v83 : BitVec 32 := Scalar.muli c2_i32_83 arg13
  let c1_i32_84 : BitVec 32 := 1#32
  let v84 : BitVec 32 := Scalar.addi v83 c1_i32_84
  let c31_i32_88 : BitVec 32 := 31#32
  let v90 : BitVec 1 := Scalar.cmpi .slt v84 c31_i32_88
  let v91 : BitVec 32 := Scalar.extui v90
  let c0_i32_97 : BitVec 32 := 0#32
  let v92 : BitVec 1 := Scalar.cmpi .ne v91 c0_i32_97
  v92

def k0_dev7 (v1 : BitVec 32) : Nat :=
  let c0_i32_153 : BitVec 32 := 0#32
  let c1_i32_152 : BitVec 32 := 1#32
  let v149 : BitVec 32 := Scalar.muli v1 c1_i32_152
  let v150 : BitVec 32 := Scalar.addi c0_i32_153 v149
  v150.toNat
def k0_dev8 (v0 : BitVec 32) : Nat :=
  let c0_i32_161 : BitVec 32 := 0#32
  let c1_i32_160 : BitVec 32 := 1#32
  let v159 : BitVec 32 := Scalar.muli v0 c1_i32_160
  let v160 : BitVec 32 := Scalar.addi c0_i32_161 v159
  v160.toNat
def k0_off5 (k0_t1 : Fin k0_t1_loop.trips) (c0_i32_99 : BitVec 32) : Fin 2 → Nat :=
  let c2_i32_98 : BitVec 32 := 2#32
  let c2_i32_83 : BitVec 32 := 2#32
  let c0_i32_18 : BitVec 32 := 0#32
  let c1_i32_19 : BitVec 32 := 1#32
  let arg13 : BitVec 32 := Scf.iv c0_i32_18 c1_i32_19 k0_t1
  let v83 : BitVec 32 := Scalar.muli c2_i32_83 arg13
  let c1_i32_84 : BitVec 32 := 1#32
  let v84 : BitVec 32 := Scalar.addi v83 c1_i32_84
  let v93 : BitVec 32 := Scalar.muli c2_i32_98 v84
  let v94 : BitVec 32 := Scalar.addi v93 c0_i32_99
  let c64_i32_100 : BitVec 32 := 64#32
  let v95 : BitVec 32 := Scalar.muli v94 c64_i32_100
  let v96 : Index := Scalar.indexCast v95
  let c0_101 : Index := 0#32
  ![v96.toNat, 0]
def k0_off6 (k0_t1 : Fin k0_t1_loop.trips) (c0_i32_99 : BitVec 32) : Fin 2 → Nat :=
  let c2_i32_98 : BitVec 32 := 2#32
  let c2_i32_83 : BitVec 32 := 2#32
  let c0_i32_18 : BitVec 32 := 0#32
  let c1_i32_19 : BitVec 32 := 1#32
  let arg13 : BitVec 32 := Scf.iv c0_i32_18 c1_i32_19 k0_t1
  let v83 : BitVec 32 := Scalar.muli c2_i32_83 arg13
  let c1_i32_84 : BitVec 32 := 1#32
  let v84 : BitVec 32 := Scalar.addi v83 c1_i32_84
  let v93 : BitVec 32 := Scalar.muli c2_i32_98 v84
  let v94 : BitVec 32 := Scalar.addi v93 c0_i32_99
  let c64_i32_100 : BitVec 32 := 64#32
  let v95 : BitVec 32 := Scalar.muli v94 c64_i32_100
  let v103 : Index := Scalar.indexCast v95
  let c0_107 : Index := 0#32
  ![v103.toNat, 0]
def k0_off7 (k0_t1 : Fin k0_t1_loop.trips) (c0_i32_119 : BitVec 32) : Fin 2 → Nat :=
  let c4096_i32_121 : BitVec 32 := 4096#32
  let c2_i32_118 : BitVec 32 := 2#32
  let c2_i32_83 : BitVec 32 := 2#32
  let c0_i32_18 : BitVec 32 := 0#32
  let c1_i32_19 : BitVec 32 := 1#32
  let arg13 : BitVec 32 := Scf.iv c0_i32_18 c1_i32_19 k0_t1
  let v83 : BitVec 32 := Scalar.muli c2_i32_83 arg13
  let c1_i32_84 : BitVec 32 := 1#32
  let v84 : BitVec 32 := Scalar.addi v83 c1_i32_84
  let v117 : BitVec 32 := Scalar.muli c2_i32_118 v84
  let v118 : BitVec 32 := Scalar.addi v117 c0_i32_119
  let c64_i32_120 : BitVec 32 := 64#32
  let v119 : BitVec 32 := Scalar.muli v118 c64_i32_120
  let v120 : BitVec 32 := Scalar.addi c4096_i32_121 v119
  let v121 : Index := Scalar.indexCast v120
  let c0_122 : Index := 0#32
  ![v121.toNat, 0]
def k0_off8 (k0_t1 : Fin k0_t1_loop.trips) (c0_i32_119 : BitVec 32) : Fin 2 → Nat :=
  let c4096_i32_121 : BitVec 32 := 4096#32
  let c2_i32_118 : BitVec 32 := 2#32
  let c2_i32_83 : BitVec 32 := 2#32
  let c0_i32_18 : BitVec 32 := 0#32
  let c1_i32_19 : BitVec 32 := 1#32
  let arg13 : BitVec 32 := Scf.iv c0_i32_18 c1_i32_19 k0_t1
  let v83 : BitVec 32 := Scalar.muli c2_i32_83 arg13
  let c1_i32_84 : BitVec 32 := 1#32
  let v84 : BitVec 32 := Scalar.addi v83 c1_i32_84
  let v117 : BitVec 32 := Scalar.muli c2_i32_118 v84
  let v118 : BitVec 32 := Scalar.addi v117 c0_i32_119
  let c64_i32_120 : BitVec 32 := 64#32
  let v119 : BitVec 32 := Scalar.muli v118 c64_i32_120
  let v120 : BitVec 32 := Scalar.addi c4096_i32_121 v119
  let v128 : Index := Scalar.indexCast v120
  let c0_128 : Index := 0#32
  ![v128.toNat, 0]
def k0_cond8 (k0_t1 : Fin k0_t1_loop.trips) : BitVec 1 :=
  let c2_i32_83 : BitVec 32 := 2#32
  let c0_i32_18 : BitVec 32 := 0#32
  let c1_i32_19 : BitVec 32 := 1#32
  let arg13 : BitVec 32 := Scf.iv c0_i32_18 c1_i32_19 k0_t1
  let v83 : BitVec 32 := Scalar.muli c2_i32_83 arg13
  let c1_i32_84 : BitVec 32 := 1#32
  let v84 : BitVec 32 := Scalar.addi v83 c1_i32_84
  let c30_i32_150 : BitVec 32 := 30#32
  let v146 : BitVec 1 := Scalar.cmpi .slt v84 c30_i32_150
  let v147 : BitVec 32 := Scalar.extui v146
  let c0_i32_151 : BitVec 32 := 0#32
  let v148 : BitVec 1 := Scalar.cmpi .ne v147 c0_i32_151
  v148

def k0_dev9 (v0 : BitVec 32) : Nat :=
  let c0_i32_154 : BitVec 32 := 0#32
  let c1_i32_153 : BitVec 32 := 1#32
  let v149 : BitVec 32 := Scalar.muli v0 c1_i32_153
  let v150 : BitVec 32 := Scalar.addi c0_i32_154 v149
  v150.toNat

def k0_chk1 (v0 : BitVec 32) : Prop :=
  ((k0_dev1 v0) < nD) ∧
  (∀ k0_t1 : Fin k0_t1_loop.trips, ∀ (k0_h2 : k0_cond2 k0_t1 = 1#1), (k0_dev4 v0) < nD) ∧
  (∀ k0_t1 : Fin k0_t1_loop.trips, ∀ (k0_h4 : k0_cond4 k0_t1 = 1#1), (k0_dev5 v0) < nD) ∧
  (∀ k0_t1 : Fin k0_t1_loop.trips, ∀ (k0_h6 : k0_cond6 k0_t1 = 1#1), (k0_dev8 v0) < nD) ∧
  (∀ k0_t1 : Fin k0_t1_loop.trips, ∀ (k0_h8 : k0_cond8 k0_t1 = 1#1), (k0_dev9 v0) < nD)
theorem k0_dev1_lt : ∀ (v0 : BitVec 32) (k0_hw1 : k0_chk1 v0), (k0_dev1 v0) < nD := fun v0 k0_hw1 => k0_hw1.1
theorem k0_dev4_lt : ∀ (v0 : BitVec 32) (k0_hw1 : k0_chk1 v0) (k0_t1 : Fin k0_t1_loop.trips), ∀ (k0_h2 : k0_cond2 k0_t1 = 1#1), (k0_dev4 v0) < nD := fun v0 k0_hw1 k0_t1 k0_h2 => k0_hw1.2.1 k0_t1 k0_h2
theorem k0_dev5_lt : ∀ (v0 : BitVec 32) (k0_hw1 : k0_chk1 v0) (k0_t1 : Fin k0_t1_loop.trips), ∀ (k0_h4 : k0_cond4 k0_t1 = 1#1), (k0_dev5 v0) < nD := fun v0 k0_hw1 k0_t1 k0_h4 => k0_hw1.2.2.1 k0_t1 k0_h4
theorem k0_dev8_lt : ∀ (v0 : BitVec 32) (k0_hw1 : k0_chk1 v0) (k0_t1 : Fin k0_t1_loop.trips), ∀ (k0_h6 : k0_cond6 k0_t1 = 1#1), (k0_dev8 v0) < nD := fun v0 k0_hw1 k0_t1 k0_h6 => k0_hw1.2.2.2.1 k0_t1 k0_h6
theorem k0_dev9_lt : ∀ (v0 : BitVec 32) (k0_hw1 : k0_chk1 v0) (k0_t1 : Fin k0_t1_loop.trips), ∀ (k0_h8 : k0_cond8 k0_t1 = 1#1), (k0_dev9 v0) < nD := fun v0 k0_hw1 k0_t1 k0_h8 => k0_hw1.2.2.2.2 k0_t1 k0_h8

def k0_dev10 (v1 : BitVec 32) : Nat :=
  let c0_i32_157 : BitVec 32 := 0#32
  let c1_i32_156 : BitVec 32 := 1#32
  let v151 : BitVec 32 := Scalar.muli v1 c1_i32_156
  let v152 : BitVec 32 := Scalar.addi c0_i32_157 v151
  v152.toNat

def k0_chk2 (v1 : BitVec 32) : Prop :=
  ((k0_dev2 v1) < nD) ∧
  (∀ k0_t1 : Fin k0_t1_loop.trips, ∀ (k0_h2 : k0_cond2 k0_t1 = 1#1), (k0_dev3 v1) < nD) ∧
  (∀ k0_t1 : Fin k0_t1_loop.trips, ∀ (k0_h4 : k0_cond4 k0_t1 = 1#1), (k0_dev6 v1) < nD) ∧
  (∀ k0_t1 : Fin k0_t1_loop.trips, ∀ (k0_h6 : k0_cond6 k0_t1 = 1#1), (k0_dev7 v1) < nD) ∧
  (∀ k0_t1 : Fin k0_t1_loop.trips, ∀ (k0_h8 : k0_cond8 k0_t1 = 1#1), (k0_dev10 v1) < nD)
theorem k0_dev2_lt : ∀ (v1 : BitVec 32) (k0_hw2 : k0_chk2 v1), (k0_dev2 v1) < nD := fun v1 k0_hw2 => k0_hw2.1
theorem k0_dev3_lt : ∀ (v1 : BitVec 32) (k0_hw2 : k0_chk2 v1) (k0_t1 : Fin k0_t1_loop.trips), ∀ (k0_h2 : k0_cond2 k0_t1 = 1#1), (k0_dev3 v1) < nD := fun v1 k0_hw2 k0_t1 k0_h2 => k0_hw2.2.1 k0_t1 k0_h2
theorem k0_dev6_lt : ∀ (v1 : BitVec 32) (k0_hw2 : k0_chk2 v1) (k0_t1 : Fin k0_t1_loop.trips), ∀ (k0_h4 : k0_cond4 k0_t1 = 1#1), (k0_dev6 v1) < nD := fun v1 k0_hw2 k0_t1 k0_h4 => k0_hw2.2.2.1 k0_t1 k0_h4
theorem k0_dev7_lt : ∀ (v1 : BitVec 32) (k0_hw2 : k0_chk2 v1) (k0_t1 : Fin k0_t1_loop.trips), ∀ (k0_h6 : k0_cond6 k0_t1 = 1#1), (k0_dev7 v1) < nD := fun v1 k0_hw2 k0_t1 k0_h6 => k0_hw2.2.2.2.1 k0_t1 k0_h6
theorem k0_dev10_lt : ∀ (v1 : BitVec 32) (k0_hw2 : k0_chk2 v1) (k0_t1 : Fin k0_t1_loop.trips), ∀ (k0_h8 : k0_cond8 k0_t1 = 1#1), (k0_dev10 v1) < nD := fun v1 k0_hw2 k0_t1 k0_h8 => k0_hw2.2.2.2.2 k0_t1 k0_h8

abbrev stage0_0 : Fin 1 → Memref sig .tc .vmem S8192x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S65536x512 : Shape := ⟨2, ![65536, 512]⟩
abbrev S512x128 : Shape := ⟨2, ![512, 128]⟩
abbrev S65536x2 : Shape := ⟨2, ![65536, 2]⟩
abbrev S128x512x1024 : Shape := ⟨3, ![128, 512, 1024]⟩
abbrev S65536x128 : Shape := ⟨2, ![65536, 128]⟩
abbrev S_ : Shape := ⟨0, ![]⟩
abbrev S65536 : Shape := ⟨1, ![65536]⟩
abbrev S65536x1 : Shape := ⟨2, ![65536, 1]⟩
abbrev S65536x2x1 : Shape := ⟨3, ![65536, 2, 1]⟩
abbrev S1 : Shape := ⟨1, ![1]⟩
abbrev S1x1x1 : Shape := ⟨3, ![1, 1, 1]⟩
abbrev S65536x512x1024 : Shape := ⟨3, ![65536, 512, 1024]⟩
abbrev S65536x1024 : Shape := ⟨2, ![65536, 1024]⟩

abbrev nBuf : Space → Nat
  | .hbm => 74
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S512x128, .f32⟩
  | .hbm, ⟨2, _⟩ => ⟨S65536x2, .i32⟩
  | .hbm, ⟨3, _⟩ => ⟨S128x512x1024, .f32⟩
  | .hbm, ⟨4, _⟩ => ⟨S65536x128, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S65536x128, .f32⟩
  | .hbm, ⟨9, _⟩ => ⟨S65536x128, .f32⟩
  | .hbm, ⟨10, _⟩ => ⟨S65536x128, .f32⟩
  | .hbm, ⟨11, _⟩ => ⟨S_, .f32⟩
  | .hbm, ⟨12, _⟩ => ⟨S65536, .f32⟩
  | .hbm, ⟨13, _⟩ => ⟨S65536x1, .f32⟩
  | .hbm, ⟨14, _⟩ => ⟨S65536x128, .f32⟩
  | .hbm, ⟨15, _⟩ => ⟨S65536x128, .f32⟩
  | .hbm, ⟨16, _⟩ => ⟨S_, .i32⟩
  | .hbm, ⟨17, _⟩ => ⟨S65536x2, .i32⟩
  | .hbm, ⟨18, _⟩ => ⟨S65536x2, .i1⟩
  | .hbm, ⟨19, _⟩ => ⟨S_, .i32⟩
  | .hbm, ⟨20, _⟩ => ⟨S65536x2, .i32⟩
  | .hbm, ⟨21, _⟩ => ⟨S65536x2, .i32⟩
  | .hbm, ⟨22, _⟩ => ⟨S65536x2, .i32⟩
  | .hbm, ⟨23, _⟩ => ⟨S65536x2x1, .i32⟩
  | .hbm, ⟨24, _⟩ => ⟨S1, .i32⟩
  | .hbm, ⟨25, _⟩ => ⟨S_, .i32⟩
  | .hbm, ⟨26, _⟩ => ⟨S65536x2x1, .i32⟩
  | .hbm, ⟨27, _⟩ => ⟨S65536x2x1, .i1⟩
  | .hbm, ⟨28, _⟩ => ⟨S1x1x1, .i32⟩
  | .hbm, ⟨29, _⟩ => ⟨S65536x2x1, .i32⟩
  | .hbm, ⟨30, _⟩ => ⟨S65536x2x1, .i1⟩
  | .hbm, ⟨31, _⟩ => ⟨S65536x2x1, .i1⟩
  | .hbm, ⟨32, _⟩ => ⟨S_, .i1⟩
  | .hbm, ⟨33, _⟩ => ⟨S65536x2, .i1⟩
  | .hbm, ⟨34, _⟩ => ⟨S65536x2, .f32⟩
  | .hbm, ⟨35, _⟩ => ⟨S_, .f32⟩
  | .hbm, ⟨36, _⟩ => ⟨S65536x2, .f32⟩
  | .hbm, ⟨37, _⟩ => ⟨S65536x2, .f32⟩
  | .hbm, ⟨38, _⟩ => ⟨S_, .f32⟩
  | .hbm, ⟨39, _⟩ => ⟨S65536, .f32⟩
  | .hbm, ⟨40, _⟩ => ⟨S65536x1, .f32⟩
  | .hbm, ⟨41, _⟩ => ⟨S65536x2, .f32⟩
  | .hbm, ⟨42, _⟩ => ⟨S65536x2, .f32⟩
  | .hbm, ⟨43, _⟩ => ⟨S65536x1, .i32⟩
  | .hbm, ⟨44, _⟩ => ⟨S65536, .i32⟩
  | .hbm, ⟨45, _⟩ => ⟨S_, .i32⟩
  | .hbm, ⟨46, _⟩ => ⟨S65536, .i32⟩
  | .hbm, ⟨47, _⟩ => ⟨S65536, .i1⟩
  | .hbm, ⟨48, _⟩ => ⟨S_, .i32⟩
  | .hbm, ⟨49, _⟩ => ⟨S65536, .i32⟩
  | .hbm, ⟨50, _⟩ => ⟨S65536, .i32⟩
  | .hbm, ⟨51, _⟩ => ⟨S65536, .i32⟩
  | .hbm, ⟨52, _⟩ => ⟨S65536x1, .i32⟩
  | .hbm, ⟨53, _⟩ => ⟨S65536x512x1024, .f32⟩
  | .hbm, ⟨54, _⟩ => ⟨S65536x1024, .f32⟩
  | .hbm, ⟨55, _⟩ => ⟨S65536x1, .i32⟩
  | .hbm, ⟨56, _⟩ => ⟨S65536, .i32⟩
  | .hbm, ⟨57, _⟩ => ⟨S_, .i32⟩
  | .hbm, ⟨58, _⟩ => ⟨S65536, .i32⟩
  | .hbm, ⟨59, _⟩ => ⟨S65536, .i1⟩
  | .hbm, ⟨60, _⟩ => ⟨S_, .i32⟩
  | .hbm, ⟨61, _⟩ => ⟨S65536, .i32⟩
  | .hbm, ⟨62, _⟩ => ⟨S65536, .i32⟩
  | .hbm, ⟨63, _⟩ => ⟨S65536, .i32⟩
  | .hbm, ⟨64, _⟩ => ⟨S65536x1, .i32⟩
  | .hbm, ⟨65, _⟩ => ⟨S65536x512x1024, .f32⟩
  | .hbm, ⟨66, _⟩ => ⟨S65536x1024, .f32⟩
  | .hbm, ⟨67, _⟩ => ⟨S65536x1, .f32⟩
  | .hbm, ⟨68, _⟩ => ⟨S65536x1024, .f32⟩
  | .hbm, ⟨69, _⟩ => ⟨S65536x1024, .f32⟩
  | .hbm, ⟨70, _⟩ => ⟨S65536x1, .f32⟩
  | .hbm, ⟨71, _⟩ => ⟨S65536x1024, .f32⟩
  | .hbm, ⟨72, _⟩ => ⟨S65536x1024, .f32⟩
  | .hbm, ⟨73, _⟩ => ⟨S65536x1024, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_cst : Ref sig .tc := ⟨.hbm, 35, rfl⟩
abbrev main_call0_v14 : Ref sig .tc := ⟨.hbm, 36, rfl⟩
abbrev main_v10 : Ref sig .tc := ⟨.hbm, 37, rfl⟩
abbrev main_cst_1 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c : Ref sig .tc := ⟨.hbm, 45, rfl⟩
abbrev main_v17 : Ref sig .tc := ⟨.hbm, 46, rfl⟩
abbrev main_v18 : Ref sig .tc := ⟨.hbm, 47, rfl⟩
abbrev main_c_2 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_c_3 : Ref sig .tc := ⟨.hbm, 57, rfl⟩
abbrev main_v27 : Ref sig .tc := ⟨.hbm, 58, rfl⟩
abbrev main_v28 : Ref sig .tc := ⟨.hbm, 59, rfl⟩
abbrev main_c_4 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩

abbrev nD : Nat := 1
abbrev τ : Topo := Topo.v7x

variable {F : FTy → Type} [FloatOps F]
-- ==== Proof.Ring.Base.lean ====
/- The ring of the mixture-of-experts kernel: the cycle, the cells and the slots.

  Device `c` has a successor `nxt c` and a predecessor `prv c` on a fixed cycle through the 32 devices. Expert weights go
  round in two directions at once. A direction is a `Bool`: in direction `false` a device sends to its successor (`nxt`), in
  direction `true` to its predecessor. Everything here is stated once for a direction `d`, a slot `s` (a `Bool`: the two
  halves of a communication buffer) and a hop `h` (0 … 31).

  At hop `h` device `c` holds in slot `par h` of direction `d` the weights of the device `h` steps upstream, sends them
  downstream into the other slot of its neighbour, computes with them, and waits for its own other slot to be filled. A slot
  that has been read is handed back to the upstream neighbour by a unit on that neighbour's acknowledgement cell.
-/
module

public import proofs.«01_k».proof.Defs
public import Idealize.ShloMosaic.Lib.Pipeline.Launch
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.Ring

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The cycle -/

def nxtTab : Fin 32 → Fin 32 := ![3,0,1,4,7,2,5,15,16,10,13,8,11,14,6,12,19,9,17,20,23,18,21,31,25,26,29,24,27,30,22,28]
def prvTab : Fin 32 → Fin 32 := ![1,2,5,0,3,6,14,4,11,17,9,12,15,10,13,7,8,18,21,16,19,22,30,20,27,24,25,28,31,26,29,23]

/-- The device that `c` sends to in direction `d`; -/
def dn (d : Bool) (c : Dev nD) : Dev nD := match d with | false => nxtTab c | true => prvTab c
/-- the device that sends to `c` in direction `d`. -/
def up (d : Bool) (c : Dev nD) : Dev nD := match d with | false => prvTab c | true => nxtTab c

/-- One hop up undoes one hop down. -/
theorem up_dn (d : Bool) (c : Dev nD) : up d (dn d c) = c := by revert c; cases d <;> decide
/-- One hop down undoes one hop up. -/
theorem dn_up (d : Bool) (c : Dev nD) : dn d (up d c) = c := by revert c; cases d <;> decide

/-- The device whose weights are in direction `d` at `c` at hop `h`. -/
def src (d : Bool) (h : ℕ) (c : Dev nD) : Dev nD := (up d)^[h] c
/-- No hop leads away. -/
theorem src_zero (d : Bool) (c : Dev nD) : src d 0 c = c := rfl
/-- From the next device one more hop leads to the same source. -/
theorem src_dn (d : Bool) (h : ℕ) (c : Dev nD) : src d (h + 1) (dn d c) = src d h c := by
  unfold src; rw [Function.iterate_succ_apply, up_dn]

/-! ## Hops and slots -/

/-- The slot a hop reads. -/
def par (h : ℕ) : Bool := decide (h % 2 = 1)
/-- Parity alternates. -/
theorem par_succ (h : ℕ) : par (h + 1) = !par h := by
  unfold par; rcases Nat.mod_two_eq_zero_or_one h with e | e <;> simp [Nat.add_mod, e]
/-- An even hop has parity `false`. -/
theorem par_even (k : ℕ) : par (2 * k) = false := by unfold par; simp
/-- An odd hop has parity `true`. -/
theorem par_odd (k : ℕ) : par (2 * k + 1) = true := by unfold par; simp [Nat.add_mod]

abbrev commM : Bool → Memref sig .tc .vmem S2x2x512x1024 .bf16
  | false => Memref.whole cc0_scratch0
  | true => Memref.whole cc0_scratch1

/-- One slot of a communication buffer, as the copies name it. -/
def slotM : Bool → Bool → Memref sig .tc .vmem S2x512x1024 .bf16
  | d, false => ((commM d).slice (Rect.unit (s := S2x2x512x1024) ![0, 0, 0, 0] S1x2x512x1024.size inb_S2x2x512x1024_S1x2x512x1024_0_0_0_0) (fun _ => rfl)).squeeze S2x512x1024 squeezes_S1x2x512x1024_S2x512x1024
  | d, true => ((commM d).slice (Rect.unit (s := S2x2x512x1024) ![1, 0, 0, 0] S1x2x512x1024.size inb_S2x2x512x1024_S1x2x512x1024_1_0_0_0) (fun _ => rfl)).squeeze S2x512x1024 squeezes_S1x2x512x1024_S2x512x1024

/-! ## The cells -/

/-- The kinds of cell: the barrier, the send and receive cells of a direction and slot, the acknowledgement of a direction. -/
inductive Kind
  | bar
  | send (d s : Bool)
  | recv (d s : Bool)
  | ack (d : Bool)
  deriving DecidableEq

/-- All kinds. -/
def kinds : Finset Kind := {.bar, .send false false, .send false true, .send true false, .send true true,
  .recv false false, .recv false true, .recv true false, .recv true true, .ack false, .ack true}
instance : Fintype Kind where
  elems := kinds
  complete := by
    intro k
    rcases k with _ | ⟨d, s⟩ | ⟨d, s⟩ | d
    · decide
    · cases d <;> cases s <;> decide
    · cases d <;> cases s <;> decide
    · cases d <;> decide

def sendS : Bool → Bool → DmaSem sig
  | false, false => (5 : Fin 13) | false, true => (6 : Fin 13) | true, false => (9 : Fin 13) | true, true => (10 : Fin 13)
def recvS : Bool → Bool → DmaSem sig
  | false, false => (7 : Fin 13) | false, true => (8 : Fin 13) | true, false => (11 : Fin 13) | true, true => (12 : Fin 13)
def ackS : Bool → Sem sig | false => (0 : Fin 3) | true => (1 : Fin 3)
def barS : Sem sig := (2 : Fin 3)

def semOf : Kind → SemLoc sig
  | .bar => .reg barS
  | .send d s => .dma (sendS d s)
  | .recv d s => .dma (recvS d s)
  | .ack d => .reg (ackS d)

def kindOfReg : Fin 3 → Option Kind := ![some (.ack false), some (.ack true), some .bar]
def kindOfDma : Fin 13 → Option Kind := ![none, none, none, none, none,
  some (.send false false), some (.send false true), some (.recv false false), some (.recv false true),
  some (.send true false), some (.send true true), some (.recv true false), some (.recv true true)]

/-- Which cell a semaphore is; none for the staging semaphores. -/
def kindOf : SemLoc sig → Option Kind
  | .reg i => kindOfReg i
  | .dma i => kindOfDma i

/-- The kind of a kind's semaphore is that kind. -/
theorem kindOf_semOf (k : Kind) : kindOf (semOf k) = some k := by
  rcases k with _ | ⟨d, s⟩ | ⟨d, s⟩ | d
  · rfl
  · cases d <;> cases s <;> rfl
  · cases d <;> cases s <;> rfl
  · cases d <;> rfl

/-- The semaphore of a semaphore's kind is that semaphore. -/
theorem semOf_kindOf (g : SemLoc sig) (k : Kind) (h : kindOf g = some k) : semOf k = g := by
  rcases g with i | i
  · revert h k; revert i; intro (i : Fin 3) k h; fin_cases i <;> (cases h; rfl)
  · revert h k; revert i; intro (i : Fin 13) k h; fin_cases i <;> (cases h; try rfl)

/-- Different kinds have different semaphores. -/
theorem semOf_inj {k k' : Kind} (h : semOf k = semOf k') : k = k' := by
  have := congrArg kindOf h; rw [kindOf_semOf, kindOf_semOf] at this; exact Option.some.inj this

abbrev cell (k : Kind) (c : Dev nD) : GSem nD τ sig := ((c : Thread nD τ), semOf k)

/-- Different kinds or devices have different cells. -/
theorem cell_inj {k k' : Kind} {c c' : Dev nD} (h : cell k c = cell k' c') : k = k' ∧ c = c' := by
  refine ⟨semOf_inj (congrArg Prod.snd h), ?_⟩
  have := congrArg (fun g : GSem nD τ sig => g.1.1) h; exact this

/-- The bytes' worth of units one copy of a slot credits. -/
def N : ℕ := (slotM false false).view.dmaCredit
/-- Every slot's copy is worth the same credit. -/
theorem credit_slot (d s : Bool) : (slotM d s).view.dmaCredit = N := by cases d <;> cases s <;> rfl
/-- That credit is positive. -/
theorem N_pos : 0 < N := by unfold N; rw [credit_slot]; decide

end Cert.Proof.Ring
-- ==== Proof.Ring.Sched.lean ====
/- The schedule of the ring's cells: who pays which round of which cell, what a round hands over, what a core owes at each
  hop, and the levels under which every wait sits below everything its core then owes.

  * Barrier cell of `x`, round 0: two units, duty `d` paid by `dn d x`, which hands over its slot `true` of direction `d`.
  * Receive cell of direction `d`, slot `s`, round `r`: paid by the copy of hop `h` (`h = 2 r` into slot `true`, `2 r + 1`
    into slot `false`) from `up d x`; it hands over the slot holding the weights of `src d (h + 1) x`.
  * Send cell: paid by the core's own copy; it hands back the half share of the slot that the copy read.
  * Acknowledgement cell of `x`, direction `d`, round `r` (at the end of hop `r`): one unit from `dn d x`, which hands over
    the slot it has read, the one that `x` fills at hop `r + 1`.
-/
module

public import proofs.«01_k».proof.Proof.Ring.Base
public import Idealize.ShloMosaic.Lib.Rounds
public import Idealize.ShloMosaic.Lib.Pipeline.Kit
public import Idealize.ShloMosaic.Lib.Pipeline.RegionTalk

@[expose] public section

set_option maxRecDepth 16384

noncomputable section

namespace Cert.Proof.Ring

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The ghost state: the pipeline's rounds, and the ring's (with a `Bool` for a duty). -/
abbrev UU := UR sig nD τ × URounds (GSem nD τ sig) Bool

variable {F : FTy → Type} [FloatOps F]

local notation "𝕄" => MT nD τ sig ℕ (Elt F) ℕ UU ℕ

abbrev EP : Emb (UR sig nD τ) (MT nD τ sig ℕ (Elt F) ℕ UU ℕ) := embL
abbrev ER : Emb (URounds (GSem nD τ sig) Bool) (MT nD τ sig ℕ (Elt F) ℕ UU ℕ) := embR

/-! ## The slots' contents -/

/-- The weights of one device. -/
abbrev Wts (F : FTy → Type) := Dev nD → S4x512x1024.Idx → Elt F .bf16

def wIdx (d : Bool) (i : S2x2x512x1024.Idx) : S4x512x1024.Idx := fun a =>
  match a with
  | ⟨0, _⟩ => ⟨(cond d 2 0) + (i 1).val, by have : (i 1).val < 2 := (i 1).isLt; cases d <;> (show _ < 4; simp only [cond_true, cond_false]; omega)⟩
  | ⟨1, _⟩ => ⟨(i 2).val, (i 2).isLt⟩
  | ⟨2, _⟩ => ⟨(i 3).val, (i 3).isLt⟩

/-- A communication buffer that holds in both slots the two experts of direction `d` of one device's weights. -/
def wbuf (d : Bool) (e : S4x512x1024.Idx → Elt F .bf16) : S2x2x512x1024.Idx → Elt F .bf16 := fun i => e (wIdx d i)

def cont (d s : Bool) (c : Dev nD) (e : S4x512x1024.Idx → Elt F .bf16) : Buf (Elt F) ((slotM d s).view.loc (c : Thread nD τ)) :=
  match d, s with
  | false, false => wbuf false e
  | false, true => wbuf false e
  | true, false => wbuf true e
  | true, true => wbuf true e

/-- Slot `s` of direction `d` at `c`, at a share. -/
def slotPt (q : PosShare TreeShare) (d s : Bool) (c : Dev nD) (f : Buf (Elt F) ((slotM d s).view.loc (c : Thread nD τ))) : sProp 𝕄 :=
  (slotM d s).view.loc (c : Thread nD τ) ↦[(slotM d s).view.set]{q} f

/-- The half share that a copy reads. -/
abbrev qL : PosShare TreeShare := (fullShare : PosShare TreeShare).left
abbrev qR : PosShare TreeShare := (fullShare : PosShare TreeShare).right

/-! ## The schedule -/

def recvHop (s : Bool) (r : ℕ) : ℕ := cond s (2 * r) (2 * r + 1)
def sendHop (s : Bool) (r : ℕ) : ℕ := cond s (2 * r + 1) (2 * r)

def dutyOf (k : Kind) (r : ℕ) : Finset Bool :=
  match k with
  | .bar => if r = 0 then Finset.univ else ∅
  | .send _ s => if sendHop s r < 31 then {false} else ∅
  | .recv _ s => if recvHop s r < 31 then {false} else ∅
  | .ack _ => if r < 30 then {false} else ∅

def amountOf (k : Kind) : ℕ := match k with | .bar => 1 | .send _ _ => N | .recv _ _ => N | .ack _ => 1

variable (E : Wts F)

def payOf (k : Kind) (c : Dev nD) (r : ℕ) (b : Bool) : sProp 𝕄 :=
  match k with
  | .bar => iprop((∃ f, slotPt fullShare b true (dn b c) f) ∗ reached ER (cell (.recv b true) (dn b c)) 0)
  | .send d s => slotPt qR d s c (cont d s c (E (src d (sendHop s r) c)))
  | .recv d s => iprop(slotPt fullShare d s c (cont d s c (E (src d (recvHop s r + 1) c))) ∗ reached ER (cell (.ack d) (up d c)) (recvHop s r))
  | .ack d => iprop((∃ f, slotPt fullShare d (par r) (dn d c) f) ∗ reached ER (cell (.recv d (par r)) (dn d c)) ((r + 1) / 2))

def Rd : Rounds.Schedule (GSem nD τ sig) Bool 𝕄 where
  duties g r := if g.1.2 = .tc then (match kindOf g.2 with | some k => dutyOf k r | none => ∅) else ∅
  unitless _ := False
  amount g _ _ := match kindOf g.2 with | some k => amountOf k | none => 1
  payload g r b := match kindOf g.2 with | some k => payOf E k g.1.1 r b | none => iprop(emp)
  amount_pos g _ _ _ := by
    show 0 < (match kindOf g.2 with | some k => amountOf k | none => 1)
    rcases kindOf g.2 with _ | k
    · exact Nat.one_pos
    · rcases k with _ | _ | _ | _ <;> first | exact Nat.one_pos | exact N_pos

/-- The duties of a cell in a round. -/
theorem duties_cell (k : Kind) (c : Dev nD) (r : ℕ) : (Rd E).duties (cell k c) r = dutyOf k r := by
  show (if (c : Thread nD τ).2 = .tc then (match kindOf (semOf k) with | some k => dutyOf k r | none => ∅) else ∅) = _
  rw [if_pos rfl, kindOf_semOf]
/-- What a duty of a cell adds. -/
theorem amount_cell (k : Kind) (c : Dev nD) (r : ℕ) (b : Bool) : (Rd E).amount (cell k c) r b = amountOf k := by
  show (match kindOf (semOf k) with | some k => amountOf k | none => 1) = _; rw [kindOf_semOf]
/-- What a duty of a cell hands over. -/
theorem payload_cell (k : Kind) (c : Dev nD) (r : ℕ) (b : Bool) : (Rd E).payload (cell k c) r b = payOf E k c r b := by
  show (match kindOf (semOf k) with | some k => payOf E k c r b | none => iprop(emp)) = _; rw [kindOf_semOf]

instance payOf_storable (k : Kind) (c : Dev nD) (r : ℕ) (b : Bool) : BI.Storable (upEmb : UEmb _ 𝕄) (payOf E k c r b) := by
  unfold payOf slotPt; (repeat' split) <;> infer_instance
instance Rd_storable (g : GSem nD τ sig) (r : ℕ) (b : Bool) : BI.Storable (upEmb : UEmb _ 𝕄) ((Rd E).payload g r b) := by
  show BI.Storable upEmb (match kindOf g.2 with | some k => payOf E k g.1.1 r b | none => iprop(emp))
  split <;> infer_instance

/-- The rounds a cell goes through: none is owed from here on. -/
def lastR : Kind → ℕ | .bar => 1 | .send _ s => cond s 15 16 | .recv _ s => cond s 16 15 | .ack _ => 30
/-- After its last round a cell has no duties. -/
theorem dutyOf_last (k : Kind) (r : ℕ) (h : lastR k ≤ r) : dutyOf k r = ∅ := by
  rcases k with _ | ⟨d, s⟩ | ⟨d, s⟩ | d
  · exact if_neg (by dsimp only [lastR] at h; omega)
  · exact if_neg (by cases s <;> dsimp only [lastR, sendHop, cond] at h ⊢ <;> omega)
  · exact if_neg (by cases s <;> dsimp only [lastR, recvHop, cond] at h ⊢ <;> omega)
  · exact if_neg (by dsimp only [lastR] at h; omega)

/-- A round with one duty expects that duty's amount. -/
theorem expect_one (k : Kind) (c : Dev nD) (r : ℕ) (h : dutyOf k r = {false}) : (Rd E).expect (cell k c) r = amountOf k := by
  unfold Schedule.expect Schedule.amountOf; rw [duties_cell, h, Finset.sum_singleton, amount_cell]
/-- The barrier expects two signals. -/
theorem expect_bar (c : Dev nD) : (Rd E).expect (cell .bar c) 0 = 2 := by
  unfold Schedule.expect Schedule.amountOf; rw [duties_cell]
  show ∑ b ∈ (Finset.univ : Finset Bool), _ = 2
  rw [Finset.sum_congr rfl fun b _ => amount_cell E .bar c 0 b]; rfl

/-- A send cell has one duty in each round that it is used. -/
theorem duty_send (d : Bool) (h : ℕ) (hh : h ≤ 30) : dutyOf (.send d (par h)) (h / 2) = {false} := by
  refine if_pos ?_; rcases Nat.even_or_odd' h with ⟨k, rfl | rfl⟩
  · rw [par_even]; dsimp only [sendHop, cond]; omega
  · rw [par_odd]; dsimp only [sendHop, cond]; omega
/-- A receive cell has one duty in each round that it is used. -/
theorem duty_recv (d : Bool) (h : ℕ) (hh : h ≤ 30) : dutyOf (.recv d (!par h)) (h / 2) = {false} := by
  refine if_pos ?_; rcases Nat.even_or_odd' h with ⟨k, rfl | rfl⟩
  · rw [par_even]; simp only [recvHop, Bool.not_false, cond_true]; omega
  · rw [par_odd]; simp only [recvHop, Bool.not_true, cond_false]; omega
/-- An acknowledgement cell has one duty in each round that it is used. -/
theorem duty_ack (d : Bool) (r : ℕ) (hr : r < 30) : dutyOf (.ack d) r = {false} := if_pos hr
/-- The hop of a send cell's round. -/
theorem sendHop_par (h : ℕ) : sendHop (par h) (h / 2) = h := by
  rcases Nat.even_or_odd' h with ⟨k, rfl | rfl⟩
  · rw [par_even]; dsimp only [sendHop, cond]; omega
  · rw [par_odd]; dsimp only [sendHop, cond]; omega
/-- The hop of a receive cell's round. -/
theorem recvHop_par (h : ℕ) : recvHop (!par h) (h / 2) = h := by
  rcases Nat.even_or_odd' h with ⟨k, rfl | rfl⟩
  · rw [par_even]; simp only [recvHop, Bool.not_false, cond_true]; omega
  · rw [par_odd]; simp only [recvHop, Bool.not_true, cond_false]; omega

/-! ## The levels, and what a core owes -/

/-- The indices a unit may carry: the hop (of a copy), the round (of an acknowledgement). -/
def L (g : GSem nD τ sig) : Finset ℕ := if g.1.2 = .tc then Finset.range 32 else ∅
/-- Only the TensorCores' cells have labels. -/
theorem L_of_ne (g : GSem nD τ sig) (h : g.1.2 ≠ .tc) : L g = ∅ := if_neg h
/-- The labels of a cell. -/
theorem L_tc (c : Dev nD) (sm : SemLoc sig) : L ((c : Thread nD τ), sm) = Finset.range 32 := if_pos rfl

def lvOf (k : Kind) (h : ℕ) : ℕ := match k with | .bar => 1 | .send _ _ => 0 | .recv _ _ => 3 + 2 * h | .ack _ => 4 + 2 * h
def lv (g : GSem nD τ sig) (h : ℕ) : ℕ := match kindOf g.2 with | some k => lvOf k h | none => 0
/-- The level of a cell at a label. -/
theorem lv_cell (k : Kind) (c : Dev nD) (h : ℕ) : lv (cell k c) h = lvOf k h := by
  show (match kindOf (semOf k) with | some k => lvOf k h | none => 0) = _; rw [kindOf_semOf]

/-- What `c` owes in direction `d` when the copies of hops below `h` and the acknowledgements of rounds below `j` have been
    made. -/
def OwD (d : Bool) (c : Dev nD) (h j : ℕ) : CellTallies nD τ sig ℕ :=
  (∑ k ∈ Finset.Ico h 31, tallyAt (cell (.recv d (!par k)) (dn d c)) k N) + ∑ k ∈ Finset.Ico j 30, tallyAt (cell (.ack d) (up d c)) k 1

/-- What a direction owes before a send is what it owes after it and the send's credit. -/
theorem OwD_send (d : Bool) (c : Dev nD) (h j : ℕ) (hh : h ≤ 30) :
    OwD d c h j = OwD d c (h + 1) j + tallyAt (cell (.recv d (!par h)) (dn d c)) h N := by
  unfold OwD; rw [Finset.sum_eq_sum_Ico_succ_bot (by omega : h < 31)]; abel
/-- What a direction owes before an acknowledgement is what it owes after it and one signal. -/
theorem OwD_ack (d : Bool) (c : Dev nD) (h j : ℕ) (hj : j < 30) :
    OwD d c h j = OwD d c h (j + 1) + tallyAt (cell (.ack d) (up d c)) j 1 := by
  unfold OwD; rw [Finset.sum_eq_sum_Ico_succ_bot hj]; abel
/-- At the end a direction owes nothing. -/
theorem OwD_end (d : Bool) (c : Dev nD) : OwD d c 31 30 = 0 := by unfold OwD; simp

/-- A positive sum of tallies has a positive term. -/
theorem tally_sum_pos {ι : Type} (s : Finset ι) (f : ι → CellTallies nD τ sig ℕ) (g : GSem nD τ sig) (u : ℕ)
    (h : 0 < (∑ k ∈ s, f k) g u) : ∃ k ∈ s, 0 < f k g u := by
  classical
  induction s using Finset.induction_on with
  | empty => exact absurd h (Nat.lt_irrefl 0)
  | insert a s ha ih =>
    rw [Finset.sum_insert ha] at h
    have h' : 0 < f a g u + (∑ k ∈ s, f k) g u := h
    rcases Nat.add_pos_iff_pos_or_pos.mp h' with h1 | h1
    · exact ⟨a, Finset.mem_insert_self _ _, h1⟩
    · obtain ⟨k, hk, hp⟩ := ih h1; exact ⟨k, Finset.mem_insert_of_mem hk, hp⟩

/-- A tally is positive at its own cell and label only. -/
theorem tallyAt_pos {g g' : GSem nD τ sig} {u u' n : ℕ} (h : 0 < tallyAt g u n g' u') : g' = g ∧ u' = u := by
  rw [tallyAt_apply] at h; by_contra hn
  rw [if_neg (fun h' => hn h')] at h; exact Nat.lt_irrefl 0 h

/-- Every owed unit of a direction is a copy's of a later hop or an acknowledgement's of a later round. -/
theorem OwD_pos {d : Bool} {c : Dev nD} {h j : ℕ} {g : GSem nD τ sig} {u : ℕ} (hp : 0 < OwD d c h j g u) :
    (u ∈ L g) ∧ (3 + 2 * h ≤ lv g u ∨ 4 + 2 * j ≤ lv g u) := by
  have hp' : 0 < (∑ k ∈ Finset.Ico h 31, tallyAt (cell (.recv d (!par k)) (dn d c)) k N) g u + (∑ k ∈ Finset.Ico j 30, tallyAt (cell (.ack d) (up d c)) k 1) g u := hp
  rcases Nat.add_pos_iff_pos_or_pos.mp hp' with h1 | h1
  · obtain ⟨k, hk, hpk⟩ := tally_sum_pos _ _ g u h1
    obtain ⟨rfl, rfl⟩ := tallyAt_pos hpk
    rw [Finset.mem_Ico] at hk
    refine ⟨by rw [L_tc, Finset.mem_range]; omega, Or.inl ?_⟩
    rw [lv_cell]; dsimp only [lvOf]; omega
  · obtain ⟨k, hk, hpk⟩ := tally_sum_pos _ _ g u h1
    obtain ⟨rfl, rfl⟩ := tallyAt_pos hpk
    rw [Finset.mem_Ico] at hk
    refine ⟨by rw [L_tc, Finset.mem_range]; omega, Or.inr ?_⟩
    rw [lv_cell]; dsimp only [lvOf]; omega

/-- What `c` owes while it runs: both directions. -/
def Ow (c : Dev nD) (h j h' j' : ℕ) : CellTallies nD τ sig ℕ := OwD false c h j + OwD true c h' j'
/-- What `c` owes at launch: both directions, and the two barrier units. -/
def O₀ (c : Dev nD) : CellTallies nD τ sig ℕ := Ow c 0 0 0 0 + tallyAt (cell .bar (up true c)) 0 1 + tallyAt (cell .bar (up false c)) 0 1

/-- Whatever is still owed lies at or above the level of the next thing to do. -/
theorem Ow_pos {c : Dev nD} {h j h' j' : ℕ} {g : GSem nD τ sig} {u : ℕ} (hp : 0 < Ow c h j h' j' g u) :
    (u ∈ L g) ∧ (min (3 + 2 * min h h') (4 + 2 * min j j') ≤ lv g u) := by
  have hp' : 0 < OwD false c h j g u + OwD true c h' j' g u := hp
  rcases Nat.add_pos_iff_pos_or_pos.mp hp' with h1 | h1
  · obtain ⟨a, b⟩ := OwD_pos h1; exact ⟨a, by omega⟩
  · obtain ⟨a, b⟩ := OwD_pos h1; exact ⟨a, by omega⟩

omit [FloatOps F] in
/-- A wait on a cell at an index is below everything owed. -/
theorem mayWait_cell (k : Kind) (c : Dev nD) (i h j h' j' : ℕ) (hi : i < 32) (hb : lvOf k i < min (3 + 2 * min h h') (4 + 2 * min j j')) :
    (levAts L lv : sProp 𝕄) ⊢ MayWait (c : Thread nD τ) (semOf k) i (Ow c h j h' j') :=
  MayOwe.of_cut (L := L) (lev := lv) (lvOf k i)
    (fun p hp => by rw [Finset.mem_singleton.mp hp, L_tc]; exact Finset.mem_range.mpr hi)
    (fun g u hg => (Ow_pos hg).1)
    (fun p hp => by rw [Finset.mem_singleton.mp hp]; exact le_of_eq (lv_cell k c i))
    (fun g u hg => lt_of_lt_of_le hb (Ow_pos hg).2)

/-- Whatever is owed at the start lies at level one or above. -/
theorem O₀_pos {c : Dev nD} {g : GSem nD τ sig} {u : ℕ} (hp : 0 < O₀ c g u) : u ∈ L g ∧ 1 ≤ lv g u := by
  have hp' : 0 < (Ow c 0 0 0 0 g u + tallyAt (cell .bar (up true c)) 0 1 g u) + tallyAt (cell .bar (up false c)) 0 1 g u := hp
  rcases Nat.add_pos_iff_pos_or_pos.mp hp' with h1 | h1
  · rcases Nat.add_pos_iff_pos_or_pos.mp h1 with h1 | h1
    · obtain ⟨a, b⟩ := Ow_pos h1; exact ⟨a, by omega⟩
    · obtain ⟨rfl, rfl⟩ := tallyAt_pos h1
      exact ⟨by rw [L_tc]; decide, by rw [lv_cell]; exact le_refl _⟩
  · obtain ⟨rfl, rfl⟩ := tallyAt_pos h1
    exact ⟨by rw [L_tc]; decide, by rw [lv_cell]; exact le_refl _⟩

omit [FloatOps F] in
/-- A staging wait, whatever of the launch's debts is left. -/
theorem mayWait_stage (c : Dev nD) (q : DmaSem sig) (hq : kindOf (.dma q) = none) (O : CellTallies nD τ sig ℕ) (hO : O = O₀ c ∨ O = 0) :
    (levAts L lv : sProp 𝕄) ⊢ MayWait (c : Thread nD τ) (.dma q) 0 O := by
  rcases hO with rfl | rfl
  · exact MayOwe.of_cut (L := L) (lev := lv) 0 (fun p hp => by rw [Finset.mem_singleton.mp hp, L_tc]; exact Finset.mem_range.mpr (by decide : 0 < 32))
      (fun g u hg => (O₀_pos hg).1)
      (fun p hp => by rw [Finset.mem_singleton.mp hp]; dsimp only [lv]; rw [hq])
      (fun g u hg => (O₀_pos hg).2)
  · rw [MayWait_zero]; iintro -; iempintro

end Cert.Proof.Ring
-- ==== Proof.Ring.Steps.lean ====
/- One lemma per step of the ring: the barrier's signals and wait, an acknowledgement's wait, a copy, the waits for its two
  ends, an acknowledgement's signal. Each is stated for a direction and a hop.
-/
module

public import proofs.«01_k».proof.Proof.Ring.Sched

@[expose] public section

set_option maxRecDepth 16384

noncomputable section

namespace Cert.Proof.Ring

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

abbrev 𝒱₀ : Variants := Variants.none

abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (E : Wts F) (K : Dev nD × Kind → ℕ)

/-- Every cell's invariant. -/
def allInv : sProp 𝕄 := bigSep Finset.univ (fun ck : Dev nD × Kind => cellInv ER (Rd E) (K ck) (cell ck.2 ck.1))

instance : BI.Persistent (allInv E K) := by unfold allInv; infer_instance

/-- The invariant of one cell. -/
theorem inv_of (k : Kind) (c : Dev nD) : allInv E K ⊢ cellInv ER (Rd E) (K (c, k)) (cell k c) :=
  bigSep_elim (Finset.mem_univ (c, k))

/-- What a core owes, whatever waits it has recorded. -/
def owesE (c : Dev nD) (O : CellTallies nD τ sig ℕ) : sProp 𝕄 := iprop(∃ W, owes (c : Thread nD τ) O W)

/-- A core's position at one of its cells. -/
def pos (k : Kind) (c : Dev nD) (r : ℕ) : sProp 𝕄 := iprop(atPos ER (cell k c) r ∅ 0 ∗ reached ER (cell k c) r)

/-- The right to fill the downstream neighbour's slot at hop `h`. -/
def grant (d : Bool) (c : Dev nD) (h : ℕ) : sProp 𝕄 :=
  iprop((∃ f, slotPt fullShare d (!par h) (dn d c) f) ∗ reached ER (cell (.recv d (!par h)) (dn d c)) (h / 2))

/-- What a barrier signal hands over: the sender's second slot. -/
theorem pay_bar (d : Bool) (c : Dev nD) : (Rd E).payload (cell .bar (up d c)) 0 d
    = iprop((∃ f, slotPt fullShare d true c f) ∗ reached ER (cell (.recv d true) c) 0) := by
  rw [payload_cell]; dsimp only [payOf]; rw [dn_up]

/-- What an acknowledgement hands over: the sender's free slot. -/
theorem pay_ack (d : Bool) (c : Dev nD) (r : ℕ) : (Rd E).payload (cell (.ack d) (up d c)) r false
    = iprop((∃ f, slotPt fullShare d (par r) c f) ∗ reached ER (cell (.recv d (par r)) c) ((r + 1) / 2)) := by
  rw [payload_cell]; dsimp only [payOf]; rw [dn_up]

/-- What an acknowledgement gives to the device that waits for it. -/
theorem pay_grant (d : Bool) (c : Dev nD) (r : ℕ) : (Rd E).payload (cell (.ack d) c) r false = grant d c (r + 1) := by
  rw [payload_cell]; dsimp only [payOf]; unfold grant; rw [par_succ, Bool.not_not]

/-- What the end of a send gives back: the share of the slot that was read. -/
theorem pay_send (d : Bool) (c : Dev nD) (h : ℕ) : (Rd E).payload (cell (.send d (par h)) c) (h / 2) false
    = slotPt qR d (par h) c (cont d (par h) c (E (src d h c))) := by
  rw [payload_cell]; dsimp only [payOf]; rw [sendHop_par]

/-- What an arrival gives: the slot with the next weights. -/
theorem pay_recv (d : Bool) (c : Dev nD) (h : ℕ) : (Rd E).payload (cell (.recv d (!par h)) c) (h / 2) false
    = iprop(slotPt fullShare d (!par h) c (cont d (!par h) c (E (src d (h + 1) c))) ∗ reached ER (cell (.ack d) (up d c)) h) := by
  rw [payload_cell]; dsimp only [payOf]; rw [recvHop_par]

/-- The signal of the barrier to a neighbour. -/
theorem sig_bar (d : Bool) (c n : Dev nD) (hn : n = up d c) (sem : Sem sig) (hsem : sem = barS) (w : BitVec 32) (hw : w = 1#32)
    (O : CellTallies nD τ sig ℕ) {α : Type} {Q : α → sProp 𝕄} {k : PUnit → Prog (TpuEff nD τ sig (Elt F) Λ₀ .tc) α} :
    iprop(allInv E K ∗ owesE c (O + tallyAt (cell .bar (up d c)) 0 1) ∗ dutyTok ER (cell .bar (up d c)) 0 d ∗ reached ER (cell .bar (up d c)) 0
        ∗ (∃ f, slotPt fullShare d true c f) ∗ reached ER (cell (.recv d true) c) 0)
      ⊢ iprop((owesE c O -∗ wpc c (k ⟨⟩) Q) -∗ wpc c (.op (.semSignal (Dev.tc n) sem w.toInt) k) Q) := by
  subst hn hsem hw
  rw [show (1#32 : BitVec 32).toInt = ((1#32 : BitVec 32).toNat : Int) from rfl]
  unfold owesE
  iintro ⟨#HI, ⟨%W, HO⟩, Ht, #Hr, Hs, #Hr'⟩ Hk
  ihave HI' := (inv_of E K .bar (up d c)) $$ HI
  iapply (Rounds.wp_signal 𝒱₀ ER (Rd E) (c : Thread nD τ) none (dst := (up d c : Thread nD τ)) (κ := K (up d c, .bar))
      (r := 0) (d := d) (show d ∈ (Rd E).duties (cell .bar (up d c)) 0 by rw [duties_cell]; exact Finset.mem_univ d)
      (show (Rd E).amount (cell .bar (up d c)) 0 d = (1#32 : BitVec 32).toNat by rw [amount_cell]; rfl) 0 O rfl) $$ [HI' HO Ht Hs]
  · isplitl [HI']; · iexact HI'
    isplitl [HO]; · iexact HO
    isplitl [Ht]; · iexact Ht
    isplitl [Hs]
    · rw [show (Rd E).payload ((up d c : Thread nD τ), .reg barS) 0 d = _ from pay_bar E d c]
      isplitl [Hs]; · iexact Hs
      iexact Hr'
    iexact Hr
  iintro HO
  iapply Hk
  iexists W; iexact HO

/-- The wait at the barrier for both neighbours. -/
theorem wait_bar (c : Dev nD) (sem : Sem sig) (hsem : sem = barS) (w : BitVec 32) (hw : w = 2#32)
    (O : CellTallies nD τ sig ℕ) (hO : (levAts L lv : sProp 𝕄) ⊢ MayWait (c : Thread nD τ) (semOf .bar) 0 O)
    {α : Type} {Q : α → sProp 𝕄} {k : PUnit → Prog (TpuEff nD τ sig (Elt F) Λ₀ .tc) α} :
    iprop(allInv E K ∗ levAts L lv ∗ cred (tallyAt (cell .bar c) 0 2) ∗ owesE c O ∗ pos .bar c 0)
      ⊢ iprop(((owesE c O ∗ pos .bar c 1 ∗ grant false c 0 ∗ grant true c 0) -∗ wpc c (k ⟨⟩) Q)
          -∗ wpc c (.op (.semWait sem w.toInt) k) Q) := by
  subst hsem hw
  rw [show (2#32 : BitVec 32).toInt = ((2#32 : BitVec 32).toNat : Int) from rfl]
  unfold owesE pos
  iintro ⟨#HI, #Hlev, Hc, ⟨%W, HO⟩, Hat, -⟩ Hk
  ihave HI' := (inv_of E K .bar c) $$ HI
  ihave HM := hO $$ Hlev
  iapply (Rounds.wp_wait_rest_token 𝒱₀ ER (Rd E) (c : Thread nD τ) none (κ := K (c, .bar))
      (wpE_semWait_eq 𝒱₀ (c : Thread nD τ) none Set.univ) (Set.mem_univ _) 0 (O := O) (W := W) (R := 0) (m := 0) (T := ∅)
      (show 0 + (2#32 : BitVec 32).toNat = (Rd E).expect (cell .bar c) 0 by rw [expect_bar]; decide)) $$ [HI' HM Hc HO Hat]
  · isplitl [HI']; · iexact HI'
    isplitl [Hc]; · iexact Hc
    isplitl [HO]; · iexact HO
    isplitl [HM]; · iexact HM
    iexact Hat
  rw [show (bigSep ((Rd E).duties ((c : Thread nD τ), .reg barS) 0 \ ∅) fun d => (Rd E).payload ((c : Thread nD τ), .reg barS) 0 d)
      = iprop(grant false c 0 ∗ grant true c 0) by
    rw [Finset.sdiff_empty, show (Rd E).duties ((c : Thread nD τ), .reg barS) 0 = ({false, true} : Finset Bool) from
      (duties_cell E .bar c 0).trans (by decide), bigSep_insert (by decide), bigSep_singleton,
      show (Rd E).payload ((c : Thread nD τ), .reg barS) 0 false = _ from payload_cell E .bar c 0 false,
      show (Rd E).payload ((c : Thread nD τ), .reg barS) 0 true = _ from payload_cell E .bar c 0 true]
    rfl]
  iintro ⟨HO, Hat, Hr, Hg⟩
  iapply Hk
  isplitl [HO]; · iexists _; iexact HO
  isplitl [Hat Hr]
  · isplitl [Hat]; · iexact Hat
    iexact Hr
  iexact Hg

/-- The wait for acknowledgement `r`. -/
theorem wait_ack (d : Bool) (c : Dev nD) (r : ℕ) (hr : r < 30) (sem : Sem sig) (hsem : sem = ackS d) (w : BitVec 32) (hw : w = 1#32)
    (O : CellTallies nD τ sig ℕ) (hO : (levAts L lv : sProp 𝕄) ⊢ MayWait (c : Thread nD τ) (semOf (.ack d)) r O)
    {α : Type} {Q : α → sProp 𝕄} {k : PUnit → Prog (TpuEff nD τ sig (Elt F) Λ₀ .tc) α} :
    iprop(allInv E K ∗ levAts L lv ∗ cred (tallyAt (cell (.ack d) c) r 1) ∗ owesE c O ∗ pos (.ack d) c r)
      ⊢ iprop(((owesE c O ∗ pos (.ack d) c (r + 1) ∗ grant d c (r + 1)) -∗ wpc c (k ⟨⟩) Q)
          -∗ wpc c (.op (.semWait sem w.toInt) k) Q) := by
  subst hsem hw
  rw [show (1#32 : BitVec 32).toInt = ((1#32 : BitVec 32).toNat : Int) from rfl]
  unfold owesE pos
  iintro ⟨#HI, #Hlev, Hc, ⟨%W, HO⟩, Hat, -⟩ Hk
  ihave HI' := (inv_of E K (.ack d) c) $$ HI
  ihave HM := hO $$ Hlev
  iapply (Rounds.wp_wait_rest_token 𝒱₀ ER (Rd E) (c : Thread nD τ) none (κ := K (c, .ack d))
      (wpE_semWait_eq 𝒱₀ (c : Thread nD τ) none Set.univ) (Set.mem_univ _) r (O := O) (W := W) (R := r) (m := 0) (T := ∅)
      (show 0 + (1#32 : BitVec 32).toNat = (Rd E).expect (cell (.ack d) c) r by rw [expect_one E _ _ _ (duty_ack d r hr)]; rfl)) $$ [HI' HM Hc HO Hat]
  · isplitl [HI']; · iexact HI'
    isplitl [Hc]; · iexact Hc
    isplitl [HO]; · iexact HO
    isplitl [HM]; · iexact HM
    iexact Hat
  rw [show (bigSep ((Rd E).duties ((c : Thread nD τ), .reg (ackS d)) r \ ∅) fun b => (Rd E).payload ((c : Thread nD τ), .reg (ackS d)) r b)
      = grant d c (r + 1) by
    rw [Finset.sdiff_empty, show (Rd E).duties ((c : Thread nD τ), .reg (ackS d)) r = ({false} : Finset Bool) from
      (duties_cell E (.ack d) c r).trans (duty_ack d r hr), bigSep_singleton]
    exact pay_grant E d c r]
  iintro ⟨HO, Hat, Hr, Hg⟩
  iapply Hk
  isplitl [HO]; · iexists _; iexact HO
  isplitl [Hat Hr]
  · isplitl [Hat]; · iexact Hat
    iexact Hr
  iexact Hg

/-- The signal of acknowledgement `r`. -/
theorem sig_ack (d : Bool) (c n : Dev nD) (hn : n = up d c) (r : ℕ) (hr : r < 30) (sem : Sem sig) (hsem : sem = ackS d) (w : BitVec 32) (hw : w = 1#32)
    (O : CellTallies nD τ sig ℕ) {α : Type} {Q : α → sProp 𝕄} {k : PUnit → Prog (TpuEff nD τ sig (Elt F) Λ₀ .tc) α} :
    iprop(allInv E K ∗ owesE c (O + tallyAt (cell (.ack d) (up d c)) r 1) ∗ dutyTok ER (cell (.ack d) (up d c)) r false ∗ reached ER (cell (.ack d) (up d c)) r
        ∗ (∃ f, slotPt fullShare d (par r) c f) ∗ reached ER (cell (.recv d (par r)) c) ((r + 1) / 2))
      ⊢ iprop((owesE c O -∗ wpc c (k ⟨⟩) Q) -∗ wpc c (.op (.semSignal (Dev.tc n) sem w.toInt) k) Q) := by
  subst hn hsem hw
  rw [show (1#32 : BitVec 32).toInt = ((1#32 : BitVec 32).toNat : Int) from rfl]
  unfold owesE
  iintro ⟨#HI, ⟨%W, HO⟩, Ht, #Hr, Hs, #Hr'⟩ Hk
  ihave HI' := (inv_of E K (.ack d) (up d c)) $$ HI
  iapply (Rounds.wp_signal 𝒱₀ ER (Rd E) (c : Thread nD τ) none (dst := (up d c : Thread nD τ)) (κ := K (up d c, .ack d))
      (r := r) (d := false) (show false ∈ (Rd E).duties (cell (.ack d) (up d c)) r by rw [duties_cell, duty_ack d r hr]; exact Finset.mem_singleton_self _)
      (show (Rd E).amount (cell (.ack d) (up d c)) r false = (1#32 : BitVec 32).toNat by rw [amount_cell]; rfl) r O rfl) $$ [HI' HO Ht Hs]
  · isplitl [HI']; · iexact HI'
    isplitl [HO]; · iexact HO
    isplitl [Ht]; · iexact Ht
    isplitl [Hs]
    · rw [show (Rd E).payload ((up d c : Thread nD τ), .reg (ackS d)) r false = _ from pay_ack E d c r]
      isplitl [Hs]; · iexact Hs
      iexact Hr'
    iexact Hr
  iintro HO
  iapply Hk
  iexists W; iexact HO

/-- The wait for the hop's own copy to have been read. -/
theorem wait_send (d : Bool) (c : Dev nD) (h : ℕ) (hh : h ≤ 30) (sem : DmaSem sig) (hsem : sem = sendS d (par h))
    {sp sp' : Space} {s s' : Shape} {e e' : EltTy} {κ' : Idealize.ShloMosaic.Kind} (sm : Memref sig .tc sp' s' e') (dm : Memref sig κ' sp s e) (hsm : sm.view.WordExact) (hdm : dm.view.WordExact)
    (hdc : dm.view.dmaCredit = N)
    (O : CellTallies nD τ sig ℕ) (hO : (levAts L lv : sProp 𝕄) ⊢ MayWait (c : Thread nD τ) (semOf (.send d (par h))) h O)
    {α : Type} {Q : α → sProp 𝕄} {k : PUnit → Prog (TpuEff nD τ sig (Elt F) Λ₀ .tc) α} :
    iprop(allInv E K ∗ levAts L lv ∗ cred (tallyAt (cell (.send d (par h)) c) h N) ∗ owesE c O ∗ pos (.send d (par h)) c (h / 2))
      ⊢ iprop(((owesE c O ∗ pos (.send d (par h)) c (h / 2 + 1) ∗ slotPt qR d (par h) c (cont d (par h) c (E (src d h c)))) -∗ wpc c (k ⟨⟩) Q)
          -∗ wpc c (.op (.waitDma2 sem sm dm hsm hdm) k) Q) := by
  subst hsem
  unfold owesE pos
  iintro ⟨#HI, #Hlev, Hc, ⟨%W, HO⟩, Hat, -⟩ Hk
  ihave HI' := (inv_of E K (.send d (par h)) c) $$ HI
  ihave HM := hO $$ Hlev
  iapply (Rounds.wp_wait_rest_token 𝒱₀ ER (Rd E) (c : Thread nD τ) none (κ := K (c, .send d (par h)))
      (wpE_waitDma2_eq 𝒱₀ (c : Thread nD τ) none Set.univ) (Set.mem_univ _) h (O := O) (W := W) (R := h / 2) (m := 0) (T := ∅)
      (show 0 + dm.view.dmaCredit = (Rd E).expect (cell (.send d (par h)) c) (h / 2) by rw [expect_one E _ _ _ (duty_send d h hh), zero_add, hdc]; rfl)) $$ [HI' HM Hc HO Hat]
  · isplitl [HI']; · iexact HI'
    isplitl [Hc]; · rw [hdc]; iexact Hc
    isplitl [HO]; · iexact HO
    isplitl [HM]; · iexact HM
    iexact Hat
  rw [show (bigSep ((Rd E).duties ((c : Thread nD τ), .dma (sendS d (par h))) (h / 2) \ ∅) fun b => (Rd E).payload ((c : Thread nD τ), .dma (sendS d (par h))) (h / 2) b)
      = slotPt qR d (par h) c (cont d (par h) c (E (src d h c))) by
    rw [Finset.sdiff_empty, show (Rd E).duties ((c : Thread nD τ), .dma (sendS d (par h))) (h / 2) = ({false} : Finset Bool) from
      (duties_cell E (.send d (par h)) c (h / 2)).trans (duty_send d h hh), bigSep_singleton]
    exact pay_send E d c h]
  iintro ⟨HO, Hat, Hr, Hg⟩
  iapply Hk
  isplitl [HO]; · iexists _; iexact HO
  isplitl [Hat Hr]
  · isplitl [Hat]; · iexact Hat
    iexact Hr
  iexact Hg

/-- The wait for the hop's incoming weights. -/
theorem wait_recv (d : Bool) (c : Dev nD) (h : ℕ) (hh : h ≤ 30) (sem : DmaSem sig) (hsem : sem = recvS d (!par h))
    {sp sp' : Space} {s s' : Shape} {e e' : EltTy} {κ' : Idealize.ShloMosaic.Kind} (sm : Memref sig .tc sp' s' e') (dm : Memref sig κ' sp s e) (hsm : sm.view.WordExact) (hdm : dm.view.WordExact)
    (hdc : dm.view.dmaCredit = N)
    (O : CellTallies nD τ sig ℕ) (hO : (levAts L lv : sProp 𝕄) ⊢ MayWait (c : Thread nD τ) (semOf (.recv d (!par h))) h O)
    {α : Type} {Q : α → sProp 𝕄} {k : PUnit → Prog (TpuEff nD τ sig (Elt F) Λ₀ .tc) α} :
    iprop(allInv E K ∗ levAts L lv ∗ cred (tallyAt (cell (.recv d (!par h)) c) h N) ∗ owesE c O ∗ pos (.recv d (!par h)) c (h / 2))
      ⊢ iprop(((owesE c O ∗ pos (.recv d (!par h)) c (h / 2 + 1) ∗ slotPt fullShare d (!par h) c (cont d (!par h) c (E (src d (h + 1) c))) ∗ reached ER (cell (.ack d) (up d c)) h) -∗ wpc c (k ⟨⟩) Q)
          -∗ wpc c (.op (.waitDma2 sem sm dm hsm hdm) k) Q) := by
  subst hsem
  unfold owesE pos
  iintro ⟨#HI, #Hlev, Hc, ⟨%W, HO⟩, Hat, -⟩ Hk
  ihave HI' := (inv_of E K (.recv d (!par h)) c) $$ HI
  ihave HM := hO $$ Hlev
  iapply (Rounds.wp_wait_rest_token 𝒱₀ ER (Rd E) (c : Thread nD τ) none (κ := K (c, .recv d (!par h)))
      (wpE_waitDma2_eq 𝒱₀ (c : Thread nD τ) none Set.univ) (Set.mem_univ _) h (O := O) (W := W) (R := h / 2) (m := 0) (T := ∅)
      (show 0 + dm.view.dmaCredit = (Rd E).expect (cell (.recv d (!par h)) c) (h / 2) by rw [expect_one E _ _ _ (duty_recv d h hh), zero_add, hdc]; rfl)) $$ [HI' HM Hc HO Hat]
  · isplitl [HI']; · iexact HI'
    isplitl [Hc]; · rw [hdc]; iexact Hc
    isplitl [HO]; · iexact HO
    isplitl [HM]; · iexact HM
    iexact Hat
  rw [show (bigSep ((Rd E).duties ((c : Thread nD τ), .dma (recvS d (!par h))) (h / 2) \ ∅) fun b => (Rd E).payload ((c : Thread nD τ), .dma (recvS d (!par h))) (h / 2) b)
      = iprop(slotPt fullShare d (!par h) c (cont d (!par h) c (E (src d (h + 1) c))) ∗ reached ER (cell (.ack d) (up d c)) h) by
    rw [Finset.sdiff_empty, show (Rd E).duties ((c : Thread nD τ), .dma (recvS d (!par h))) (h / 2) = ({false} : Finset Bool) from
      (duties_cell E (.recv d (!par h)) c (h / 2)).trans (duty_recv d h hh), bigSep_singleton]
    exact pay_recv E d c h]
  iintro ⟨HO, Hat, Hr, Hg⟩
  iapply Hk
  isplitl [HO]; · iexists _; iexact HO
  isplitl [Hat Hr]
  · isplitl [Hat]; · iexact Hat
    iexact Hr
  iexact Hg

/-! ## The copy -/

/-- What a copy leaves in the neighbour's slot: reading one slot that holds a device's weights and writing it over the
    other. -/
theorem copy_cont (d s : Bool) (c n : Dev nD) (e : S4x512x1024.Idx → Elt F .bf16) (fd : Buf (Elt F) ((slotM d (!s)).view.loc (n : Thread nD τ))) :
    ∀ i ∈ (slotM d (!s)).view.set, (slotM d (!s)).view.write (Elt F) fd ((slotM d s).view.read (Elt F) (cont d s c e)) Finset.univ i = cont d (!s) n e i := by
  intro i hi
  obtain ⟨j, -, rfl⟩ := Finset.mem_map.mp hi
  refine ((slotM d (!s)).view.write_emb_of_mem (Val := Elt F) fd _ (Finset.mem_univ j)).trans ?_
  have hw : ∀ (dd : Bool) (x y : S2x2x512x1024.Idx), x 1 = y 1 → x 2 = y 2 → x 3 = y 3 → wbuf dd e x = wbuf dd e y := by
    intro dd x y h1 h2 h3
    unfold wbuf
    refine congrArg e (funext fun a => ?_)
    fin_cases a
    · exact Fin.ext (congrArg (fun v : Fin 2 => cond dd 2 0 + v.val) h1)
    · exact Fin.ext (congrArg (fun v : Fin 512 => v.val) h2)
    · exact Fin.ext (congrArg (fun v : Fin 1024 => v.val) h3)
  cases d <;> cases s
  · exact hw false _ _ rfl rfl rfl
  · exact hw false _ _ rfl rfl rfl
  · exact hw true _ _ rfl rfl rfl
  · exact hw true _ _ rfl rfl rfl

/-- The start of one remote copy. -/
theorem send_step (d : Bool) (c n : Dev nD) (hn : n = dn d c) (h : ℕ) (hh : h ≤ 30) (s s' : Bool) (hs : par h = s) (hs' : s' = !s)
    (sm dm : Memref sig .tc .vmem S2x512x1024 .bf16) (hsm : sm = slotM d s) (hdm : dm = slotM d s')
    (ss rs : DmaSem sig) (hss : ss = sendS d s) (hrs : rs = recvS d s')
    (hsc : dm.view.ref.isScScratch = false) (hsrc : sm.view.WordExact) (hdst : dm.view.WordExact)
    (hsem : DmaTarget.Typed (nD := nD) (τ := τ) .vmem (.dma rs) (.remote (Dev.tc n) dm (.dma ss) hsc))
    (O : CellTallies nD τ sig ℕ) {α : Type} {Q : α → sProp 𝕄} {k : PUnit → Prog (TpuEff nD τ sig (Elt F) Λ₀ .tc) α} :
    iprop(allInv E K ∗ slotPt fullShare d s c (cont d s c (E (src d h c))) ∗ grant d c h
        ∗ owesE c (O + tallyAt (cell (.recv d s') (dn d c)) h N) ∗ dutyTok ER (cell (.send d s) c) (h / 2) false ∗ reached ER (cell (.send d s) c) (h / 2)
        ∗ dutyTok ER (cell (.recv d s') (dn d c)) (h / 2) false ∗ reached ER (cell (.ack d) c) h)
      ⊢ iprop(((cred (tallyAt (cell (.send d s) c) h N) ∗ owesE c O ∗ slotPt qL d s c (cont d s c (E (src d h c)))) -∗ wpc c (k ⟨⟩) Q)
          -∗ wpc c (.op (.enqueueDma sm (.remote (Dev.tc n) dm (.dma ss) hsc) (.dma rs) hsrc hdst hsem) k) Q) := by
  subst hn hs hs' hsm hdm hss hrs
  unfold owesE grant
  iintro ⟨#HI, Hs, ⟨⟨%fd, Hd⟩, #Hrr⟩, ⟨%W, HO⟩, Ht, #Hr, Ht', #Ha⟩ Hk
  ihave HI1 := (inv_of E K (.send d (par h)) c) $$ HI
  ihave HI2 := (inv_of E K (.recv d (!par h)) (dn d c)) $$ HI
  unfold slotPt
  ihave Hs2 := (pointsTo_share (PosShare.mem_left_op_right fullShare)).1 $$ Hs
  icases Hs2 with ⟨HsL, HsR⟩
  iapply (Rounds.wp_send_pointsTo_with 𝒱₀ ER (Rd E) (c : Thread nD τ) none (c' := (dn d c : Thread nD τ))
      (κ₁ := K (c, .send d (par h))) (κ₂ := K (dn d c, .recv d (!par h)))
      (src := slotM d (par h)) (dst := slotM d (!par h)) (sS := .dma (sendS d (par h))) (sem := .dma (recvS d (!par h))) (q := qR)
      (fs := cont d (par h) c (E (src d h c))) (fd := fd) (F := reached ER (cell (.ack d) c) h)
      (r₁ := h / 2) (r₂ := h / 2) (d₁ := false) (d₂ := false)
      (show false ∈ (Rd E).duties (cell (.send d (par h)) c) (h / 2) by rw [duties_cell, duty_send d h hh]; exact Finset.mem_singleton_self _)
      (show false ∈ (Rd E).duties (cell (.recv d (!par h)) (dn d c)) (h / 2) by rw [duties_cell, duty_recv d h hh]; exact Finset.mem_singleton_self _)
      h h N (credit_slot d (!par h))
      (amount_cell E (.send d (par h)) c (h / 2) false) (amount_cell E (.recv d (!par h)) (dn d c) (h / 2) false)
      O rfl
      (Entails.of_eq (pay_send E d c h).symm)
      (show _ ⊢ (Rd E).payload (cell (.recv d (!par h)) (dn d c)) (h / 2) false by
        rw [pay_recv E d (dn d c) h, src_dn, up_dn]
        unfold slotPt
        rw [pointsTo_congr (copy_cont d (par h) c (dn d c) (E (src d h c)) fd)])) $$ [HI1 HI2 HsR Hd HO Ht Ht']
  · isplitl [HI1]; · iexact HI1
    isplitl [HI2]; · iexact HI2
    isplitl [HsR]; · iexact HsR
    isplitl [Hd]
    · isplitl [Hd]; · iexact Hd
      iexact Ha
    isplitl [HO]; · iexact HO
    isplitl [Ht]; · iexact Ht
    isplitr; · iexact Hr
    isplitl [Ht']; · iexact Ht'
    iexact Hrr
  iintro ⟨Hc, HO⟩
  iapply Hk
  isplitl [Hc]; · iexact Hc
  isplitl [HO]; · iexists W; iexact HO
  iexact HsL

end Cert.Proof.Ring
-- ==== Proof.Ring.State.lean ====
/- A core's state in one direction at each point of a hop, and what each step does to it.

  At hop `h`: `Rdy` (free to send), `Fly` (its copy is under way), `Snt` (its copy has been read), `Pst` (the next weights are
  here); `St r` is the start of hop `r + 1`, before acknowledgement `r` has been waited for.
-/
module

public import proofs.«01_k».proof.Proof.Ring.Steps

@[expose] public section

set_option maxRecDepth 16384

noncomputable section

namespace Cert.Proof.Ring

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (E : Wts F) (K : Dev nD × Kind → ℕ)

/-- A slot that holds the weights of device `x`. -/
def slotW (q : PosShare TreeShare) (d s : Bool) (c x : Dev nD) : sProp 𝕄 := slotPt q d s c (cont d s c (E x))

/-- The positions at the send cells and at the receive cells at the start of hop `h`. -/
def posS (d : Bool) (c : Dev nD) (h : ℕ) : sProp 𝕄 := iprop(pos (.send d (par h)) c (h / 2) ∗ pos (.send d (!par h)) c ((h + 1) / 2))
def posR (d : Bool) (c : Dev nD) (h : ℕ) : sProp 𝕄 := iprop(pos (.recv d (!par h)) c (h / 2) ∗ pos (.recv d (par h)) c ((h + 1) / 2))

/-- The duties of the copies from hop `h` on; -/
def toks (d : Bool) (c : Dev nD) (h : ℕ) : sProp 𝕄 := bigSep (Finset.Ico h 31) fun k =>
  iprop(dutyTok ER (cell (.send d (par k)) c) (k / 2) false ∗ dutyTok ER (cell (.recv d (!par k)) (dn d c)) (k / 2) false)
/-- the units that the incoming copies from hop `h` on are expected to bring; -/
def creds (d : Bool) (c : Dev nD) (h : ℕ) : sProp 𝕄 := bigSep (Finset.Ico h 31) fun k => cred (tallyAt (cell (.recv d (!par k)) c) k N)
/-- the duties of the acknowledgements from round `h` on; -/
def acks (d : Bool) (c : Dev nD) (h : ℕ) : sProp 𝕄 := bigSep (Finset.Ico h 30) fun k => dutyTok ER (cell (.ack d) (up d c)) k false
/-- the units the awaited acknowledgements are expected to bring. -/
def ackc (d : Bool) (c : Dev nD) (h : ℕ) : sProp 𝕄 := bigSep (Finset.Ico h 30) fun k => cred (tallyAt (cell (.ack d) c) k 1)

/-- The first term of a separating conjunction over an interval. -/
theorem peel (f : ℕ → sProp 𝕄) (h n : ℕ) (hn : h < n) : bigSep (Finset.Ico h n) f = iprop(f h ∗ bigSep (Finset.Ico (h + 1) n) f) := by
  rw [← Finset.insert_Ico_add_one_left_eq_Ico hn, bigSep_insert (by simp)]; rfl

def Rdy (d : Bool) (c : Dev nD) (h : ℕ) : sProp 𝕄 :=
  iprop(posS d c h ∗ posR d c h ∗ pos (.ack d) c h ∗ toks d c h ∗ creds d c h ∗ acks d c h ∗ ackc d c h ∗ slotW E fullShare d (par h) c (src d h c) ∗ grant d c h)
def Fly (d : Bool) (c : Dev nD) (h : ℕ) : sProp 𝕄 :=
  iprop(posS d c h ∗ posR d c h ∗ pos (.ack d) c h ∗ toks d c (h + 1) ∗ creds d c h ∗ acks d c h ∗ ackc d c h ∗ slotW E qL d (par h) c (src d h c) ∗ cred (tallyAt (cell (.send d (par h)) c) h N))
def Snt (d : Bool) (c : Dev nD) (h : ℕ) : sProp 𝕄 :=
  iprop(posS d c (h + 1) ∗ posR d c h ∗ pos (.ack d) c h ∗ toks d c (h + 1) ∗ creds d c h ∗ acks d c h ∗ ackc d c h ∗ slotW E fullShare d (par h) c (src d h c))
def Pst (d : Bool) (c : Dev nD) (h : ℕ) : sProp 𝕄 :=
  iprop(posS d c (h + 1) ∗ posR d c (h + 1) ∗ pos (.ack d) c h ∗ toks d c (h + 1) ∗ creds d c (h + 1) ∗ acks d c h ∗ ackc d c h
    ∗ slotW E fullShare d (par h) c (src d h c) ∗ slotW E fullShare d (!par h) c (src d (h + 1) c) ∗ reached ER (cell (.ack d) (up d c)) h)
def St (d : Bool) (c : Dev nD) (r : ℕ) : sProp 𝕄 :=
  iprop(posS d c (r + 1) ∗ posR d c (r + 1) ∗ pos (.ack d) c r ∗ toks d c (r + 1) ∗ creds d c (r + 1) ∗ acks d c (r + 1) ∗ ackc d c r ∗ slotW E fullShare d (!par r) c (src d (r + 1) c))

/-- Acknowledgement `r` arrives: the core is ready for hop `r + 1`. -/
theorem st_ack (d : Bool) (c : Dev nD) (r : ℕ) (hr : r < 30) (sem : Sem sig) (hsem : sem = ackS d) (w : BitVec 32) (hw : w = 1#32)
    (O : CellTallies nD τ sig ℕ) (hO : (levAts L lv : sProp 𝕄) ⊢ MayWait (c : Thread nD τ) (semOf (.ack d)) r O)
    {α : Type} {Q : α → sProp 𝕄} {k : PUnit → Prog (TpuEff nD τ sig (Elt F) Λ₀ .tc) α} :
    iprop(allInv E K ∗ levAts L lv ∗ owesE c O ∗ St E d c r)
      ⊢ iprop(((owesE c O ∗ Rdy E d c (r + 1)) -∗ wpc c (k ⟨⟩) Q) -∗ wpc c (.op (.semWait sem w.toInt) k) Q) := by
  unfold St Rdy ackc
  rw [peel _ r 30 hr, par_succ]
  iintro ⟨#HI, #Hlev, HO, H1, H2, Hp, H3, H4, H5, ⟨Hc, H6⟩, H7⟩ Hk
  iapply (wait_ack E K d c r hr sem hsem w hw O hO) $$ [Hc HO Hp]
  · isplitr; · iexact HI
    isplitr; · iexact Hlev
    isplitl [Hc]; · iexact Hc
    isplitl [HO]; · iexact HO
    iexact Hp
  iintro ⟨HO, Hp, Hg⟩
  iapply Hk
  isplitl [HO]; · iexact HO
  isplitl [H1]; · iexact H1
  isplitl [H2]; · iexact H2
  isplitl [Hp]; · iexact Hp
  isplitl [H3]; · iexact H3
  isplitl [H4]; · iexact H4
  isplitl [H5]; · iexact H5
  isplitl [H6]; · iexact H6
  isplitl [H7]; · iexact H7
  iexact Hg

/-- The copy of hop `h` starts. -/
theorem rdy_send (d : Bool) (c n : Dev nD) (hn : n = dn d c) (h : ℕ) (hh : h ≤ 30) (s s' : Bool) (hs : par h = s) (hs' : s' = !s)
    (sm dm : Memref sig .tc .vmem S2x512x1024 .bf16) (hsm : sm = slotM d s) (hdm : dm = slotM d s')
    (ss rs : DmaSem sig) (hss : ss = sendS d s) (hrs : rs = recvS d s')
    (hsc : dm.view.ref.isScScratch = false) (hsrc : sm.view.WordExact) (hdst : dm.view.WordExact)
    (hsem : DmaTarget.Typed (nD := nD) (τ := τ) .vmem (.dma rs) (.remote (Dev.tc n) dm (.dma ss) hsc))
    (O O' : CellTallies nD τ sig ℕ) (hO : O = O' + tallyAt (cell (.recv d (!par h)) (dn d c)) h N)
    {α : Type} {Q : α → sProp 𝕄} {k : PUnit → Prog (TpuEff nD τ sig (Elt F) Λ₀ .tc) α} :
    iprop(allInv E K ∗ owesE c O ∗ Rdy E d c h)
      ⊢ iprop(((owesE c O' ∗ Fly E d c h) -∗ wpc c (k ⟨⟩) Q)
          -∗ wpc c (.op (.enqueueDma sm (.remote (Dev.tc n) dm (.dma ss) hsc) (.dma rs) hsrc hdst hsem) k) Q) := by
  subst hO
  unfold Rdy Fly toks slotW posS pos
  rw [peel _ h 31 (by omega)]
  iintro ⟨#HI, HO, ⟨⟨Ha, #Hra⟩, H1⟩, H2, ⟨Hb, #Hrb⟩, ⟨⟨Ht, Ht'⟩, H3⟩, H4, H5, H6, H7, Hg⟩ Hk
  subst hs hs'
  iapply (send_step E K d c n hn h hh (par h) (!par h) rfl rfl sm dm hsm hdm ss rs hss hrs hsc hsrc hdst hsem O') $$ [HO Ht Ht' H7 Hg]
  · isplitr; · iexact HI
    isplitl [H7]; · iexact H7
    isplitl [Hg]; · iexact Hg
    isplitl [HO]; · iexact HO
    isplitl [Ht]; · iexact Ht
    isplitr; · iexact Hra
    isplitl [Ht']; · iexact Ht'
    iexact Hrb
  iintro ⟨Hc, HO, H7⟩
  iapply Hk
  isplitl [HO]; · iexact HO
  isplitl [Ha H1]
  · isplitl [Ha]
    · isplitl [Ha]; · iexact Ha
      iexact Hra
    iexact H1
  isplitl [H2]; · iexact H2
  isplitl [Hb]
  · isplitl [Hb]; · iexact Hb
    iexact Hrb
  isplitl [H3]; · iexact H3
  isplitl [H4]; · iexact H4
  isplitl [H5]; · iexact H5
  isplitl [H6]; · iexact H6
  isplitl [H7]; · iexact H7
  iexact Hc

/-- The copy of hop `h` has been read. -/
theorem fly_wait (d : Bool) (c : Dev nD) (h : ℕ) (hh : h ≤ 30) (sem : DmaSem sig) (hsem : sem = sendS d (par h))
    {sp sp' : Space} {s s' : Shape} {e e' : EltTy} {κ' : Idealize.ShloMosaic.Kind} (sm : Memref sig .tc sp' s' e') (dm : Memref sig κ' sp s e) (hsm : sm.view.WordExact) (hdm : dm.view.WordExact)
    (hdc : dm.view.dmaCredit = N)
    (O : CellTallies nD τ sig ℕ) (hO : (levAts L lv : sProp 𝕄) ⊢ MayWait (c : Thread nD τ) (semOf (.send d (par h))) h O)
    {α : Type} {Q : α → sProp 𝕄} {k : PUnit → Prog (TpuEff nD τ sig (Elt F) Λ₀ .tc) α} :
    iprop(allInv E K ∗ levAts L lv ∗ owesE c O ∗ Fly E d c h)
      ⊢ iprop(((owesE c O ∗ Snt E d c h) -∗ wpc c (k ⟨⟩) Q) -∗ wpc c (.op (.waitDma2 sem sm dm hsm hdm) k) Q) := by
  unfold Fly Snt posS slotW
  rw [par_succ, Bool.not_not]
  iintro ⟨#HI, #Hlev, HO, ⟨Ha, H1⟩, H2, Hb, H3, H4, H5, H6, H7, Hc⟩ Hk
  iapply (wait_send E K d c h hh sem hsem sm dm hsm hdm hdc O hO) $$ [HO Hc Ha]
  · isplitr; · iexact HI
    isplitr; · iexact Hlev
    isplitl [Hc]; · iexact Hc
    isplitl [HO]; · iexact HO
    iexact Ha
  iintro ⟨HO, Ha, H8⟩
  iapply Hk
  isplitl [HO]; · iexact HO
  isplitl [Ha H1]
  · isplitl [H1]; · iexact H1
    rw [show (h + 1 + 1) / 2 = h / 2 + 1 by omega]; iexact Ha
  isplitl [H2]; · iexact H2
  isplitl [Hb]; · iexact Hb
  isplitl [H3]; · iexact H3
  isplitl [H4]; · iexact H4
  isplitl [H5]; · iexact H5
  isplitl [H6]; · iexact H6
  unfold slotPt
  iapply (pointsTo_share (PosShare.mem_left_op_right fullShare)).2
  isplitl [H7] <;> iassumption

/-- The weights for hop `h + 1` have come. -/
theorem snt_wait (d : Bool) (c : Dev nD) (h : ℕ) (hh : h ≤ 30) (sem : DmaSem sig) (hsem : sem = recvS d (!par h))
    {sp sp' : Space} {s s' : Shape} {e e' : EltTy} {κ' : Idealize.ShloMosaic.Kind} (sm : Memref sig .tc sp' s' e') (dm : Memref sig κ' sp s e) (hsm : sm.view.WordExact) (hdm : dm.view.WordExact)
    (hdc : dm.view.dmaCredit = N)
    (O : CellTallies nD τ sig ℕ) (hO : (levAts L lv : sProp 𝕄) ⊢ MayWait (c : Thread nD τ) (semOf (.recv d (!par h))) h O)
    {α : Type} {Q : α → sProp 𝕄} {k : PUnit → Prog (TpuEff nD τ sig (Elt F) Λ₀ .tc) α} :
    iprop(allInv E K ∗ levAts L lv ∗ owesE c O ∗ Snt E d c h)
      ⊢ iprop(((owesE c O ∗ Pst E d c h) -∗ wpc c (k ⟨⟩) Q) -∗ wpc c (.op (.waitDma2 sem sm dm hsm hdm) k) Q) := by
  unfold Snt Pst creds posR slotW
  rw [peel _ h 31 (by omega), par_succ, Bool.not_not]
  iintro ⟨#HI, #Hlev, HO, H2, ⟨Ha, H1⟩, Hb, H3, ⟨Hc, H4⟩, H5, H6, H7⟩ Hk
  iapply (wait_recv E K d c h hh sem hsem sm dm hsm hdm hdc O hO) $$ [HO Hc Ha]
  · isplitr; · iexact HI
    isplitr; · iexact Hlev
    isplitl [Hc]; · iexact Hc
    isplitl [HO]; · iexact HO
    iexact Ha
  iintro ⟨HO, Ha, H8, H9⟩
  iapply Hk
  isplitl [HO]; · iexact HO
  isplitl [H2]; · iexact H2
  isplitl [Ha H1]
  · isplitl [H1]; · iexact H1
    rw [show (h + 1 + 1) / 2 = h / 2 + 1 by omega]; iexact Ha
  isplitl [Hb]; · iexact Hb
  isplitl [H3]; · iexact H3
  isplitl [H4]; · iexact H4
  isplitl [H5]; · iexact H5
  isplitl [H6]; · iexact H6
  isplitl [H7]; · iexact H7
  isplitl [H8]; · iexact H8
  iexact H9

/-- The slot that hop `h` has read is handed back. -/
theorem pst_ack (d : Bool) (c n : Dev nD) (hn : n = up d c) (h : ℕ) (hh : h < 30) (sem : Sem sig) (hsem : sem = ackS d) (w : BitVec 32) (hw : w = 1#32)
    (O O' : CellTallies nD τ sig ℕ) (hO : O = O' + tallyAt (cell (.ack d) (up d c)) h 1)
    {α : Type} {Q : α → sProp 𝕄} {k : PUnit → Prog (TpuEff nD τ sig (Elt F) Λ₀ .tc) α} :
    iprop(allInv E K ∗ owesE c O ∗ Pst E d c h)
      ⊢ iprop(((owesE c O' ∗ St E d c h) -∗ wpc c (k ⟨⟩) Q) -∗ wpc c (.op (.semSignal (Dev.tc n) sem w.toInt) k) Q) := by
  subst hO
  unfold Pst St acks posR slotW
  rw [peel _ h 30 hh, par_succ, Bool.not_not]
  unfold pos
  iintro ⟨#HI, HO, H2, ⟨⟨Ha, #Hra⟩, H1⟩, Hb, H3, H4, ⟨Ht, H5⟩, H6, H7, H8, H9⟩ Hk
  iapply (sig_ack E K d c n hn h hh sem hsem w hw O') $$ [HO Ht H7 H9]
  · isplitr; · iexact HI
    isplitl [HO]; · iexact HO
    isplitl [Ht]; · iexact Ht
    isplitl [H9]; · iexact H9
    isplitl [H7]; · iexists _; iexact H7
    iexact Hra
  iintro HO
  iapply Hk
  isplitl [HO]; · iexact HO
  isplitl [H2]; · iexact H2
  isplitl [Ha H1]
  · isplitl [Ha]
    · isplitl [Ha]; · iexact Ha
      iexact Hra
    iexact H1
  isplitl [Hb]; · iexact Hb
  isplitl [H3]; · iexact H3
  isplitl [H4]; · iexact H4
  isplitl [H5]; · iexact H5
  isplitl [H6]; · iexact H6
  iexact H8

/-! ## What is owed, both directions -/

/-- What is owed before a send in the first direction. -/
theorem Ow_send_f (c : Dev nD) (h j h' j' : ℕ) (hh : h ≤ 30) :
    Ow c h j h' j' = Ow c (h + 1) j h' j' + tallyAt (cell (.recv false (!par h)) (dn false c)) h N := by
  unfold Ow; rw [OwD_send false c h j hh]; abel
/-- What is owed before a send in the second direction. -/
theorem Ow_send_t (c : Dev nD) (h j h' j' : ℕ) (hh : h' ≤ 30) :
    Ow c h j h' j' = Ow c h j (h' + 1) j' + tallyAt (cell (.recv true (!par h')) (dn true c)) h' N := by
  unfold Ow; rw [OwD_send true c h' j' hh]; abel
/-- What is owed before an acknowledgement in the first direction. -/
theorem Ow_ack_f (c : Dev nD) (h j h' j' : ℕ) (hj : j < 30) :
    Ow c h j h' j' = Ow c h (j + 1) h' j' + tallyAt (cell (.ack false) (up false c)) j 1 := by
  unfold Ow; rw [OwD_ack false c h j hj]; abel
/-- What is owed before an acknowledgement in the second direction. -/
theorem Ow_ack_t (c : Dev nD) (h j h' j' : ℕ) (hj : j' < 30) :
    Ow c h j h' j' = Ow c h j h' (j' + 1) + tallyAt (cell (.ack true) (up true c)) j' 1 := by
  unfold Ow; rw [OwD_ack true c h' j' hj]; abel

end Cert.Proof.Ring
-- ==== Proof.Ring.Compute.lean ====
/- The loads and the stores of one product, and what the result array holds.

  Row block `b` (64 rows) of the result is the product of row block `b` of the tokens with one expert's weights: block
  `64 d + 2 h + j` uses expert `2 d + j` of the device that is `h` steps upstream in direction `d`.
-/
module

public import proofs.«01_k».proof.Proof.Ring.State

@[expose] public section

set_option maxRecDepth 16384

noncomputable section

namespace Cert.Proof.Ring

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

abbrev xM : Memref sig .tc .vmem S8192x512 .bf16 := Memref.whole cc0_stg0_0
abbrev eM : Memref sig .tc .vmem S4x512x1024 .bf16 := Memref.whole cc0_stg1_0
abbrev yM : Memref sig .tc .vmem S8192x1024 .bf16 := Memref.whole cc0_stg4_0

/-! ## Which elements a slot has -/

def sIx (s : Bool) : ℕ := cond s 1 0

/-- The elements of slot `s` of a communication buffer. -/
def slotSet (s : Bool) : Finset S2x2x512x1024.Idx := Finset.univ.filter fun i => (i 0).val = sIx s

/-- An index belongs to the slot that its first coordinate names. -/
theorem mem_slotSet (s : Bool) (i : S2x2x512x1024.Idx) : i ∈ slotSet s ↔ (i 0).val = sIx s := by simp [slotSet]

/-- The rectangle of a slot covers that slot's elements. -/
theorem rect_slot (s : Bool) (off : Fin 4 → ℕ) (hoff : off = ![sIx s, 0, 0, 0]) (inb : ∀ a, off a + S1x2x512x1024.size a ≤ S2x2x512x1024.size a) :
    (Rect.unit (s := S2x2x512x1024) off S1x2x512x1024.size inb).set = slotSet s := by
  subst hoff
  ext i
  rw [LoadRect.mem_set, mem_slotSet]
  constructor
  · intro h
    obtain ⟨j, hj, e⟩ := h 0
    have hj : j < 1 := hj
    have e : (i 0).val = sIx s + 1 * j := e
    omega
  · intro h a
    have h1 : (i 1).val < 2 := (i 1).isLt
    have h2 : (i 2).val < 512 := (i 2).isLt
    have h3 : (i 3).val < 1024 := (i 3).isLt
    fin_cases a
    · exact ⟨0, (by decide : 0 < 1), show (i 0).val = sIx s + 1 * 0 by omega⟩
    · exact ⟨(i 1).val, h1, show (i 1).val = 0 + 1 * (i 1).val by omega⟩
    · exact ⟨(i 2).val, h2, show (i 2).val = 0 + 1 * (i 2).val by omega⟩
    · exact ⟨(i 3).val, h3, show (i 3).val = 0 + 1 * (i 3).val by omega⟩

/-- Elements of a direction's communication buffer. -/
def scrPt (q : PosShare TreeShare) (d : Bool) (S : Finset S2x2x512x1024.Idx) (c : Dev nD) (f : S2x2x512x1024.Idx → Elt F .bf16) : sProp 𝕄 :=
  match d with
  | false => (c : Thread nD τ).loc cc0_scratch0 ↦[S]{q} f
  | true => (c : Thread nD τ).loc cc0_scratch1 ↦[S]{q} f

/-- A slot seen through its own view and seen in the whole buffer are the same memory. -/
theorem slotPt_eq (q : PosShare TreeShare) (d s : Bool) (c : Dev nD) :
    ∃ g : (S2x2x512x1024.Idx → Elt F .bf16) → Buf (Elt F) ((slotM d s).view.loc (c : Thread nD τ)),
      (∀ e, g (wbuf d e) = cont d s c e) ∧ (∀ f, ∃ f', g f' = f) ∧ ∀ f, slotPt q d s c (g f) = scrPt q d (slotSet s) c f := by
  cases d <;> cases s
  · refine ⟨fun f => f, fun _ => rfl, fun f => ⟨f, rfl⟩, fun f => ?_⟩
    unfold slotPt
    simp only [slotM, commM, Memref.view_squeeze, Memref.view_slice, Memref.view_whole, View.set_reshape, View.set_slice_whole]
    rw [← rect_slot false _ rfl inb_S2x2x512x1024_S1x2x512x1024_0_0_0_0]; rfl
  · refine ⟨fun f => f, fun _ => rfl, fun f => ⟨f, rfl⟩, fun f => ?_⟩
    unfold slotPt
    simp only [slotM, commM, Memref.view_squeeze, Memref.view_slice, Memref.view_whole, View.set_reshape, View.set_slice_whole]
    rw [← rect_slot true _ rfl inb_S2x2x512x1024_S1x2x512x1024_1_0_0_0]; rfl
  · refine ⟨fun f => f, fun _ => rfl, fun f => ⟨f, rfl⟩, fun f => ?_⟩
    unfold slotPt
    simp only [slotM, commM, Memref.view_squeeze, Memref.view_slice, Memref.view_whole, View.set_reshape, View.set_slice_whole]
    rw [← rect_slot false _ rfl inb_S2x2x512x1024_S1x2x512x1024_0_0_0_0]; rfl
  · refine ⟨fun f => f, fun _ => rfl, fun f => ⟨f, rfl⟩, fun f => ?_⟩
    unfold slotPt
    simp only [slotM, commM, Memref.view_squeeze, Memref.view_slice, Memref.view_whole, View.set_reshape, View.set_slice_whole]
    rw [← rect_slot true _ rfl inb_S2x2x512x1024_S1x2x512x1024_1_0_0_0]; rfl

variable (E : Wts F)

/-- A slot that holds a device's weights, seen in the whole buffer. -/
theorem slotW_eq (q : PosShare TreeShare) (d s : Bool) (c x : Dev nD) : slotW E q d s c x = scrPt q d (slotSet s) c (wbuf d (E x)) := by
  obtain ⟨g, h1, -, h3⟩ := slotPt_eq (F := F) q d s c
  unfold slotW; rw [← h1, h3]

/-- A slot of the buffer, with anything in it, as a slot. -/
theorem scrPt_slot (d s : Bool) (c : Dev nD) (f : S2x2x512x1024.Idx → Elt F .bf16) : scrPt fullShare d (slotSet s) c f ⊢ iprop(∃ f, slotPt fullShare d s c f) := by
  obtain ⟨g, -, -, h3⟩ := slotPt_eq (F := F) fullShare d s c
  rw [← h3]; iintro H; iexists _; iexact H

/-- A slot, with anything in it, as a part of the buffer. -/
theorem slot_scrPt (d s : Bool) (c : Dev nD) : iprop(∃ f, slotPt fullShare d s c f) ⊢ (iprop(∃ f, scrPt fullShare d (slotSet s) c f) : sProp 𝕄) := by
  obtain ⟨g, -, h2, h3⟩ := slotPt_eq (F := F) fullShare d s c
  iintro ⟨%f, H⟩
  obtain ⟨f', rfl⟩ := h2 f
  iexists f'
  iapply (Entails.of_eq (h3 f'))
  iexact H

/-- The two slots make up the buffer. -/
theorem slots_univ : slotSet false ∪ slotSet true = Finset.univ := by
  ext i; simp only [Finset.mem_union, mem_slotSet, Finset.mem_univ, iff_true, sIx, cond]
  have : (i 0).val < 2 := (i 0).isLt
  omega
/-- The two slots have no element in common. -/
theorem slots_disj : Disjoint (slotSet false) (slotSet true) := by
  rw [Finset.disjoint_left]; intro i; simp only [mem_slotSet, sIx, cond]; omega

/-- A whole communication buffer is its two slots. -/
theorem scrPt_split (d : Bool) (c : Dev nD) (f : S2x2x512x1024.Idx → Elt F .bf16) :
    scrPt fullShare d Finset.univ c f ⊢ (iprop(scrPt fullShare d (slotSet false) c f ∗ scrPt fullShare d (slotSet true) c f) : sProp 𝕄) := by
  rw [← slots_univ]
  cases d
  · exact (pointsTo_union slots_disj).1
  · exact (pointsTo_union slots_disj).1
/-- Both slots together are the whole buffer. -/
theorem scrPt_join (d : Bool) (c : Dev nD) (f g : S2x2x512x1024.Idx → Elt F .bf16) :
    iprop(scrPt fullShare d (slotSet false) c f ∗ scrPt fullShare d (slotSet true) c g) ⊢ (iprop(∃ f, scrPt fullShare d Finset.univ c f) : sProp 𝕄) := by
  rw [← slots_univ]
  cases d
  · exact (pointsTo_join (f := f) (g := g) (ℓ := (c : Thread nD τ).loc cc0_scratch0) slots_disj).trans
      (BIClass.exists_intro (Φ := fun f => scrPt fullShare false (slotSet false ∪ slotSet true) c f) _)
  · exact (pointsTo_join (f := f) (g := g) (ℓ := (c : Thread nD τ).loc cc0_scratch1) slots_disj).trans
      (BIClass.exists_intro (Φ := fun f => scrPt fullShare true (slotSet false ∪ slotSet true) c f) _)

/-! ## The loads and the stores -/

def xIdx (b : Fin 128) (i : S64x512.Idx) : S8192x512.Idx := fun a =>
  match a with
  | ⟨0, _⟩ => ⟨64 * b.val + (i 0).val, by have : (i 0).val < 64 := (i 0).isLt; have := b.isLt; show _ < 8192; omega⟩
  | ⟨1, _⟩ => ⟨(i 1).val, (i 1).isLt⟩
/-- Row block `b` of the tokens. -/
def xblk (X : S8192x512.Idx → Elt F .bf16) (b : Fin 128) : Vec F S64x512 .bf16 := fun i => X (xIdx b i)

def eIdx (d : Bool) (j : Fin 2) (i : S1x1x512x1024.Idx) : S4x512x1024.Idx := fun a =>
  match a with
  | ⟨0, _⟩ => ⟨cond d 2 0 + j.val, by have := j.isLt; cases d <;> (show _ < 4; simp only [cond_true, cond_false]; omega)⟩
  | ⟨1, _⟩ => ⟨(i 2).val, (i 2).isLt⟩
  | ⟨2, _⟩ => ⟨(i 3).val, (i 3).isLt⟩
/-- Expert `2 d + j` of a device's weights. -/
def wblk (d : Bool) (j : Fin 2) (e : S4x512x1024.Idx → Elt F .bf16) : Vec F S1x1x512x1024 .bf16 := fun i => e (eIdx d j i)

def yIdx (b : Fin 128) (i : S64x1024.Idx) : S8192x1024.Idx := fun a =>
  match a with
  | ⟨0, _⟩ => ⟨64 * b.val + (i 0).val, by have : (i 0).val < 64 := (i 0).isLt; have := b.isLt; show _ < 8192; omega⟩
  | ⟨1, _⟩ => ⟨(i 1).val, (i 1).isLt⟩

/-- A load of one row block of the tokens. -/
theorem ld_x (c : Dev nD) (X : S8192x512.Idx → Elt F .bf16) (b : Fin 128) (off : Fin 2 → ℕ) (hoff : off = ![64 * b.val, 0])
    (inb : ∀ a, off a + S64x512.size a ≤ S8192x512.size a) (hl : xM.view.LoadsAt (Rect.unit (s := S8192x512) off S64x512.size inb).toLoadRect)
    {α : Type} {Q : α → sProp 𝕄} {k : Vec F S64x512 .bf16 → Prog (TpuEff nD τ sig (Elt F) Λ₀ .tc) α} :
    ((c : Thread nD τ).loc cc0_stg0_0 ↦{fullShare} X)
      ⊢ iprop((((c : Thread nD τ).loc cc0_stg0_0 ↦{fullShare} X) -∗ wpc c (k (xblk X b)) Q)
          -∗ wpc c (.op (.load xM (Rect.unit (s := S8192x512) off S64x512.size inb).toLoadRect hl) k) Q) := by
  subst hoff
  have h := wp_load (Val := Elt F) (defs := defs₀ (F := F)) 𝒱₀ (c : Thread nD τ) none (Γ := .empty) Set.univ (m := xM) (hl := hl) (k := k) (Q := Q) (q := fullShare) (f := X) (Finset.subset_univ _)
  have hv : xM.view.readAt (Elt F) (Rect.unit (s := S8192x512) ![64 * b.val, 0] S64x512.size inb).toLoadRect X = xblk X b := by
    funext i
    show X _ = X _
    congr 1
    funext a
    fin_cases a
    · exact Fin.ext (show 64 * b.val + 1 * (i 0).val = 64 * b.val + (i 0).val by omega)
    · exact Fin.ext (show 0 + 1 * (i 1).val = (i 1).val by omega)
  rw [hv] at h
  exact h

/-- A load of one expert's weights from a slot. -/
theorem ld_w (c x : Dev nD) (q : PosShare TreeShare) (d s : Bool) (j : Fin 2) (m : Memref sig .tc .vmem S2x2x512x1024 .bf16) (hm : m = commM d)
    (off : Fin 4 → ℕ) (hoff : off = ![sIx s, j.val, 0, 0])
    (inb : ∀ a, off a + S1x1x512x1024.size a ≤ S2x2x512x1024.size a) (hl : m.view.LoadsAt (Rect.unit (s := S2x2x512x1024) off S1x1x512x1024.size inb).toLoadRect)
    {α : Type} {Q : α → sProp 𝕄} {k : Vec F S1x1x512x1024 .bf16 → Prog (TpuEff nD τ sig (Elt F) Λ₀ .tc) α} :
    slotW E q d s c x
      ⊢ iprop((slotW E q d s c x -∗ wpc c (k (wblk d j (E x))) Q)
          -∗ wpc c (.op (.load m (Rect.unit (s := S2x2x512x1024) off S1x1x512x1024.size inb).toLoadRect hl) k) Q) := by
  subst hm hoff
  rw [slotW_eq]
  have hmem : ∀ i ∈ (Rect.unit (s := S2x2x512x1024) ![sIx s, j.val, 0, 0] S1x1x512x1024.size inb).set, i ∈ slotSet s := by
    intro i hi
    rw [LoadRect.mem_set] at hi
    obtain ⟨t, ht, e⟩ := hi 0
    have ht : t < 1 := ht
    have e : (i 0).val = sIx s + 1 * t := e
    rw [mem_slotSet]; omega
  have hval : ∀ i : S1x1x512x1024.Idx, wIdx d ((Rect.unit (s := S2x2x512x1024) ![sIx s, j.val, 0, 0] S1x1x512x1024.size inb).emb i) = eIdx d j i := by
    intro i
    have h1 : (i 1).val < 1 := (i 1).isLt
    funext a
    fin_cases a
    · exact Fin.ext (show cond d 2 0 + (j.val + 1 * (i 1).val) = cond d 2 0 + j.val by omega)
    · exact Fin.ext (show 0 + 1 * (i 2).val = (i 2).val by omega)
    · exact Fin.ext (show 0 + 1 * (i 3).val = (i 3).val by omega)
  cases d
  · have h := wp_load (Val := Elt F) (defs := defs₀ (F := F)) 𝒱₀ (c : Thread nD τ) none (Γ := .empty) Set.univ (m := commM false) (hl := hl) (k := k) (Q := Q) (q := q) (S := slotSet s) (f := wbuf false (E x))
      (by intro i hi; obtain ⟨t, ht, rfl⟩ := Finset.mem_map.mp hi; exact hmem _ ht)
    have hv : (commM false).view.readAt (Elt F) (Rect.unit (s := S2x2x512x1024) ![sIx s, j.val, 0, 0] S1x1x512x1024.size inb).toLoadRect (wbuf false (E x)) = wblk false j (E x) := by
      funext i; exact congrArg (E x) (hval i)
    rw [hv] at h
    exact h
  · have h := wp_load (Val := Elt F) (defs := defs₀ (F := F)) 𝒱₀ (c : Thread nD τ) none (Γ := .empty) Set.univ (m := commM true) (hl := hl) (k := k) (Q := Q) (q := q) (S := slotSet s) (f := wbuf true (E x))
      (by intro i hi; obtain ⟨t, ht, rfl⟩ := Finset.mem_map.mp hi; exact hmem _ ht)
    have hv : (commM true).view.readAt (Elt F) (Rect.unit (s := S2x2x512x1024) ![sIx s, j.val, 0, 0] S1x1x512x1024.size inb).toLoadRect (wbuf true (E x)) = wblk true j (E x) := by
      funext i; exact congrArg (E x) (hval i)
    rw [hv] at h
    exact h

/-! ## The result array -/

def dOf (n : ℕ) : Bool := decide (64 ≤ n)
def hOf (n : ℕ) : ℕ := n % 64 / 2
def jOf (n : ℕ) : Fin 2 := ⟨n % 2, Nat.mod_lt _ (by decide)⟩
/-- The place of row block `n` in the order of the stores. -/
def tOf (n : ℕ) : ℕ := 4 * hOf n + cond (dOf n) 2 0 + (jOf n).val
/-- The row block of direction `d`, hop `h`, expert `j`. -/
def bOf (d : Bool) (h : Fin 32) (j : Fin 2) : Fin 128 := ⟨cond d 64 0 + 2 * h.val + j.val, by
  have := h.isLt; have := j.isLt; cases d <;> simp only [cond_true, cond_false] <;> omega⟩

/-- The direction of a row block. -/
theorem dOf_bOf (d : Bool) (h : Fin 32) (j : Fin 2) : dOf (bOf d h j) = d := by
  have := h.isLt; have := j.isLt
  unfold dOf bOf; cases d <;> simp only [cond_true, cond_false, decide_eq_true_eq, decide_eq_false_iff_not] <;> omega
/-- The hop of a row block. -/
theorem hOf_bOf (d : Bool) (h : Fin 32) (j : Fin 2) : hOf (bOf d h j) = h := by
  have := h.isLt; have := j.isLt
  unfold hOf bOf; cases d <;> simp only [cond_true, cond_false] <;> omega
/-- The expert number of a row block. -/
theorem jOf_bOf (d : Bool) (h : Fin 32) (j : Fin 2) : jOf (bOf d h j) = j := by
  have := h.isLt; have := j.isLt
  apply Fin.ext
  unfold jOf bOf; cases d <;> simp only [cond_true, cond_false] <;> omega
/-- Only one row block is stored at each place in the order of the stores. -/
theorem tOf_inj (n : ℕ) (hn : n < 128) (d : Bool) (h : Fin 32) (j : Fin 2) (e : tOf n = 4 * h.val + cond d 2 0 + j.val) : n = (bOf d h j).val := by
  have := h.isLt; have := j.isLt
  unfold tOf dOf hOf jOf at e; unfold bOf
  by_cases h64 : 64 ≤ n
  · rw [decide_eq_true h64] at e; cases d <;> simp only [cond_true, cond_false] at e ⊢ <;> omega
  · rw [decide_eq_false h64] at e; cases d <;> simp only [cond_true, cond_false] at e ⊢ <;> omega

def rowIn (i : S8192x1024.Idx) : S64x1024.Idx := fun a =>
  match a with
  | ⟨0, _⟩ => ⟨(i 0).val % 64, Nat.mod_lt _ (by decide)⟩
  | ⟨1, _⟩ => ⟨(i 1).val, (i 1).isLt⟩
def blkOf (i : S8192x1024.Idx) : Fin 128 := ⟨(i 0).val / 64, by have : (i 0).val < 8192 := (i 0).isLt; omega⟩

/-- An index is rebuilt from its row block and its place there. -/
theorem yIdx_rowIn (i : S8192x1024.Idx) : yIdx (blkOf i) (rowIn i) = i := by
  funext a
  fin_cases a
  · exact Fin.ext (show 64 * ((i 0).val / 64) + (i 0).val % 64 = (i 0).val by omega)
  · exact Fin.ext rfl
/-- The row block of a place in a row block. -/
theorem blkOf_yIdx (b : Fin 128) (i : S64x1024.Idx) : blkOf (yIdx b i) = b := by
  have : (i 0).val < 64 := (i 0).isLt
  exact Fin.ext (show (64 * b.val + (i 0).val) / 64 = b.val by omega)
/-- The place of a place in a row block. -/
theorem rowIn_yIdx (b : Fin 128) (i : S64x1024.Idx) : rowIn (yIdx b i) = i := by
  have : (i 0).val < 64 := (i 0).isLt
  funext a
  fin_cases a
  · exact Fin.ext (show (64 * b.val + (i 0).val) % 64 = (i 0).val by omega)
  · exact Fin.ext rfl

/-- The ring's result at `c`: every row block times the weights of its expert. -/
def G (X : S8192x512.Idx → Elt F .bf16) (c : Dev nD) : S8192x1024.Idx → Elt F .bf16 := fun i =>
  k0_pay4 (xblk X (blkOf i)) (wblk (dOf (blkOf i)) (jOf (blkOf i)) (E (src (dOf (blkOf i)) (hOf (blkOf i)) c))) (rowIn i)

/-- The result array after `n` stores. -/
def yAt (X : S8192x512.Idx → Elt F .bf16) (c : Dev nD) (n : ℕ) : sProp 𝕄 :=
  iprop(∃ Y : S8192x1024.Idx → Elt F .bf16, ⌜∀ i, tOf (blkOf i) < n → Y i = G E X c i⌝ ∗ ((c : Thread nD τ).loc cc0_stg4_0 ↦{fullShare} Y))

/-- A load from the result array, whose value is not used. -/
theorem ld_y (X : S8192x512.Idx → Elt F .bf16) (c : Dev nD) (n : ℕ) (r : LoadRect S8192x1024) (hl : yM.view.LoadsAt r)
    {α : Type} {Q : α → sProp 𝕄} {k : (r.shape.Idx → Elt F .bf16) → Prog (TpuEff nD τ sig (Elt F) Λ₀ .tc) α} {p : Prog (TpuEff nD τ sig (Elt F) Λ₀ .tc) α} (hk : ∀ v, k v = p) :
    yAt E X c n ⊢ iprop((yAt E X c n -∗ wpc c p Q) -∗ wpc c (.op (.load yM r hl) k) Q) := by
  unfold yAt
  iintro ⟨%Y, %hY, H⟩ Hk
  iapply (wp_load (Val := Elt F) (defs := defs₀ (F := F)) 𝒱₀ (c : Thread nD τ) none (Γ := .empty) Set.univ (m := yM) (hl := hl) (q := fullShare) (f := Y) (Finset.subset_univ _)) $$ H
  iintro H
  rw [hk]
  iapply Hk
  iexists Y
  isplitr; · ipureintro; exact hY
  iexact H

/-- A store of one row block: one more store is done. -/
theorem st_y (X : S8192x512.Idx → Elt F .bf16) (c : Dev nD) (n : ℕ) (d : Bool) (h : Fin 32) (j : Fin 2) (hn : n = 4 * h.val + cond d 2 0 + j.val)
    (off : Fin 2 → ℕ) (hoff : off = ![64 * (bOf d h j).val, 0])
    (inb : ∀ a, off a + S64x1024.size a ≤ S8192x1024.size a) (w : Vec F S64x1024 .bf16) (hw : w = k0_pay4 (xblk X (bOf d h j)) (wblk d j (E (src d h.val c))))
    (hx : (yM.access (Rect.unit (s := S8192x1024) off S64x1024.size inb)).Stores Finset.univ) (hm : (Finset.univ : Finset _) = Finset.univ ∨ ∀ a, (Rect.unit (s := S8192x1024) off S64x1024.size inb).stride a = 1)
    {α : Type} {Q : α → sProp 𝕄} {k : PUnit → Prog (TpuEff nD τ sig (Elt F) Λ₀ .tc) α} :
    yAt E X c n ⊢ iprop((yAt E X c (n + 1) -∗ wpc c (k ⟨⟩) Q)
      -∗ wpc c (.op (.store yM (Rect.unit (s := S8192x1024) off S64x1024.size inb) w Finset.univ hx hm) k) Q) := by
  subst hoff hw
  unfold yAt
  iintro ⟨%Y, %hY, H⟩ Hk
  iapply (wp_store (Val := Elt F) (defs := defs₀ (F := F)) 𝒱₀ (c : Thread nD τ) none (Γ := .empty) Set.univ (m := yM) (hx := hx) (hm := hm) (f := Y) (Finset.subset_univ _)) $$ H
  iintro H
  iapply Hk
  iexists _
  isplitr; rotate_left; · iexact H
  ipureintro
  have hemb : ∀ i : S64x1024.Idx, (yM.access (Rect.unit (s := S8192x1024) ![64 * (bOf d h j).val, 0] S64x1024.size inb)).emb i = yIdx (bOf d h j) i := by
    intro i
    funext a
    fin_cases a
    · exact Fin.ext (show 64 * (bOf d h j).val + 1 * (i 0).val = 64 * (bOf d h j).val + (i 0).val by omega)
    · exact Fin.ext (show 0 + 1 * (i 1).val = (i 1).val by omega)
  intro i hi
  by_cases hb : blkOf i = bOf d h j
  · have hG : G E X c i = k0_pay4 (xblk X (bOf d h j)) (wblk d j (E (src d h.val c))) (rowIn i) := by
      unfold G; rw [hb, dOf_bOf, hOf_bOf, jOf_bOf]
    have hi' : i = (yM.access (Rect.unit (s := S8192x1024) ![64 * (bOf d h j).val, 0] S64x1024.size inb)).emb (rowIn i) := by
      rw [hemb, ← hb, yIdx_rowIn]
    rw [hG]
    refine (congrArg _ hi').trans ?_
    exact (yM.access (Rect.unit (s := S8192x1024) ![64 * (bOf d h j).val, 0] S64x1024.size inb)).write_emb_of_mem (Val := Elt F) Y _ (Finset.mem_univ _)
  · rw [View.write_of_not_mem]
    · refine hY i ?_
      have : tOf (blkOf i) ≠ n := by
        intro e; rw [hn] at e
        exact hb (Fin.ext (tOf_inj _ (blkOf i).isLt d h j e))
      omega
    · intro hmem
      obtain ⟨t, -, e⟩ := Finset.mem_map.mp hmem
      rw [hemb] at e
      exact hb (by rw [← e, blkOf_yIdx])

end Cert.Proof.Ring
-- ==== Proof.Ring.Chunks.lean ====
/- The conditional chunks of a trip: the acknowledgement waits, the sends, the waits, the acknowledgement signals, each run or
  skipped by a condition, for both directions at once.
-/
module

public import proofs.«01_k».proof.Proof.Ring.Compute

@[expose] public section

set_option maxRecDepth 16384

noncomputable section

namespace Cert.Proof.Ring

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (E : Wts F) (K : Dev nD × Kind → ℕ)

/-- What is held when a chunk is run, or when it is skipped. -/
def cs (P : Prop) [Decidable P] (A B : sProp 𝕄) : sProp 𝕄 := if P then A else B
/-- A choice between two states whose condition holds. -/
theorem cs_pos {P : Prop} [Decidable P] (h : P) (A B : sProp 𝕄) : cs P A B = A := if_pos h
/-- A choice between two states whose condition fails. -/
theorem cs_neg {P : Prop} [Decidable P] (h : ¬P) (A B : sProp 𝕄) : cs P A B = B := if_neg h

/-- Both directions' states, and what is owed. -/
def bo (c : Dev nD) (O : CellTallies nD τ sig ℕ) (S : Bool → sProp 𝕄) : sProp 𝕄 := iprop(owesE c O ∗ S false ∗ S true)

/-- A program that runs a chunk or skips it. -/
theorem chunk {P : Prop} [Decidable P] (c : Dev nD) (A B R : sProp 𝕄) {α : Type} {Q : α → sProp 𝕄} {p : P → Prog (TpuEff nD τ sig (Elt F) Λ₀ .tc) α} {rest : Prog (TpuEff nD τ sig (Elt F) Λ₀ .tc) α}
    (hp : ∀ h : P, iprop(allInv E K ∗ levAts L lv ∗ A) ⊢ iprop((B -∗ wpc c rest Q) -∗ wpc c (p h) Q)) :
    iprop(allInv E K ∗ levAts L lv ∗ cs P A R) ⊢ iprop((cs P B R -∗ wpc c rest Q) -∗ wpc c (dite P p (fun _ => rest)) Q) := by
  by_cases h : P
  · rw [cs_pos h, cs_pos h, dif_pos h]; exact hp h
  · rw [cs_neg h, cs_neg h, dif_neg h]
    iintro ⟨-, -, HR⟩ Hk
    iapply Hk; iexact HR

/-- The two waits for the right to send, taken or skipped as the condition says. -/
theorem acks_chunk {P : Prop} [Decidable P] (c : Dev nD) (r : ℕ) (hr : P → r < 30) (R : sProp 𝕄)
    (s1 s2 : Sem sig) (h1 : s1 = ackS false) (h2 : s2 = ackS true) (w1 w2 : BitVec 32) (hw1 : w1 = 1#32) (hw2 : w2 = 1#32)
    {α : Type} {Q : α → sProp 𝕄} {rest : Prog (TpuEff nD τ sig (Elt F) Λ₀ .tc) α} :
    iprop(allInv E K ∗ levAts L lv ∗ cs P (bo c (Ow c (r + 1) (r + 1) (r + 1) (r + 1)) fun d => St E d c r) R)
      ⊢ iprop((cs P (bo c (Ow c (r + 1) (r + 1) (r + 1) (r + 1)) fun d => Rdy E d c (r + 1)) R -∗ wpc c rest Q)
        -∗ wpc c (dite P (fun _ => .op (.semWait s1 w1.toInt) fun _ => .op (.semWait s2 w2.toInt) fun _ => rest) (fun _ => rest)) Q) := by
  refine chunk E K c _ _ R fun hP => ?_
  have hr := hr hP
  unfold bo
  iintro ⟨#HI, #Hlev, HO, Hf, Ht⟩ Hk
  iapply (st_ack E K false c r hr s1 h1 w1 hw1 _ (mayWait_cell (.ack false) c r (r + 1) (r + 1) (r + 1) (r + 1) (by omega) (by dsimp only [lvOf]; omega))) $$ [HO Hf]
  · isplitr; · iexact HI
    isplitr; · iexact Hlev
    isplitl [HO] <;> iassumption
  iintro ⟨HO, Hf⟩
  iapply (st_ack E K true c r hr s2 h2 w2 hw2 _ (mayWait_cell (.ack true) c r (r + 1) (r + 1) (r + 1) (r + 1) (by omega) (by dsimp only [lvOf]; omega))) $$ [HO Ht]
  · isplitr; · iexact HI
    isplitr; · iexact Hlev
    isplitl [HO] <;> iassumption
  iintro ⟨HO, Ht⟩
  iapply Hk
  isplitl [HO]; · iexact HO
  isplitl [Hf] <;> iassumption

/-- The two sends of a hop, one in each direction, made or skipped as the condition says. -/
theorem sends_chunk {P : Prop} [Decidable P] (c : Dev nD) (h : ℕ) (hh : P → h ≤ 30) (R : sProp 𝕄)
    (n1 n2 : P → Dev nD) (hn1 : ∀ hp, n1 hp = dn false c) (hn2 : ∀ hp, n2 hp = dn true c)
    (s s' : Bool) (hs : par h = s) (hs' : s' = !s)
    (sm1 dm1 sm2 dm2 : Memref sig .tc .vmem S2x512x1024 .bf16) (hsm1 : sm1 = slotM false s) (hdm1 : dm1 = slotM false s') (hsm2 : sm2 = slotM true s) (hdm2 : dm2 = slotM true s')
    (ss1 rs1 ss2 rs2 : DmaSem sig) (hss1 : ss1 = sendS false s) (hrs1 : rs1 = recvS false s') (hss2 : ss2 = sendS true s) (hrs2 : rs2 = recvS true s')
    (hsc1 : dm1.view.ref.isScScratch = false) (hsrc1 : sm1.view.WordExact) (hdst1 : dm1.view.WordExact)
    (hsem1 : ∀ hp, DmaTarget.Typed (nD := nD) (τ := τ) .vmem (.dma rs1) (.remote (Dev.tc (n1 hp)) dm1 (.dma ss1) hsc1))
    (hsc2 : dm2.view.ref.isScScratch = false) (hsrc2 : sm2.view.WordExact) (hdst2 : dm2.view.WordExact)
    (hsem2 : ∀ hp, DmaTarget.Typed (nD := nD) (τ := τ) .vmem (.dma rs2) (.remote (Dev.tc (n2 hp)) dm2 (.dma ss2) hsc2))
    {α : Type} {Q : α → sProp 𝕄} {rest : Prog (TpuEff nD τ sig (Elt F) Λ₀ .tc) α} :
    iprop(allInv E K ∗ levAts L lv ∗ cs P (bo c (Ow c h h h h) fun d => Rdy E d c h) R)
      ⊢ iprop((cs P (bo c (Ow c (h + 1) h (h + 1) h) fun d => Fly E d c h) R -∗ wpc c rest Q)
        -∗ wpc c (dite P (fun hp => .op (.enqueueDma sm1 (.remote (Dev.tc (n1 hp)) dm1 (.dma ss1) hsc1) (.dma rs1) hsrc1 hdst1 (hsem1 hp)) fun _ =>
            .op (.enqueueDma sm2 (.remote (Dev.tc (n2 hp)) dm2 (.dma ss2) hsc2) (.dma rs2) hsrc2 hdst2 (hsem2 hp)) fun _ => rest) (fun _ => rest)) Q) := by
  refine chunk E K c _ _ R fun hP => ?_
  have hh := hh hP
  unfold bo
  iintro ⟨#HI, -, HO, Hf, Ht⟩ Hk
  iapply (rdy_send E K false c _ (hn1 hP) h hh s s' hs hs' sm1 dm1 hsm1 hdm1 ss1 rs1 hss1 hrs1 hsc1 hsrc1 hdst1 (hsem1 hP) _ _ (Ow_send_f c h h h h hh)) $$ [HO Hf]
  · isplitr; · iexact HI
    isplitl [HO] <;> iassumption
  iintro ⟨HO, Hf⟩
  iapply (rdy_send E K true c _ (hn2 hP) h hh s s' hs hs' sm2 dm2 hsm2 hdm2 ss2 rs2 hss2 hrs2 hsc2 hsrc2 hdst2 (hsem2 hP) _ _ (Ow_send_t c (h + 1) h h h hh)) $$ [HO Ht]
  · isplitr; · iexact HI
    isplitl [HO] <;> iassumption
  iintro ⟨HO, Ht⟩
  iapply Hk
  isplitl [HO]; · iexact HO
  isplitl [Hf] <;> iassumption

/-- The four waits that end a hop, taken or skipped as the condition says. -/
theorem waits_chunk {P : Prop} [Decidable P] (c : Dev nD) (h : ℕ) (hh : P → h ≤ 30) (R : sProp 𝕄) (s s' : Bool) (hs : par h = s) (hs' : s' = !s)
    (q1 q2 q3 q4 : DmaSem sig) (hq1 : q1 = sendS false s) (hq2 : q2 = recvS false s') (hq3 : q3 = sendS true s) (hq4 : q4 = recvS true s')
    (a1 a2 a3 a4 b1 b2 b3 b4 : Memref sig .tc .vmem S2x512x1024 .bf16)
    (ha1 : a1.view.WordExact) (ha2 : a2.view.WordExact) (ha3 : a3.view.WordExact) (ha4 : a4.view.WordExact)
    (hb1 : b1.view.WordExact) (hb2 : b2.view.WordExact) (hb3 : b3.view.WordExact) (hb4 : b4.view.WordExact)
    (c1 : b1.view.dmaCredit = N) (c2 : b2.view.dmaCredit = N) (c3 : b3.view.dmaCredit = N) (c4 : b4.view.dmaCredit = N)
    {α : Type} {Q : α → sProp 𝕄} {rest : Prog (TpuEff nD τ sig (Elt F) Λ₀ .tc) α} :
    iprop(allInv E K ∗ levAts L lv ∗ cs P (bo c (Ow c (h + 1) h (h + 1) h) fun d => Fly E d c h) R)
      ⊢ iprop((cs P (bo c (Ow c (h + 1) h (h + 1) h) fun d => Pst E d c h) R -∗ wpc c rest Q)
        -∗ wpc c (dite P (fun _ => .op (.waitDma2 q1 a1 b1 ha1 hb1) fun _ => .op (.waitDma2 q2 a2 b2 ha2 hb2) fun _ =>
            .op (.waitDma2 q3 a3 b3 ha3 hb3) fun _ => .op (.waitDma2 q4 a4 b4 ha4 hb4) fun _ => rest) (fun _ => rest)) Q) := by
  refine chunk E K c _ _ R fun hP => ?_
  have hh := hh hP
  subst hs hs'
  unfold bo
  iintro ⟨#HI, #Hlev, HO, Hf, Ht⟩ Hk
  iapply (fly_wait E K false c h hh q1 hq1 a1 b1 ha1 hb1 c1 _ (mayWait_cell (.send false (par h)) c h (h + 1) h (h + 1) h (by omega) (by dsimp only [lvOf]; omega))) $$ [HO Hf]
  · isplitr; · iexact HI
    isplitr; · iexact Hlev
    isplitl [HO] <;> iassumption
  iintro ⟨HO, Hf⟩
  iapply (snt_wait E K false c h hh q2 hq2 a2 b2 ha2 hb2 c2 _ (mayWait_cell (.recv false (!par h)) c h (h + 1) h (h + 1) h (by omega) (by dsimp only [lvOf]; omega))) $$ [HO Hf]
  · isplitr; · iexact HI
    isplitr; · iexact Hlev
    isplitl [HO] <;> iassumption
  iintro ⟨HO, Hf⟩
  iapply (fly_wait E K true c h hh q3 hq3 a3 b3 ha3 hb3 c3 _ (mayWait_cell (.send true (par h)) c h (h + 1) h (h + 1) h (by omega) (by dsimp only [lvOf]; omega))) $$ [HO Ht]
  · isplitr; · iexact HI
    isplitr; · iexact Hlev
    isplitl [HO] <;> iassumption
  iintro ⟨HO, Ht⟩
  iapply (snt_wait E K true c h hh q4 hq4 a4 b4 ha4 hb4 c4 _ (mayWait_cell (.recv true (!par h)) c h (h + 1) h (h + 1) h (by omega) (by dsimp only [lvOf]; omega))) $$ [HO Ht]
  · isplitr; · iexact HI
    isplitr; · iexact Hlev
    isplitl [HO] <;> iassumption
  iintro ⟨HO, Ht⟩
  iapply Hk
  isplitl [HO]; · iexact HO
  isplitl [Hf] <;> iassumption

/-- The two signals that give back a slot, made or skipped as the condition says. -/
theorem signals_chunk {P : Prop} [Decidable P] (c : Dev nD) (h : ℕ) (hh : P → h < 30) (R : sProp 𝕄)
    (n1 n2 : P → Dev nD) (hn1 : ∀ hp, n1 hp = up false c) (hn2 : ∀ hp, n2 hp = up true c)
    (s1 s2 : Sem sig) (h1 : s1 = ackS false) (h2 : s2 = ackS true) (w1 w2 : BitVec 32) (hw1 : w1 = 1#32) (hw2 : w2 = 1#32)
    {α : Type} {Q : α → sProp 𝕄} {rest : Prog (TpuEff nD τ sig (Elt F) Λ₀ .tc) α} :
    iprop(allInv E K ∗ levAts L lv ∗ cs P (bo c (Ow c (h + 1) h (h + 1) h) fun d => Pst E d c h) R)
      ⊢ iprop((cs P (bo c (Ow c (h + 1) (h + 1) (h + 1) (h + 1)) fun d => St E d c h) R -∗ wpc c rest Q)
        -∗ wpc c (dite P (fun hp => .op (.semSignal (Dev.tc (n1 hp)) s1 w1.toInt) fun _ => .op (.semSignal (Dev.tc (n2 hp)) s2 w2.toInt) fun _ => rest) (fun _ => rest)) Q) := by
  refine chunk E K c _ _ R fun hP => ?_
  have hh := hh hP
  unfold bo
  iintro ⟨#HI, -, HO, Hf, Ht⟩ Hk
  iapply (pst_ack E K false c _ (hn1 hP) h hh s1 h1 w1 hw1 _ _ (Ow_ack_f c (h + 1) h (h + 1) h hh)) $$ [HO Hf]
  · isplitr; · iexact HI
    isplitl [HO] <;> iassumption
  iintro ⟨HO, Hf⟩
  iapply (pst_ack E K true c _ (hn2 hP) h hh s2 h2 w2 hw2 _ _ (Ow_ack_t c (h + 1) (h + 1) (h + 1) h hh)) $$ [HO Ht]
  · isplitr; · iexact HI
    isplitl [HO] <;> iassumption
  iintro ⟨HO, Ht⟩
  iapply Hk
  isplitl [HO]; · iexact HO
  isplitl [Hf] <;> iassumption

/-! ## A product's loads, whatever the state that holds the slot -/

/-- A state that lends slot `s` of each direction, holding the weights of `x d`. -/
def Lends (c : Dev nD) (s : Bool) (x : Bool → Dev nD) (H : sProp 𝕄) : Prop := ∀ d, H ⊢ iprop(∃ q, slotW E q d s c (x d) ∗ (slotW E q d s c (x d) -∗ H))

/-- While a hop's copies are in flight its weights may be read. -/
theorem fly_lends (c : Dev nD) (h : ℕ) (O : CellTallies nD τ sig ℕ) : Lends E c (par h) (fun d => src d h c) (bo c O fun d => Fly E d c h) := by
  intro d
  unfold bo Fly
  cases d
  · iintro ⟨HO, ⟨H1, H2, H3, H4, H5, H6, H7, H8, H9⟩, HT⟩
    iexists qL
    isplitl [H8]; · iexact H8
    iintro H8
    isplitl [HO]; · iexact HO
    isplitr [HT]; rotate_left; · iexact HT
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8] <;> iassumption
  · iintro ⟨HO, HF, ⟨H1, H2, H3, H4, H5, H6, H7, H8, H9⟩⟩
    iexists qL
    isplitl [H8]; · iexact H8
    iintro H8
    isplitl [HO]; · iexact HO
    isplitl [HF]; · iexact HF
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8] <;> iassumption

/-- After a hop's copies the next weights may be read. -/
theorem pst_lends (c : Dev nD) (h : ℕ) (O : CellTallies nD τ sig ℕ) : Lends E c (!par h) (fun d => src d (h + 1) c) (bo c O fun d => Pst E d c h) := by
  intro d
  unfold bo Pst
  cases d
  · iintro ⟨HO, ⟨H1, H2, H3, H4, H5, H6, H7, H8, H9, H10⟩, HT⟩
    iexists fullShare
    isplitl [H9]; · iexact H9
    iintro H9
    isplitl [HO]; · iexact HO
    isplitr [HT]; rotate_left; · iexact HT
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9] <;> iassumption
  · iintro ⟨HO, HF, ⟨H1, H2, H3, H4, H5, H6, H7, H8, H9, H10⟩⟩
    iexists fullShare
    isplitl [H9]; · iexact H9
    iintro H9
    isplitl [HO]; · iexact HO
    isplitl [HF]; · iexact HF
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9] <;> iassumption

/-- A load of one expert's weights from a state that lends them. -/
theorem ld_wH (c : Dev nD) (s : Bool) (x : Bool → Dev nD) (H : sProp 𝕄) (hH : Lends E c s x H) (d : Bool) (j : Fin 2) (m : Memref sig .tc .vmem S2x2x512x1024 .bf16) (hm : m = commM d)
    (off : Fin 4 → ℕ) (hoff : off = ![sIx s, j.val, 0, 0])
    (inb : ∀ a, off a + S1x1x512x1024.size a ≤ S2x2x512x1024.size a) (hl : m.view.LoadsAt (Rect.unit (s := S2x2x512x1024) off S1x1x512x1024.size inb).toLoadRect)
    {α : Type} {Q : α → sProp 𝕄} {k : Vec F S1x1x512x1024 .bf16 → Prog (TpuEff nD τ sig (Elt F) Λ₀ .tc) α} :
    H ⊢ iprop((H -∗ wpc c (k (wblk d j (E (x d)))) Q)
          -∗ wpc c (.op (.load m (Rect.unit (s := S2x2x512x1024) off S1x1x512x1024.size inb).toLoadRect hl) k) Q) := by
  iintro H Hk
  ihave H' := (hH d) $$ H
  icases H' with ⟨%q, Hs, Hw⟩
  iapply (ld_w E c (x d) q d s j m hm off hoff inb hl) $$ Hs
  iintro Hs
  iapply Hk
  iapply Hw
  iexact Hs

end Cert.Proof.Ring
-- ==== Proof.Ring.Trip.lean ====
/- One trip of the loop: two hops in both directions.
-/
module

public import proofs.«01_k».proof.Proof.Ring.Chunks

@[expose] public section

set_option maxRecDepth 16384

noncomputable section

namespace Cert.Proof.Ring

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (E : Wts F) (K : Dev nD × Kind → ℕ) (X : S8192x512.Idx → Elt F .bf16)

abbrev sM : Memref sig .tc .smem S1 .i32 := Memref.whole cc0_stg2_0
abbrev tM : Memref sig .tc .smem S1 .i32 := Memref.whole cc0_stg3_0

/-! ## The conditions of a trip -/

/-- The loop makes 16 trips. -/
theorem trips_eq : k0_t1_loop.trips = 16 := by decide
/-- A trip's number is below 16. -/
theorem lt16 (k : Fin k0_t1_loop.trips) : k.val < 16 := lt_of_lt_of_eq k.isLt trips_eq

/-- The two hops of a trip. -/
def hA (k : Fin k0_t1_loop.trips) : Fin 32 := ⟨2 * k.val, by have := lt16 k; omega⟩
def hB (k : Fin k0_t1_loop.trips) : Fin 32 := ⟨2 * k.val + 1, by have := lt16 k; omega⟩

/-- The first hop of a trip waits for the right to send in every trip but the first. -/
theorem cond1 (k : Fin k0_t1_loop.trips) : (Scalar.cmpi .ne (Scalar.extui (Scalar.andi (Scalar.cmpi .sge (Scalar.muli 2#32 (Scf.iv 0#32 1#32 k)) 1#32) (Scalar.cmpi .slt (Scalar.muli 2#32 (Scf.iv 0#32 1#32 k)) 31#32)) : BitVec 32) 0#32 = 1#1) ↔ 1 ≤ k.val := by
  revert k; decide +kernel
/-- The first hop of a trip always sends. -/
theorem cond2 (k : Fin k0_t1_loop.trips) : k0_cond2 k = 1#1 := by revert k; decide +kernel
/-- The first hop of a trip always waits for its copies. -/
theorem cond3 (k : Fin k0_t1_loop.trips) : Scalar.cmpi .ne (Scalar.extui (Scalar.cmpi .slt (Scalar.muli 2#32 (Scf.iv 0#32 1#32 k)) 31#32) : BitVec 32) 0#32 = 1#1 := by
  revert k; decide +kernel
/-- The first hop of a trip gives its slot back in every trip but the last. -/
theorem cond4 (k : Fin k0_t1_loop.trips) : k0_cond4 k = 1#1 ↔ k.val < 15 := by revert k; decide +kernel
/-- The second hop waits for the right to send in every trip but the last. -/
theorem cond5 (k : Fin k0_t1_loop.trips) : (Scalar.cmpi .ne (Scalar.extui (Scalar.andi (Scalar.cmpi .sge (Scalar.addi (Scalar.muli 2#32 (Scf.iv 0#32 1#32 k)) 1#32) 1#32) (Scalar.cmpi .slt (Scalar.addi (Scalar.muli 2#32 (Scf.iv 0#32 1#32 k)) 1#32) 31#32)) : BitVec 32) 0#32 = 1#1) ↔ k.val < 15 := by
  revert k; decide +kernel
/-- The second hop sends in every trip but the last. -/
theorem cond6 (k : Fin k0_t1_loop.trips) : k0_cond6 k = 1#1 ↔ k.val < 15 := by revert k; decide +kernel
/-- The second hop waits for its copies in every trip but the last. -/
theorem cond7 (k : Fin k0_t1_loop.trips) : (Scalar.cmpi .ne (Scalar.extui (Scalar.cmpi .slt (Scalar.addi (Scalar.muli 2#32 (Scf.iv 0#32 1#32 k)) 1#32) 31#32) : BitVec 32) 0#32 = 1#1) ↔ k.val < 15 := by
  revert k; decide +kernel
/-- The second hop gives its slot back in every trip but the last. -/
theorem cond8 (k : Fin k0_t1_loop.trips) : k0_cond8 k = 1#1 ↔ k.val < 15 := by revert k; decide +kernel

/-- The device that a neighbour's word names. -/
theorem dev_of (v : BitVec 32) (x : Dev nD) (hv : v = BitVec.ofNat 32 x.val) (n : ℕ) (hn : n = (Scalar.addi 0#32 (Scalar.muli v 1#32)).toNat) (hlt : n < nD) : (⟨n, hlt⟩ : Dev nD) = x := by
  subst hn hv
  apply Fin.ext
  show (Scalar.addi 0#32 (Scalar.muli (BitVec.ofNat 32 x.val) 1#32)).toNat = x.val
  revert x; decide +kernel

/-- An offset that is known by its first entry. -/
theorem off_eq {a b : ℕ} (off : Fin 2 → ℕ) (h : off = ![a, 0]) (e : a = b) : off = ![b, 0] := by rw [h, e]

/-- The two slots of a buffer, and the two cells of an array, as a trip names them. -/
abbrev lo (m : Memref sig .tc .vmem S2x2x512x1024 .bf16) : Memref sig .tc .vmem S2x512x1024 .bf16 :=
  (m.slice (Rect.unit (s := S2x2x512x1024) ![0, 0, 0, 0] ![1, 2, 512, 1024] inb_S2x2x512x1024_S1x2x512x1024_0_0_0_0) (fun _ => rfl)).squeeze S2x512x1024 squeezes_S1x2x512x1024_S2x512x1024
abbrev hi (m : Memref sig .tc .vmem S2x2x512x1024 .bf16) : Memref sig .tc .vmem S2x512x1024 .bf16 :=
  (m.slice (Rect.unit (s := S2x2x512x1024) ![1, 0, 0, 0] ![1, 2, 512, 1024] inb_S2x2x512x1024_S1x2x512x1024_1_0_0_0) (fun _ => rfl)).squeeze S2x512x1024 squeezes_S1x2x512x1024_S2x512x1024
abbrev loS (a : DmaSems sig S2) : DmaSem sig := ((SemArray.slice a (Rect.unit ![0] ![1] inb_S2_S1_0)).squeeze S_ squeezes_S1_S_).sem
abbrev hiS (a : DmaSems sig S2) : DmaSem sig := ((SemArray.slice a (Rect.unit ![1] ![1] inb_S2_S1_1)).squeeze S_ squeezes_S1_S_).sem

/-- A program that returns. -/
theorem ret_wp (c : Dev nD) {α : Type} {a : α} {Q : α → sProp 𝕄} : Q a ⊢ wpc c (.ret a) Q := by
  show _ ⊢ wp frame (wpE (defs₀ (F := F)) 𝒱₀ (c : Thread nD τ) none) Set.univ (.ret a) Q
  rw [wp_ret]
  iintro H
  imodintro
  iexact H

/-! ## The states between the chunks -/

/-- Before trip `n`. -/
def inv0 (c : Dev nD) (n : ℕ) : sProp 𝕄 :=
  if n = 0 then bo c (Ow c 0 0 0 0) fun d => Rdy E d c 0
  else if n < 16 then bo c (Ow c (2 * n) (2 * n) (2 * n) (2 * n)) fun d => St E d c (2 * n - 1)
  else bo c (Ow c 31 30 31 30) fun d => Pst E d c 30

/-- After the last exchange. -/
def fin0 (c : Dev nD) : sProp 𝕄 := bo c (Ow c 31 30 31 30) fun d => Pst E d c 30

/-- While hop `2 k` computes; -/
def stA (c : Dev nD) (k : ℕ) : sProp 𝕄 := bo c (Ow c (2 * k + 1) (2 * k) (2 * k + 1) (2 * k)) fun d => Fly E d c (2 * k)
/-- while hop `2 k + 1` computes. -/
def stB (c : Dev nD) (k : ℕ) : sProp 𝕄 := cs (k < 15) (bo c (Ow c (2 * k + 1 + 1) (2 * k + 1) (2 * k + 1 + 1) (2 * k + 1)) fun d => Fly E d c (2 * k + 1)) (fin0 E c)

/-- The state while the first hop computes, spelt as the sends leave it. -/
theorem stA_eq (c : Dev nD) (k : ℕ) : bo c (Ow c (2 * k + 1) (2 * k) (2 * k + 1) (2 * k)) (fun d => Fly E d c (2 * k)) = stA E c k := rfl
/-- The state while the second hop computes, spelt as the sends leave it. -/
theorem stB_eq (c : Dev nD) (k : ℕ) : cs (k < 15) (bo c (Ow c (2 * k + 1 + 1) (2 * k + 1) (2 * k + 1 + 1) (2 * k + 1)) fun d => Fly E d c (2 * k + 1)) (fin0 E c) = stB E c k := rfl
/-- The weights that may be read while the first hop computes. -/
theorem stA_lends (c : Dev nD) (k : ℕ) : Lends E c false (fun d => src d (2 * k) c) (stA E c k) := by
  have h := fly_lends E c (2 * k) (Ow c (2 * k + 1) (2 * k) (2 * k + 1) (2 * k)); rw [par_even] at h; exact h
/-- The weights that may be read while the second hop computes. -/
theorem stB_lends (c : Dev nD) (k : ℕ) (hk : k < 16) : Lends E c true (fun d => src d (2 * k + 1) c) (stB E c k) := by
  unfold stB
  by_cases h15 : k < 15
  · rw [cs_pos h15]
    have h := fly_lends E c (2 * k + 1) (Ow c (2 * k + 1 + 1) (2 * k + 1) (2 * k + 1 + 1) (2 * k + 1)); rw [par_odd] at h; exact h
  · rw [cs_neg h15]
    obtain rfl : k = 15 := by omega
    exact pst_lends E c 30 _

/-- Choices whose conditions are equivalent are the same. -/
theorem cs_iff {P P' : Prop} [Decidable P] [Decidable P'] (h : P ↔ P') (A B : sProp 𝕄) : cs P A B = cs P' A B := by
  by_cases hp : P
  · rw [cs_pos hp, cs_pos (h.mp hp)]
  · rw [cs_neg hp, cs_neg (fun hp' => hp (h.mpr hp'))]

/-- The state before a trip, spelt as the first wait needs it. -/
theorem inv0_acks (c : Dev nD) (k : ℕ) (hk : k < 16) :
    inv0 E c k = cs (1 ≤ k) (bo c (Ow c (2 * k - 1 + 1) (2 * k - 1 + 1) (2 * k - 1 + 1) (2 * k - 1 + 1)) fun d => St E d c (2 * k - 1)) (bo c (Ow c 0 0 0 0) fun d => Rdy E d c 0) := by
  unfold inv0
  by_cases h : k = 0
  · rw [if_pos h, cs_neg (by omega)]
  · rw [if_neg h, if_pos hk, cs_pos (by omega), show 2 * k - 1 + 1 = 2 * k by omega]
/-- The state after the first wait, in either case. -/
theorem acks_rdy (c : Dev nD) (k : ℕ) :
    cs (1 ≤ k) (bo c (Ow c (2 * k - 1 + 1) (2 * k - 1 + 1) (2 * k - 1 + 1) (2 * k - 1 + 1)) fun d => Rdy E d c (2 * k - 1 + 1)) (bo c (Ow c 0 0 0 0) fun d => Rdy E d c 0)
      = bo c (Ow c (2 * k) (2 * k) (2 * k) (2 * k)) fun d => Rdy E d c (2 * k) := by
  by_cases h : k = 0
  · subst h; rw [cs_neg (by omega)]
  · rw [cs_pos (by omega), show 2 * k - 1 + 1 = 2 * k by omega]
/-- The state after a trip is the state before the next. -/
theorem last_inv0 (c : Dev nD) (k : ℕ) (hk : k < 16) :
    cs (k < 15) (bo c (Ow c (2 * k + 1 + 1) (2 * k + 1 + 1) (2 * k + 1 + 1) (2 * k + 1 + 1)) fun d => St E d c (2 * k + 1)) (fin0 E c) = inv0 E c (k + 1) := by
  unfold inv0
  rw [if_neg (by omega)]
  by_cases h : k < 15
  · rw [cs_pos h, if_pos (by omega), show 2 * (k + 1) - 1 = 2 * k + 1 by omega, show 2 * (k + 1) = 2 * k + 1 + 1 by omega]
  · rw [cs_neg h, if_neg (by omega)]; rfl
/-- The state between the two hops, spelt by whether the trip is the last. -/
theorem mid_fin (c : Dev nD) (k : ℕ) (hk : k < 16) :
    bo c (Ow c (2 * k + 1) (2 * k) (2 * k + 1) (2 * k)) (fun d => Pst E d c (2 * k))
      = cs (k < 15) (bo c (Ow c (2 * k + 1) (2 * k) (2 * k + 1) (2 * k)) fun d => Pst E d c (2 * k)) (fin0 E c) := by
  by_cases h : k < 15
  · rw [cs_pos h]
  · rw [cs_neg h]
    obtain rfl : k = 15 := by omega
    rfl

/-- The arrays: the tokens, and the result after `n` stores. -/
def arr (c : Dev nD) (n : ℕ) : sProp 𝕄 := iprop(((c : Thread nD τ).loc cc0_stg0_0 ↦{fullShare} X) ∗ yAt E X c n)

/-- The sends of the first hop. -/
theorem sends_even (v0 : Elt F .i32) (h0 : k0_chk1 v0) (v1 : Elt F .i32) (h1 : k0_chk2 v1) (k : Fin k0_t1_loop.trips) (c : Dev nD)
    (hv0 : v0 = BitVec.ofNat 32 (up false c).val) (hv1 : v1 = BitVec.ofNat 32 (dn false c).val) (R : sProp 𝕄)
    (a1 : (lo (Memref.whole cc0_scratch0)).view.WordExact) (b1 : (hi (Memref.whole cc0_scratch0)).view.WordExact)
    (a2 : (lo (Memref.whole cc0_scratch1)).view.WordExact) (b2 : (hi (Memref.whole cc0_scratch1)).view.WordExact)
    {α : Type} {Q : α → sProp 𝕄} {rest : Prog (TpuEff nD τ sig (Elt F) Λ₀ .tc) α} :
    iprop(allInv E K ∗ levAts L lv ∗ cs (k0_cond2 k = 1#1) (bo c (Ow c (2 * k.val) (2 * k.val) (2 * k.val) (2 * k.val)) fun d => Rdy E d c (2 * k.val)) R)
      ⊢ iprop((cs (k0_cond2 k = 1#1) (bo c (Ow c (2 * k.val + 1) (2 * k.val) (2 * k.val + 1) (2 * k.val)) fun d => Fly E d c (2 * k.val)) R -∗ wpc c rest Q)
        -∗ wpc c (if h : k0_cond2 k = 1#1 then
            .op (.enqueueDma (lo (Memref.whole cc0_scratch0)) (.remote (Dev.tc ⟨k0_dev3 v1, k0_dev3_lt v1 h1 k h⟩) (hi (Memref.whole cc0_scratch0)) (.dma (loS cc0_scratch2)) rfl) (.dma (hiS cc0_scratch3)) a1 b1 ⟨⟨rfl, Or.inl rfl⟩, trivial⟩) fun _ =>
            .op (.enqueueDma (lo (Memref.whole cc0_scratch1)) (.remote (Dev.tc ⟨k0_dev4 v0, k0_dev4_lt v0 h0 k h⟩) (hi (Memref.whole cc0_scratch1)) (.dma (loS cc0_scratch4)) rfl) (.dma (hiS cc0_scratch5)) a2 b2 ⟨⟨rfl, Or.inl rfl⟩, trivial⟩) fun _ => rest
          else rest) Q) :=
  sends_chunk E K c (2 * k.val) (fun _ => by have := lt16 k; omega) R (fun h => ⟨k0_dev3 v1, k0_dev3_lt v1 h1 k h⟩) (fun h => ⟨k0_dev4 v0, k0_dev4_lt v0 h0 k h⟩) (fun _ => dev_of _ _ hv1 _ rfl _) (fun _ => dev_of _ _ hv0 _ rfl _)
    false true (par_even _) rfl (lo (Memref.whole cc0_scratch0)) (hi (Memref.whole cc0_scratch0)) (lo (Memref.whole cc0_scratch1)) (hi (Memref.whole cc0_scratch1)) rfl rfl rfl rfl
    (loS cc0_scratch2) (hiS cc0_scratch3) (loS cc0_scratch4) (hiS cc0_scratch5) rfl rfl rfl rfl rfl a1 b1 _ rfl a2 b2 _

/-- The sends of the second hop. -/
theorem sends_odd (v0 : Elt F .i32) (h0 : k0_chk1 v0) (v1 : Elt F .i32) (h1 : k0_chk2 v1) (k : Fin k0_t1_loop.trips) (c : Dev nD)
    (hv0 : v0 = BitVec.ofNat 32 (up false c).val) (hv1 : v1 = BitVec.ofNat 32 (dn false c).val) (R : sProp 𝕄)
    (a1 : (hi (Memref.whole cc0_scratch0)).view.WordExact) (b1 : (lo (Memref.whole cc0_scratch0)).view.WordExact)
    (a2 : (hi (Memref.whole cc0_scratch1)).view.WordExact) (b2 : (lo (Memref.whole cc0_scratch1)).view.WordExact)
    {α : Type} {Q : α → sProp 𝕄} {rest : Prog (TpuEff nD τ sig (Elt F) Λ₀ .tc) α} :
    iprop(allInv E K ∗ levAts L lv ∗ cs (k0_cond6 k = 1#1) (bo c (Ow c (2 * k.val + 1) (2 * k.val + 1) (2 * k.val + 1) (2 * k.val + 1)) fun d => Rdy E d c (2 * k.val + 1)) R)
      ⊢ iprop((cs (k0_cond6 k = 1#1) (bo c (Ow c (2 * k.val + 1 + 1) (2 * k.val + 1) (2 * k.val + 1 + 1) (2 * k.val + 1)) fun d => Fly E d c (2 * k.val + 1)) R -∗ wpc c rest Q)
        -∗ wpc c (if h : k0_cond6 k = 1#1 then
            .op (.enqueueDma (hi (Memref.whole cc0_scratch0)) (.remote (Dev.tc ⟨k0_dev7 v1, k0_dev7_lt v1 h1 k h⟩) (lo (Memref.whole cc0_scratch0)) (.dma (hiS cc0_scratch2)) rfl) (.dma (loS cc0_scratch3)) a1 b1 ⟨⟨rfl, Or.inl rfl⟩, trivial⟩) fun _ =>
            .op (.enqueueDma (hi (Memref.whole cc0_scratch1)) (.remote (Dev.tc ⟨k0_dev8 v0, k0_dev8_lt v0 h0 k h⟩) (lo (Memref.whole cc0_scratch1)) (.dma (hiS cc0_scratch4)) rfl) (.dma (loS cc0_scratch5)) a2 b2 ⟨⟨rfl, Or.inl rfl⟩, trivial⟩) fun _ => rest
          else rest) Q) :=
  sends_chunk E K c (2 * k.val + 1) (fun h => by have := (cond6 k).mp h; omega) R (fun h => ⟨k0_dev7 v1, k0_dev7_lt v1 h1 k h⟩) (fun h => ⟨k0_dev8 v0, k0_dev8_lt v0 h0 k h⟩) (fun _ => dev_of _ _ hv1 _ rfl _) (fun _ => dev_of _ _ hv0 _ rfl _)
    true false (par_odd _) rfl (hi (Memref.whole cc0_scratch0)) (lo (Memref.whole cc0_scratch0)) (hi (Memref.whole cc0_scratch1)) (lo (Memref.whole cc0_scratch1)) rfl rfl rfl rfl
    (hiS cc0_scratch2) (loS cc0_scratch3) (hiS cc0_scratch4) (loS cc0_scratch5) rfl rfl rfl rfl rfl a1 b1 _ rfl a2 b2 _

/-- The waits of the first hop. -/
theorem waits_even {P : Prop} [Decidable P] (k : Fin k0_t1_loop.trips) (hP : P → True) (c : Dev nD) (R : sProp 𝕄)
    (a1 : (hi (Memref.whole cc0_scratch0)).view.WordExact) (b1 : (lo (Memref.whole cc0_scratch0)).view.WordExact) (a2 : (lo (Memref.whole cc0_scratch0)).view.WordExact) (b2 : (hi (Memref.whole cc0_scratch0)).view.WordExact)
    (a3 : (hi (Memref.whole cc0_scratch1)).view.WordExact) (b3 : (lo (Memref.whole cc0_scratch1)).view.WordExact) (a4 : (lo (Memref.whole cc0_scratch1)).view.WordExact) (b4 : (hi (Memref.whole cc0_scratch1)).view.WordExact)
    {α : Type} {Q : α → sProp 𝕄} {rest : Prog (TpuEff nD τ sig (Elt F) Λ₀ .tc) α} :
    iprop(allInv E K ∗ levAts L lv ∗ cs P (bo c (Ow c (2 * k.val + 1) (2 * k.val) (2 * k.val + 1) (2 * k.val)) fun d => Fly E d c (2 * k.val)) R)
      ⊢ iprop((cs P (bo c (Ow c (2 * k.val + 1) (2 * k.val) (2 * k.val + 1) (2 * k.val)) fun d => Pst E d c (2 * k.val)) R -∗ wpc c rest Q)
        -∗ wpc c (if h : P then
            .op (.waitDma2 (loS cc0_scratch2) (hi (Memref.whole cc0_scratch0)) (lo (Memref.whole cc0_scratch0)) a1 b1) fun _ => .op (.waitDma2 (hiS cc0_scratch3) (lo (Memref.whole cc0_scratch0)) (hi (Memref.whole cc0_scratch0)) a2 b2) fun _ =>
            .op (.waitDma2 (loS cc0_scratch4) (hi (Memref.whole cc0_scratch1)) (lo (Memref.whole cc0_scratch1)) a3 b3) fun _ => .op (.waitDma2 (hiS cc0_scratch5) (lo (Memref.whole cc0_scratch1)) (hi (Memref.whole cc0_scratch1)) a4 b4) fun _ => rest
          else rest) Q) :=
  waits_chunk E K c (2 * k.val) (fun _ => by have := lt16 k; omega) R false true (par_even _) rfl (loS cc0_scratch2) (hiS cc0_scratch3) (loS cc0_scratch4) (hiS cc0_scratch5) rfl rfl rfl rfl
    (hi (Memref.whole cc0_scratch0)) (lo (Memref.whole cc0_scratch0)) (hi (Memref.whole cc0_scratch1)) (lo (Memref.whole cc0_scratch1)) (lo (Memref.whole cc0_scratch0)) (hi (Memref.whole cc0_scratch0)) (lo (Memref.whole cc0_scratch1)) (hi (Memref.whole cc0_scratch1)) a1 a2 a3 a4 b1 b2 b3 b4
    (credit_slot false false) (credit_slot false true) (credit_slot true false) (credit_slot true true)

/-- The waits of the second hop. -/
theorem waits_odd {P : Prop} [Decidable P] (k : Fin k0_t1_loop.trips) (hP : P → k.val < 15) (c : Dev nD) (R : sProp 𝕄)
    (a1 : (lo (Memref.whole cc0_scratch0)).view.WordExact) (b1 : (hi (Memref.whole cc0_scratch0)).view.WordExact) (a2 : (hi (Memref.whole cc0_scratch0)).view.WordExact) (b2 : (lo (Memref.whole cc0_scratch0)).view.WordExact)
    (a3 : (lo (Memref.whole cc0_scratch1)).view.WordExact) (b3 : (hi (Memref.whole cc0_scratch1)).view.WordExact) (a4 : (hi (Memref.whole cc0_scratch1)).view.WordExact) (b4 : (lo (Memref.whole cc0_scratch1)).view.WordExact)
    {α : Type} {Q : α → sProp 𝕄} {rest : Prog (TpuEff nD τ sig (Elt F) Λ₀ .tc) α} :
    iprop(allInv E K ∗ levAts L lv ∗ cs P (bo c (Ow c (2 * k.val + 1 + 1) (2 * k.val + 1) (2 * k.val + 1 + 1) (2 * k.val + 1)) fun d => Fly E d c (2 * k.val + 1)) R)
      ⊢ iprop((cs P (bo c (Ow c (2 * k.val + 1 + 1) (2 * k.val + 1) (2 * k.val + 1 + 1) (2 * k.val + 1)) fun d => Pst E d c (2 * k.val + 1)) R -∗ wpc c rest Q)
        -∗ wpc c (if h : P then
            .op (.waitDma2 (hiS cc0_scratch2) (lo (Memref.whole cc0_scratch0)) (hi (Memref.whole cc0_scratch0)) a1 b1) fun _ => .op (.waitDma2 (loS cc0_scratch3) (hi (Memref.whole cc0_scratch0)) (lo (Memref.whole cc0_scratch0)) a2 b2) fun _ =>
            .op (.waitDma2 (hiS cc0_scratch4) (lo (Memref.whole cc0_scratch1)) (hi (Memref.whole cc0_scratch1)) a3 b3) fun _ => .op (.waitDma2 (loS cc0_scratch5) (hi (Memref.whole cc0_scratch1)) (lo (Memref.whole cc0_scratch1)) a4 b4) fun _ => rest
          else rest) Q) :=
  waits_chunk E K c (2 * k.val + 1) (fun h => by have := hP h; omega) R true false (par_odd _) rfl (hiS cc0_scratch2) (loS cc0_scratch3) (hiS cc0_scratch4) (loS cc0_scratch5) rfl rfl rfl rfl
    (lo (Memref.whole cc0_scratch0)) (hi (Memref.whole cc0_scratch0)) (lo (Memref.whole cc0_scratch1)) (hi (Memref.whole cc0_scratch1)) (hi (Memref.whole cc0_scratch0)) (lo (Memref.whole cc0_scratch0)) (hi (Memref.whole cc0_scratch1)) (lo (Memref.whole cc0_scratch1)) a1 a2 a3 a4 b1 b2 b3 b4
    (credit_slot false true) (credit_slot false false) (credit_slot true true) (credit_slot true false)

/-- The signals of the first hop. -/
theorem signals_even (v0 : Elt F .i32) (h0 : k0_chk1 v0) (v1 : Elt F .i32) (h1 : k0_chk2 v1) (k : Fin k0_t1_loop.trips) (c : Dev nD)
    (hv0 : v0 = BitVec.ofNat 32 (up false c).val) (hv1 : v1 = BitVec.ofNat 32 (dn false c).val) (R : sProp 𝕄)
    {α : Type} {Q : α → sProp 𝕄} {rest : Prog (TpuEff nD τ sig (Elt F) Λ₀ .tc) α} :
    iprop(allInv E K ∗ levAts L lv ∗ cs (k0_cond4 k = 1#1) (bo c (Ow c (2 * k.val + 1) (2 * k.val) (2 * k.val + 1) (2 * k.val)) fun d => Pst E d c (2 * k.val)) R)
      ⊢ iprop((cs (k0_cond4 k = 1#1) (bo c (Ow c (2 * k.val + 1) (2 * k.val + 1) (2 * k.val + 1) (2 * k.val + 1)) fun d => St E d c (2 * k.val)) R -∗ wpc c rest Q)
        -∗ wpc c (if h : k0_cond4 k = 1#1 then
            .op (.semSignal (Dev.tc ⟨k0_dev5 v0, k0_dev5_lt v0 h0 k h⟩) (SemArray.sem cc0_scratch6) (1#32).toInt) fun _ =>
            .op (.semSignal (Dev.tc ⟨k0_dev6 v1, k0_dev6_lt v1 h1 k h⟩) (SemArray.sem cc0_scratch7) (1#32).toInt) fun _ => rest
          else rest) Q) :=
  signals_chunk E K c (2 * k.val) (fun h => by have := (cond4 k).mp h; omega) R (fun h => ⟨k0_dev5 v0, k0_dev5_lt v0 h0 k h⟩) (fun h => ⟨k0_dev6 v1, k0_dev6_lt v1 h1 k h⟩)
    (fun _ => dev_of _ _ hv0 _ rfl _) (fun _ => dev_of _ _ hv1 _ rfl _) (SemArray.sem cc0_scratch6) (SemArray.sem cc0_scratch7) rfl rfl 1#32 1#32 rfl rfl

/-- The signals of the second hop. -/
theorem signals_odd (v0 : Elt F .i32) (h0 : k0_chk1 v0) (v1 : Elt F .i32) (h1 : k0_chk2 v1) (k : Fin k0_t1_loop.trips) (c : Dev nD)
    (hv0 : v0 = BitVec.ofNat 32 (up false c).val) (hv1 : v1 = BitVec.ofNat 32 (dn false c).val) (R : sProp 𝕄)
    {α : Type} {Q : α → sProp 𝕄} {rest : Prog (TpuEff nD τ sig (Elt F) Λ₀ .tc) α} :
    iprop(allInv E K ∗ levAts L lv ∗ cs (k0_cond8 k = 1#1) (bo c (Ow c (2 * k.val + 1 + 1) (2 * k.val + 1) (2 * k.val + 1 + 1) (2 * k.val + 1)) fun d => Pst E d c (2 * k.val + 1)) R)
      ⊢ iprop((cs (k0_cond8 k = 1#1) (bo c (Ow c (2 * k.val + 1 + 1) (2 * k.val + 1 + 1) (2 * k.val + 1 + 1) (2 * k.val + 1 + 1)) fun d => St E d c (2 * k.val + 1)) R -∗ wpc c rest Q)
        -∗ wpc c (if h : k0_cond8 k = 1#1 then
            .op (.semSignal (Dev.tc ⟨k0_dev9 v0, k0_dev9_lt v0 h0 k h⟩) (SemArray.sem cc0_scratch6) (1#32).toInt) fun _ =>
            .op (.semSignal (Dev.tc ⟨k0_dev10 v1, k0_dev10_lt v1 h1 k h⟩) (SemArray.sem cc0_scratch7) (1#32).toInt) fun _ => rest
          else rest) Q) :=
  signals_chunk E K c (2 * k.val + 1) (fun h => by have := (cond8 k).mp h; omega) R (fun h => ⟨k0_dev9 v0, k0_dev9_lt v0 h0 k h⟩) (fun h => ⟨k0_dev10 v1, k0_dev10_lt v1 h1 k h⟩)
    (fun _ => dev_of _ _ hv0 _ rfl _) (fun _ => dev_of _ _ hv1 _ rfl _) (SemArray.sem cc0_scratch6) (SemArray.sem cc0_scratch7) rfl rfl 1#32 1#32 rfl rfl

/-- The trip from its start to the first hop's first store. -/
theorem part3 (v0 : Elt F .i32) (h0 : k0_chk1 v0) (v1 : Elt F .i32) (h1 : k0_chk2 v1) (k : Fin k0_t1_loop.trips) (c : Dev nD)
    (hv0 : v0 = BitVec.ofNat 32 (up false c).val) (hv1 : v1 = BitVec.ofNat 32 (dn false c).val)
    (Q : _ → sProp 𝕄) :
    iprop(allInv E K ∗ levAts L lv ∗ inv0 E c k.val ∗ arr E X c (8 * k.val))
      ⊢ iprop(((stA E c k.val ∗ arr E X c (8 * k.val + 1)) -∗ Q ⟨Scf.iv 0#32 1#32 k, ⟨Scalar.muli 2#32 (Scf.iv 0#32 1#32 k), ⟨Scalar.muli (Scalar.addi (Scalar.muli 2#32 (Scalar.muli 2#32 (Scf.iv 0#32 1#32 k))) 1#32) 64#32, k0_pay5 (xblk X (bOf false (hA k) 1))⟩⟩⟩)
       -∗ wpc c (k0_part3 (F := F) xM (Memref.isWhole_whole _) eM (Memref.isWhole_whole _) sM (Memref.isWhole_whole _) tM (Memref.isWhole_whole _) yM (Memref.isWhole_whole _)
       (Memref.whole cc0_scratch0) (Memref.isWhole_whole _) (Memref.whole cc0_scratch1) (Memref.isWhole_whole _) cc0_scratch2 cc0_scratch3 cc0_scratch4 cc0_scratch5 cc0_scratch6 cc0_scratch7
       v0 h0 v1 h1 0#32 1#32 k) Q) := by
  have hk := lt16 k
  simp only [k0_part3_eq_skeleton]; unfold k0_part3_skel
  simp only [semSignalWord, semWaitWord, Prog.lift, Prog.bind_op, Prog.bind_ret, Prog.pure_eq_ret, Prog.bind_assoc]
  iintro ⟨#HI, #Hlev, HS, HA⟩ Hk
  ihave HS := (Entails.of_eq ((inv0_acks E c k.val hk).trans (cs_iff (cond1 k) _ _).symm)) $$ HS
  iapply (acks_chunk E K c (2 * k.val - 1) (fun _ => by omega) _ _ _ rfl rfl _ _ rfl rfl) $$ [HS]
  · isplitr; · iexact HI
    isplitr; · iexact Hlev
    iexact HS
  iintro HS
  ihave HS := (Entails.of_eq (((cs_iff (cond1 k) _ _).trans (acks_rdy E c k.val)).trans (cs_pos (cond2 k) _ iprop(emp)).symm)) $$ HS
  iapply (sends_even E K v0 h0 v1 h1 k c hv0 hv1 iprop(emp) _ _ _ _) $$ [HS]
  · isplitr; · iexact HI
    isplitr; · iexact Hlev
    iexact HS
  iintro HS
  ihave HS := (Entails.of_eq (cs_pos (cond2 k) _ _)) $$ HS
  ihave HS := (Entails.of_eq (stA_eq E c k.val)) $$ HS
  unfold arr
  icases HA with ⟨HX, HY⟩
  iapply (ld_x c X (bOf false (hA k) 0) _ ((Gen.k0_off1_eq k 0).trans (by congr 1; show 256 * k.val + 64 * 0 = 64 * (0 + 2 * (2 * k.val) + 0); omega)) _ _) $$ HX
  iintro HX
  iapply (ld_wH E c false (fun d => src d (2 * k.val) c) (stA E c k.val) (stA_lends E c k.val) false 0 _ rfl _ rfl _ _) $$ HS
  iintro HS
  iapply (ld_y E X c (8 * k.val) _ _ (fun _ => rfl)) $$ HY
  iintro HY
  iapply (st_y E X c (8 * k.val) false (hA k) 0 (by show _ = 4 * (2 * k.val) + 0 + 0; omega) _ ((Gen.k0_off2_eq k 0).trans (by congr 1; show 256 * k.val + 64 * 0 = 64 * (0 + 2 * (2 * k.val) + 0); omega)) _ _ rfl _ _) $$ HY
  iintro HY
  iapply (ld_x c X (bOf false (hA k) 1) _ ((Gen.k0_off1_eq k 1).trans (by congr 1; show 256 * k.val + 64 * 1 = 64 * (0 + 2 * (2 * k.val) + 1); omega)) _ _) $$ HX
  iintro HX
  iapply (ret_wp c)
  iapply Hk
  isplitl [HS]; · iexact HS
  isplitl [HX] <;> iassumption

/-- The stores in the middle of the first hop. -/
theorem part4 (v18 v41 : BitVec 32) (v44 : FVec F S64x512 .bf16) (k : Fin k0_t1_loop.trips) (c : Dev nD) (hv : v44 = k0_pay5 (xblk X (bOf false (hA k) 1)))
    (Q : _ → sProp 𝕄) :
    iprop(stA E c k.val ∗ arr E X c (8 * k.val + 1))
      ⊢ iprop(((stA E c k.val ∗ arr E X c (8 * k.val + 3)) -∗ Q (k0_pay8 (xblk X (bOf true (hA k) 1)) (wblk true 1 (E (src true (2 * k.val) c)))))
       -∗ wpc c (k0_part4 (F := F) xM (Memref.isWhole_whole _) eM (Memref.isWhole_whole _) sM (Memref.isWhole_whole _) tM (Memref.isWhole_whole _) yM (Memref.isWhole_whole _)
       (Memref.whole cc0_scratch0) (Memref.isWhole_whole _) (Memref.whole cc0_scratch1) (Memref.isWhole_whole _) cc0_scratch2 cc0_scratch3 cc0_scratch4 cc0_scratch5 cc0_scratch6 cc0_scratch7
       k v18 v41 v44) Q) := by
  have hk := lt16 k
  subst hv
  simp only [k0_part4_eq_skeleton]; unfold k0_part4_skel
  simp only [semSignalWord, semWaitWord, Prog.lift, Prog.bind_op, Prog.bind_ret, Prog.pure_eq_ret, Prog.bind_assoc]
  iintro ⟨HS, HA⟩ Hk
  unfold arr
  icases HA with ⟨HX, HY⟩
  iapply (ld_wH E c false (fun d => src d (2 * k.val) c) (stA E c k.val) (stA_lends E c k.val) false 1 _ rfl _ rfl _ _) $$ HS
  iintro HS
  iapply (ld_y E X c (8 * k.val + 1) _ _ (fun _ => rfl)) $$ HY
  iintro HY
  iapply (st_y E X c (8 * k.val + 1) false (hA k) 1 (by show _ = 4 * (2 * k.val) + 0 + 1; omega) _ ((Gen.k0_off2_eq k 1).trans (by congr 1; show 256 * k.val + 64 * 1 = 64 * (0 + 2 * (2 * k.val) + 1); omega)) _ _ rfl _ _) $$ HY
  iintro HY
  iapply (ld_x c X (bOf true (hA k) 0) _ ((Gen.k0_off3_eq k 0).trans (by congr 1; show 256 * k.val + 64 * 0 + 4096 = 64 * (64 + 2 * (2 * k.val) + 0); omega)) _ _) $$ HX
  iintro HX
  iapply (ld_wH E c false (fun d => src d (2 * k.val) c) (stA E c k.val) (stA_lends E c k.val) true 0 _ rfl _ rfl _ _) $$ HS
  iintro HS
  iapply (ld_y E X c (8 * k.val + 2) _ _ (fun _ => rfl)) $$ HY
  iintro HY
  iapply (st_y E X c (8 * k.val + 2) true (hA k) 0 (by show _ = 4 * (2 * k.val) + 2 + 0; omega) _ ((Gen.k0_off4_eq k 0).trans (by congr 1; show 256 * k.val + 64 * 0 + 4096 = 64 * (64 + 2 * (2 * k.val) + 0); omega)) _ _ rfl _ _) $$ HY
  iintro HY
  iapply (ld_x c X (bOf true (hA k) 1) _ ((Gen.k0_off3_eq k 1).trans (by congr 1; show 256 * k.val + 64 * 1 + 4096 = 64 * (64 + 2 * (2 * k.val) + 1); omega)) _ _) $$ HX
  iintro HX
  iapply (ld_wH E c false (fun d => src d (2 * k.val) c) (stA E c k.val) (stA_lends E c k.val) true 1 _ rfl _ rfl _ _) $$ HS
  iintro HS
  iapply (ret_wp c)
  iapply Hk
  isplitl [HS]; · iexact HS
  isplitl [HX] <;> iassumption

/-- From the first hop's last store, over its waits, to the second hop's sends. -/
theorem part5 (v0 : Elt F .i32) (h0 : k0_chk1 v0) (v1 : Elt F .i32) (h1 : k0_chk2 v1) (k : Fin k0_t1_loop.trips) (c : Dev nD)
    (hv0 : v0 = BitVec.ofNat 32 (up false c).val) (hv1 : v1 = BitVec.ofNat 32 (dn false c).val)
    (v74 : FVec F S64x1024 .bf16) (hv : v74 = k0_pay8 (xblk X (bOf true (hA k) 1)) (wblk true 1 (E (src true (2 * k.val) c))))
    (Q : _ → sProp 𝕄) :
    iprop(allInv E K ∗ levAts L lv ∗ stA E c k.val ∗ arr E X c (8 * k.val + 3))
      ⊢ iprop(((stB E c k.val ∗ arr E X c (8 * k.val + 4)) -∗ Q ⟨Scalar.addi (Scalar.muli 2#32 (Scf.iv 0#32 1#32 k)) 1#32, ⟨Scalar.muli (Scalar.addi (Scalar.muli 2#32 (Scalar.addi (Scalar.muli 2#32 (Scf.iv 0#32 1#32 k)) 1#32)) 0#32) 64#32, k0_pay9 (xblk X (bOf false (hB k) 0))⟩⟩)
       -∗ wpc c (k0_part5 (F := F) xM (Memref.isWhole_whole _) eM (Memref.isWhole_whole _) sM (Memref.isWhole_whole _) tM (Memref.isWhole_whole _) yM (Memref.isWhole_whole _)
       (Memref.whole cc0_scratch0) (Memref.isWhole_whole _) (Memref.whole cc0_scratch1) (Memref.isWhole_whole _) cc0_scratch2 cc0_scratch3 cc0_scratch4 cc0_scratch5 cc0_scratch6 cc0_scratch7
       v0 h0 v1 h1 k (Scf.iv 0#32 1#32 k) (Scalar.muli 2#32 (Scf.iv 0#32 1#32 k)) v74) Q) := by
  have hk := lt16 k
  subst hv
  simp only [k0_part5_eq_skeleton]; unfold k0_part5_skel
  simp only [k0_part1_eq_skeleton]; unfold k0_part1_skel
  simp only [semSignalWord, semWaitWord, Prog.lift, Prog.bind_op, Prog.bind_ret, Prog.pure_eq_ret, Prog.bind_assoc]
  iintro ⟨#HI, #Hlev, HS, HA⟩ Hk
  unfold arr
  icases HA with ⟨HX, HY⟩
  iapply (ld_y E X c (8 * k.val + 3) _ _ (fun _ => rfl)) $$ HY
  iintro HY
  iapply (st_y E X c (8 * k.val + 3) true (hA k) 1 (by show _ = 4 * (2 * k.val) + 2 + 1; omega) _ ((Gen.k0_off4_eq k 1).trans (by congr 1; show 256 * k.val + 64 * 1 + 4096 = 64 * (64 + 2 * (2 * k.val) + 1); omega)) _ _ rfl _ _) $$ HY
  iintro HY
  ihave HS := (Entails.of_eq ((stA_eq E c k.val).symm.trans (cs_pos (cond3 k) _ iprop(emp)).symm)) $$ HS
  iapply (waits_even E K k (fun _ => trivial) c iprop(emp) _ _ _ _ _ _ _ _) $$ [HS]
  · isplitr; · iexact HI
    isplitr; · iexact Hlev
    iexact HS
  iintro HS
  ihave HS := (Entails.of_eq ((cs_pos (cond3 k) _ _).trans ((mid_fin E c k.val hk).trans (cs_iff (cond4 k) _ _).symm))) $$ HS
  iapply (signals_even E K v0 h0 v1 h1 k c hv0 hv1 (fin0 E c)) $$ [HS]
  · isplitr; · iexact HI
    isplitr; · iexact Hlev
    iexact HS
  iintro HS
  ihave HS := (Entails.of_eq ((cs_iff (cond4 k) _ _).trans (cs_iff (cond5 k) _ _).symm)) $$ HS
  iapply (acks_chunk E K c (2 * k.val) (fun h => by have := (cond5 k).mp h; omega) _ _ _ rfl rfl _ _ rfl rfl) $$ [HS]
  · isplitr; · iexact HI
    isplitr; · iexact Hlev
    iexact HS
  iintro HS
  ihave HS := (Entails.of_eq ((cs_iff (cond5 k) _ _).trans (cs_iff (cond6 k) _ _).symm)) $$ HS
  iapply (sends_odd E K v0 h0 v1 h1 k c hv0 hv1 (fin0 E c) _ _ _ _) $$ [HS]
  · isplitr; · iexact HI
    isplitr; · iexact Hlev
    iexact HS
  iintro HS
  ihave HS := (Entails.of_eq ((cs_iff (cond6 k) _ _).trans (stB_eq E c k.val))) $$ HS
  iapply (ld_x c X (bOf false (hB k) 0) _ ((Gen.k0_off5_eq k 0).trans (by congr 1; show 256 * k.val + 64 * 0 + 128 = 64 * (0 + 2 * (2 * k.val + 1) + 0); omega)) _ _) $$ HX
  iintro HX
  iapply (ret_wp c)
  iapply Hk
  isplitl [HS]; · iexact HS
  isplitl [HX] <;> iassumption

/-- The stores of the second hop. -/
theorem part6 (v84 v95 : BitVec 32) (v98 : FVec F S64x512 .bf16) (k : Fin k0_t1_loop.trips) (c : Dev nD) (hv : v98 = k0_pay9 (xblk X (bOf false (hB k) 0)))
    (Q : _ → sProp 𝕄) :
    iprop(stB E c k.val ∗ arr E X c (8 * k.val + 4))
      ⊢ iprop(((stB E c k.val ∗ arr E X c (8 * k.val + 7)) -∗ Q ⟨⟩)
       -∗ wpc c (k0_part6 (F := F) xM (Memref.isWhole_whole _) eM (Memref.isWhole_whole _) sM (Memref.isWhole_whole _) tM (Memref.isWhole_whole _) yM (Memref.isWhole_whole _)
       (Memref.whole cc0_scratch0) (Memref.isWhole_whole _) (Memref.whole cc0_scratch1) (Memref.isWhole_whole _) cc0_scratch2 cc0_scratch3 cc0_scratch4 cc0_scratch5 cc0_scratch6 cc0_scratch7
       k v84 v95 v98) Q) := by
  have hk := lt16 k
  subst hv
  simp only [k0_part6_eq_skeleton]; unfold k0_part6_skel
  simp only [semSignalWord, semWaitWord, Prog.lift, Prog.bind_op, Prog.bind_ret, Prog.pure_eq_ret, Prog.bind_assoc]
  iintro ⟨HS, HA⟩ Hk
  unfold arr
  icases HA with ⟨HX, HY⟩
  iapply (ld_wH E c true (fun d => src d (2 * k.val + 1) c) (stB E c k.val) (stB_lends E c k.val hk) false 0 _ rfl _ rfl _ _) $$ HS
  iintro HS
  iapply (ld_y E X c (8 * k.val + 4) _ _ (fun _ => rfl)) $$ HY
  iintro HY
  iapply (st_y E X c (8 * k.val + 4) false (hB k) 0 (by show _ = 4 * (2 * k.val + 1) + 0 + 0; omega) _ ((Gen.k0_off6_eq k 0).trans (by congr 1; show 256 * k.val + 64 * 0 + 128 = 64 * (0 + 2 * (2 * k.val + 1) + 0); omega)) _ _ rfl _ _) $$ HY
  iintro HY
  iapply (ld_x c X (bOf false (hB k) 1) _ ((Gen.k0_off5_eq k 1).trans (by congr 1; show 256 * k.val + 64 * 1 + 128 = 64 * (0 + 2 * (2 * k.val + 1) + 1); omega)) _ _) $$ HX
  iintro HX
  iapply (ld_wH E c true (fun d => src d (2 * k.val + 1) c) (stB E c k.val) (stB_lends E c k.val hk) false 1 _ rfl _ rfl _ _) $$ HS
  iintro HS
  iapply (ld_y E X c (8 * k.val + 5) _ _ (fun _ => rfl)) $$ HY
  iintro HY
  iapply (st_y E X c (8 * k.val + 5) false (hB k) 1 (by show _ = 4 * (2 * k.val + 1) + 0 + 1; omega) _ ((Gen.k0_off6_eq k 1).trans (by congr 1; show 256 * k.val + 64 * 1 + 128 = 64 * (0 + 2 * (2 * k.val + 1) + 1); omega)) _ _ rfl _ _) $$ HY
  iintro HY
  iapply (ld_x c X (bOf true (hB k) 0) _ ((Gen.k0_off7_eq k 0).trans (by congr 1; show 256 * k.val + 64 * 0 + 4224 = 64 * (64 + 2 * (2 * k.val + 1) + 0); omega)) _ _) $$ HX
  iintro HX
  iapply (ld_wH E c true (fun d => src d (2 * k.val + 1) c) (stB E c k.val) (stB_lends E c k.val hk) true 0 _ rfl _ rfl _ _) $$ HS
  iintro HS
  iapply (ld_y E X c (8 * k.val + 6) _ _ (fun _ => rfl)) $$ HY
  iintro HY
  iapply (st_y E X c (8 * k.val + 6) true (hB k) 0 (by show _ = 4 * (2 * k.val + 1) + 2 + 0; omega) _ ((Gen.k0_off8_eq k 0).trans (by congr 1; show 256 * k.val + 64 * 0 + 4224 = 64 * (64 + 2 * (2 * k.val + 1) + 0); omega)) _ _ rfl _ _) $$ HY
  iintro HY
  iapply (ret_wp c)
  iapply Hk
  isplitl [HS]; · iexact HS
  isplitl [HX] <;> iassumption

/-- One trip: two hops in both directions, eight blocks of the result. -/
theorem trip (v0 : Elt F .i32) (h0 : k0_chk1 v0) (v1 : Elt F .i32) (h1 : k0_chk2 v1) (k : Fin k0_t1_loop.trips) (c : Dev nD)
    (hv0 : v0 = BitVec.ofNat 32 (up false c).val) (hv1 : v1 = BitVec.ofNat 32 (dn false c).val) (acc : Unit)
    (Q : _ → sProp 𝕄) :
    iprop(allInv E K ∗ levAts L lv ∗ inv0 E c k.val ∗ arr E X c (8 * k.val))
      ⊢ iprop(((inv0 E c (k.val + 1) ∗ arr E X c (8 * (k.val + 1))) -∗ Q ⟨⟩)
       -∗ wpc c (k0_t1_body (F := F) xM (Memref.isWhole_whole _) eM (Memref.isWhole_whole _) sM (Memref.isWhole_whole _) tM (Memref.isWhole_whole _) yM (Memref.isWhole_whole _)
       (Memref.whole cc0_scratch0) (Memref.isWhole_whole _) (Memref.whole cc0_scratch1) (Memref.isWhole_whole _) cc0_scratch2 cc0_scratch3 cc0_scratch4 cc0_scratch5 cc0_scratch6 cc0_scratch7
       v0 h0 v1 h1 k acc) Q) := by
  have hk := lt16 k
  unfold k0_t1_body
  simp only [k0_part2_eq_skeleton]; unfold k0_part2_skel
  simp only [semSignalWord, semWaitWord, Prog.lift, Prog.bind_op, Prog.bind_ret, Prog.pure_eq_ret, Prog.bind_assoc]
  rw [wpc, wp_bind]
  iintro ⟨#HI, #Hlev, HS, HA⟩ Hk
  iapply (part3 E K X v0 h0 v1 h1 k c hv0 hv1) $$ [HS HA]
  · isplitr; · iexact HI
    isplitr; · iexact Hlev
    isplitl [HS] <;> iassumption
  iintro ⟨HS, HA⟩
  iapply (Entails.of_eq (wp_bind ..).symm)
  iapply (part4 E X _ _ _ k c rfl) $$ [HS HA]
  · isplitl [HS] <;> iassumption
  iintro ⟨HS, HA⟩
  iapply (Entails.of_eq (wp_bind ..).symm)
  iapply (part5 E K X v0 h0 v1 h1 k c hv0 hv1 _ rfl) $$ [HS HA]
  · isplitr; · iexact HI
    isplitr; · iexact Hlev
    isplitl [HS] <;> iassumption
  iintro ⟨HS, HA⟩
  iapply (Entails.of_eq (wp_bind ..).symm)
  iapply (part6 E X _ _ _ k c rfl) $$ [HS HA]
  · isplitl [HS] <;> iassumption
  iintro ⟨HS, HA⟩
  unfold arr
  icases HA with ⟨HX, HY⟩
  iapply (ld_x c X (bOf true (hB k) 1) _ ((Gen.k0_off7_eq k 1).trans (by congr 1; show 256 * k.val + 64 * 1 + 4224 = 64 * (64 + 2 * (2 * k.val + 1) + 1); omega)) _ _) $$ HX
  iintro HX
  iapply (ld_wH E c true (fun d => src d (2 * k.val + 1) c) (stB E c k.val) (stB_lends E c k.val hk) true 1 _ rfl _ rfl _ _) $$ HS
  iintro HS
  iapply (ld_y E X c (8 * k.val + 7) _ _ (fun _ => rfl)) $$ HY
  iintro HY
  iapply (st_y E X c (8 * k.val + 7) true (hB k) 1 (by show _ = 4 * (2 * k.val + 1) + 2 + 1; omega) _ ((Gen.k0_off8_eq k 1).trans (by congr 1; show 256 * k.val + 64 * 1 + 4224 = 64 * (64 + 2 * (2 * k.val + 1) + 1); omega)) _ _ rfl _ _) $$ HY
  iintro HY
  ihave HS := (Entails.of_eq ((stB_eq E c k.val).symm.trans (cs_iff (cond7 k) _ _).symm)) $$ HS
  iapply (waits_odd E K k (cond7 k).mp c (fin0 E c) _ _ _ _ _ _ _ _) $$ [HS]
  · isplitr; · iexact HI
    isplitr; · iexact Hlev
    iexact HS
  iintro HS
  ihave HS := (Entails.of_eq ((cs_iff (cond7 k) _ _).trans (cs_iff (cond8 k) _ _).symm)) $$ HS
  iapply (signals_odd E K v0 h0 v1 h1 k c hv0 hv1 (fin0 E c)) $$ [HS]
  · isplitr; · iexact HI
    isplitr; · iexact Hlev
    iexact HS
  iintro HS
  ihave HS := (Entails.of_eq ((cs_iff (cond8 k) _ _).trans (last_inv0 E c k.val hk))) $$ HS
  iapply (ret_wp c)
  iapply Hk
  isplitl [HS]; · iexact HS
  isplitl [HX] <;> iassumption

end Cert.Proof.Ring
-- ==== Proof.Ring.Body.lean ====
/- The body of the ring: the barrier, the weights put in place, the sixteen trips, the cells closed.  Generic in the
   floats. -/

module

public import proofs.«01_k».proof.Proof.Ring.Trip
public import Idealize.ShloMosaic.Lib.Pipeline.Value

@[expose] public section

set_option maxRecDepth 16384

noncomputable section

namespace Cert.Proof.Ring

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (E : Wts F) (K : Dev nD × Kind → ℕ) (X : S8192x512.Idx → Elt F .bf16)

/-! ## Prologue: the words, the weights' first places -/

/-- The read of a word from the first table cell. -/
theorem ld_s (c : Dev nD) (w : BitVec 32) (r : LoadRect S1) (hl : sM.view.LoadsAt r)
    {α : Type} {Q : α → sProp 𝕄} {k : (r.shape.Idx → Elt F .i32) → Prog (TpuEff nD τ sig (Elt F) Λ₀ .tc) α} :
    ((c : Thread nD τ).loc cc0_stg2_0 ↦{fullShare} (fun _ : S1.Idx => (w : Elt F .i32)))
      ⊢ iprop((((c : Thread nD τ).loc cc0_stg2_0 ↦{fullShare} (fun _ : S1.Idx => (w : Elt F .i32))) -∗ wpc c (k (fun _ => w)) Q)
          -∗ wpc c (.op (.load sM r hl) k) Q) :=
  wp_load (Val := Elt F) (defs := defs₀ (F := F)) 𝒱₀ (c : Thread nD τ) none (Γ := .empty) Set.univ (m := sM) (hl := hl) (k := k) (Q := Q) (q := fullShare) (f := fun _ : S1.Idx => (w : Elt F .i32)) (Finset.subset_univ _)

/-- The read of a word from the second table cell. -/
theorem ld_t (c : Dev nD) (w : BitVec 32) (r : LoadRect S1) (hl : tM.view.LoadsAt r)
    {α : Type} {Q : α → sProp 𝕄} {k : (r.shape.Idx → Elt F .i32) → Prog (TpuEff nD τ sig (Elt F) Λ₀ .tc) α} :
    ((c : Thread nD τ).loc cc0_stg3_0 ↦{fullShare} (fun _ : S1.Idx => (w : Elt F .i32)))
      ⊢ iprop((((c : Thread nD τ).loc cc0_stg3_0 ↦{fullShare} (fun _ : S1.Idx => (w : Elt F .i32))) -∗ wpc c (k (fun _ => w)) Q)
          -∗ wpc c (.op (.load tM r hl) k) Q) :=
  wp_load (Val := Elt F) (defs := defs₀ (F := F)) 𝒱₀ (c : Thread nD τ) none (Γ := .empty) Set.univ (m := tM) (hl := hl) (k := k) (Q := Q) (q := fullShare) (f := fun _ : S1.Idx => (w : Elt F .i32)) (Finset.subset_univ _)

/-- Two consecutive experts' weights. -/
def ewt (d : Bool) (e : S4x512x1024.Idx → Elt F .bf16) : Vec F S2x512x1024 .bf16 := fun i => e fun a =>
  match a with
  | ⟨0, _⟩ => ⟨(cond d 2 0) + (i 0).val, by have : (i 0).val < 2 := (i 0).isLt; cases d <;> (show _ < 4; simp only [cond_true, cond_false]; omega)⟩
  | ⟨1, _⟩ => ⟨(i 1).val, (i 1).isLt⟩
  | ⟨2, _⟩ => ⟨(i 2).val, (i 2).isLt⟩

/-- The read of two consecutive experts' weights. -/
theorem ld_e (c : Dev nD) (e : S4x512x1024.Idx → Elt F .bf16) (d : Bool) (off : Fin 3 → ℕ) (hoff : off = ![cond d 2 0, 0, 0])
    (inb : ∀ a, off a + S2x512x1024.size a ≤ S4x512x1024.size a) (hl : eM.view.LoadsAt (Rect.unit (s := S4x512x1024) off S2x512x1024.size inb).toLoadRect)
    {α : Type} {Q : α → sProp 𝕄} {k : Vec F S2x512x1024 .bf16 → Prog (TpuEff nD τ sig (Elt F) Λ₀ .tc) α} :
    ((c : Thread nD τ).loc cc0_stg1_0 ↦{fullShare} e)
      ⊢ iprop((((c : Thread nD τ).loc cc0_stg1_0 ↦{fullShare} e) -∗ wpc c (k (ewt d e)) Q)
          -∗ wpc c (.op (.load eM (Rect.unit (s := S4x512x1024) off S2x512x1024.size inb).toLoadRect hl) k) Q) := by
  subst hoff
  have h := wp_load (Val := Elt F) (defs := defs₀ (F := F)) 𝒱₀ (c : Thread nD τ) none (Γ := .empty) Set.univ (m := eM) (hl := hl) (k := k) (Q := Q) (q := fullShare) (f := e) (Finset.subset_univ _)
  have hv : eM.view.readAt (Elt F) (Rect.unit (s := S4x512x1024) ![cond d 2 0, 0, 0] S2x512x1024.size inb).toLoadRect e = ewt d e := by
    funext i
    show e _ = e _
    congr 1
    funext a
    fin_cases a
    · exact Fin.ext (show cond d 2 0 + 1 * (i 0).val = cond d 2 0 + (i 0).val by omega)
    · exact Fin.ext (show 0 + 1 * (i 1).val = (i 1).val by omega)
    · exact Fin.ext (show 0 + 1 * (i 2).val = (i 2).val by omega)
  rw [hv] at h
  exact h

/-- Where slot 0's rectangle puts an index. -/
theorem emb_slot0 (inb : ∀ a, (![0, 0, 0, 0] : Fin 4 → ℕ) a + S1x2x512x1024.size a ≤ S2x2x512x1024.size a) (i : S1x2x512x1024.Idx) (a : Fin 4) :
    (((Rect.unit (s := S2x2x512x1024) ![0, 0, 0, 0] S1x2x512x1024.size inb).emb i) a).val = (i a).val := by
  fin_cases a
  · exact (show 0 + 1 * (i 0).val = (i 0).val by omega)
  · exact (show 0 + 1 * (i 1).val = (i 1).val by omega)
  · exact (show 0 + 1 * (i 2).val = (i 2).val by omega)
  · exact (show 0 + 1 * (i 3).val = (i 3).val by omega)

/-- The reshaped weights at a place of a slot are the weights that slot is to hold. -/
theorem pay_slot (d : Bool) (e : S4x512x1024.Idx → Elt F .bf16) (inb : ∀ a, (![0, 0, 0, 0] : Fin 4 → ℕ) a + S1x2x512x1024.size a ≤ S2x2x512x1024.size a)
    (i : S1x2x512x1024.Idx) : k0_pay1 (ewt d e) i = wbuf d e ((Rect.unit (s := S2x2x512x1024) ![0, 0, 0, 0] S1x2x512x1024.size inb).emb i) := by
  unfold k0_pay1
  rw [shapeCast_self]
  rw [shapeCast_addUnit_apply ![2, 512, 1024] (ewt d e) shapeCasts_S2x512x1024_S1x2x512x1024 i]
  show e _ = e _
  congr 1
  funext a
  fin_cases a
  · exact Fin.ext (congrArg (cond d 2 0 + ·) (emb_slot0 inb i 1).symm)
  · exact Fin.ext (emb_slot0 inb i 2).symm
  · exact Fin.ext (emb_slot0 inb i 3).symm

/-- A read whose value is not used, of the slot the weights start in. -/
theorem ld_slot (d : Bool) (c : Dev nD) (f : S2x2x512x1024.Idx → Elt F .bf16) (m : Memref sig .tc .vmem S2x2x512x1024 .bf16) (hm : m = commM d)
    (inb : ∀ a, (![0, 0, 0, 0] : Fin 4 → ℕ) a + S1x2x512x1024.size a ≤ S2x2x512x1024.size a)
    (hl : m.view.LoadsAt (Rect.unit (s := S2x2x512x1024) ![0, 0, 0, 0] S1x2x512x1024.size inb).toLoadRect)
    {α : Type} {Q : α → sProp 𝕄} {k : Vec F S1x2x512x1024 .bf16 → Prog (TpuEff nD τ sig (Elt F) Λ₀ .tc) α} {p : Prog (TpuEff nD τ sig (Elt F) Λ₀ .tc) α} (hk : ∀ v, k v = p) :
    scrPt fullShare d (slotSet false) c f
      ⊢ iprop((scrPt fullShare d (slotSet false) c f -∗ wpc c p Q)
          -∗ wpc c (.op (.load m (Rect.unit (s := S2x2x512x1024) ![0, 0, 0, 0] S1x2x512x1024.size inb).toLoadRect hl) k) Q) := by
  subst hm
  have hmem : ∀ i ∈ (Rect.unit (s := S2x2x512x1024) ![0, 0, 0, 0] S1x2x512x1024.size inb).set, i ∈ slotSet false := by
    intro i hi; rw [show (Rect.unit (s := S2x2x512x1024) ![0, 0, 0, 0] S1x2x512x1024.size inb).set = slotSet false from rect_slot false _ rfl inb] at hi; exact hi
  cases d
  · have h := wp_load (Val := Elt F) (defs := defs₀ (F := F)) 𝒱₀ (c : Thread nD τ) none (Γ := .empty) Set.univ (m := commM false) (hl := hl) (k := k) (Q := Q) (q := fullShare) (S := slotSet false) (f := f)
      (by intro i hi; obtain ⟨t, ht, rfl⟩ := Finset.mem_map.mp hi; exact hmem _ ht)
    rw [hk] at h; exact h
  · have h := wp_load (Val := Elt F) (defs := defs₀ (F := F)) 𝒱₀ (c : Thread nD τ) none (Γ := .empty) Set.univ (m := commM true) (hl := hl) (k := k) (Q := Q) (q := fullShare) (S := slotSet false) (f := f)
      (by intro i hi; obtain ⟨t, ht, rfl⟩ := Finset.mem_map.mp hi; exact hmem _ ht)
    rw [hk] at h; exact h

/-- Places of the first slot are places of the rectangle stored to. -/
theorem slot0_emb (inb : ∀ a, (![0, 0, 0, 0] : Fin 4 → ℕ) a + S1x2x512x1024.size a ≤ S2x2x512x1024.size a) (i : S2x2x512x1024.Idx) (hi : i ∈ slotSet false) :
    ∃ j, (Rect.unit (s := S2x2x512x1024) ![0, 0, 0, 0] S1x2x512x1024.size inb).emb j = i := by
  rw [mem_slotSet] at hi
  refine ⟨fun a => match a with
    | ⟨0, _⟩ => ⟨0, show 0 < 1 by decide⟩ | ⟨1, _⟩ => ⟨(i 1).val, (i 1).isLt⟩ | ⟨2, _⟩ => ⟨(i 2).val, (i 2).isLt⟩ | ⟨3, _⟩ => ⟨(i 3).val, (i 3).isLt⟩, ?_⟩
  funext a
  apply Fin.ext
  refine (emb_slot0 inb _ a).trans ?_
  fin_cases a
  · exact hi.symm
  · rfl
  · rfl
  · rfl

/-- Slot 0's rectangle holds the indices it puts there. -/
theorem emb_mem_slot0 (inb : ∀ a, (![0, 0, 0, 0] : Fin 4 → ℕ) a + S1x2x512x1024.size a ≤ S2x2x512x1024.size a) (j : S1x2x512x1024.Idx) :
    (Rect.unit (s := S2x2x512x1024) ![0, 0, 0, 0] S1x2x512x1024.size inb).emb j ∈ slotSet false := by
  rw [mem_slotSet]
  have h : (j 0).val < 1 := (j 0).isLt
  have e := emb_slot0 inb j 0
  have : sIx false = 0 := rfl
  omega

/-- A core puts its own experts' weights into the first slot. -/
theorem st_slot (d : Bool) (c : Dev nD) (f : S2x2x512x1024.Idx → Elt F .bf16) (m : Memref sig .tc .vmem S2x2x512x1024 .bf16) (hm : m = commM d)
    (inb : ∀ a, (![0, 0, 0, 0] : Fin 4 → ℕ) a + S1x2x512x1024.size a ≤ S2x2x512x1024.size a) (w : Vec F S1x2x512x1024 .bf16) (hw : w = k0_pay1 (ewt d (E c)))
    (hx : (m.access (Rect.unit (s := S2x2x512x1024) ![0, 0, 0, 0] S1x2x512x1024.size inb)).Stores Finset.univ)
    (hm' : (Finset.univ : Finset _) = Finset.univ ∨ ∀ a, (Rect.unit (s := S2x2x512x1024) ![0, 0, 0, 0] S1x2x512x1024.size inb).stride a = 1)
    {α : Type} {Q : α → sProp 𝕄} {k : PUnit → Prog (TpuEff nD τ sig (Elt F) Λ₀ .tc) α} :
    scrPt fullShare d (slotSet false) c f
      ⊢ iprop((slotW E fullShare d false c c -∗ wpc c (k ⟨⟩) Q)
          -∗ wpc c (.op (.store m (Rect.unit (s := S2x2x512x1024) ![0, 0, 0, 0] S1x2x512x1024.size inb) w Finset.univ hx hm') k) Q) := by
  rw [slotW_eq]
  have hval : ∀ j : S1x2x512x1024.Idx, w j = wbuf d (E c) ((Rect.unit (s := S2x2x512x1024) ![0, 0, 0, 0] S1x2x512x1024.size inb).emb j) := by
    intro j; rw [hw, pay_slot d (E c) inb]
  clear hw
  subst hm
  cases d
  · have hS : ((commM false).access (Rect.unit (s := S2x2x512x1024) ![0, 0, 0, 0] S1x2x512x1024.size inb)).setOn Finset.univ ⊆ slotSet false := by
      intro i hi; obtain ⟨t, ht, rfl⟩ := Finset.mem_map.mp hi; exact emb_mem_slot0 inb t
    dsimp only [scrPt]
    iintro H Hk
    iapply (wp_store (Val := Elt F) (defs := defs₀ (F := F)) 𝒱₀ (c : Thread nD τ) none (Γ := .empty) Set.univ (m := commM false) (w := w) (hx := hx) (hm := hm') (S := slotSet false) (f := f) hS) $$ H
    iintro H
    iapply Hk
    iapply (Entails.of_eq (pointsTo_congr (ℓ := (c : Thread nD τ).loc cc0_scratch0) (I := slotSet false) (q := fullShare) (g := wbuf false (E c)) ?_)) $$ H
    intro i hi
    obtain ⟨j, rfl⟩ := slot0_emb inb i hi
    rw [← hval j]
    exact ((commM false).access (Rect.unit (s := S2x2x512x1024) ![0, 0, 0, 0] S1x2x512x1024.size inb)).write_emb_of_mem (Val := Elt F) f w (Finset.mem_univ j)
  · have hS : ((commM true).access (Rect.unit (s := S2x2x512x1024) ![0, 0, 0, 0] S1x2x512x1024.size inb)).setOn Finset.univ ⊆ slotSet false := by
      intro i hi; obtain ⟨t, ht, rfl⟩ := Finset.mem_map.mp hi; exact emb_mem_slot0 inb t
    dsimp only [scrPt]
    iintro H Hk
    iapply (wp_store (Val := Elt F) (defs := defs₀ (F := F)) 𝒱₀ (c : Thread nD τ) none (Γ := .empty) Set.univ (m := commM true) (w := w) (hx := hx) (hm := hm') (S := slotSet false) (f := f) hS) $$ H
    iintro H
    iapply Hk
    iapply (Entails.of_eq (pointsTo_congr (ℓ := (c : Thread nD τ).loc cc0_scratch1) (I := slotSet false) (q := fullShare) (g := wbuf true (E c)) ?_)) $$ H
    intro i hi
    obtain ⟨j, rfl⟩ := slot0_emb inb i hi
    rw [← hval j]
    exact ((commM true).access (Rect.unit (s := S2x2x512x1024) ![0, 0, 0, 0] S1x2x512x1024.size inb)).write_emb_of_mem (Val := Elt F) f w (Finset.mem_univ j)

/-! ## What a core starts with and ends with -/

/-- A direction's share of what a core starts with. -/
def Pre0 (d : Bool) (c : Dev nD) : sProp 𝕄 :=
  iprop(posS d c 0 ∗ posR d c 0 ∗ pos (.ack d) c 0 ∗ toks d c 0 ∗ creds d c 0 ∗ acks d c 0 ∗ ackc d c 0
    ∗ dutyTok ER (cell .bar (up d c)) 0 d ∗ reached ER (cell .bar (up d c)) 0)

/-- A direction's cells, closed. -/
def Cl (d : Bool) (c : Dev nD) : sProp 𝕄 :=
  iprop(semVal (cell (.send d false) c) 0 ∗ semVal (cell (.send d true) c) 0 ∗ semVal (cell (.recv d false) c) 0 ∗ semVal (cell (.recv d true) c) 0 ∗ semVal (cell (.ack d) c) 0)

/-- A cell past its last round closes. -/
theorem close1 (k : Kind) (c : Dev nD) (r : ℕ) (hr : lastR k ≤ r) : iprop(allInv E K ∗ pos k c r) ⊢ iprop(|={Set.univ}=> semVal (cell k c) 0 : sProp 𝕄) := by
  have h := Rounds.cell_close ER (Rd E) (g := cell k c) (κ := K (c, k)) (Es := Set.univ) (Set.mem_univ _) id (R := r)
    (fun r' hr' => by rw [duties_cell]; exact dutyOf_last k r' (hr.trans hr'))
  refine (BI.sep_mono (inv_of E K k c) ?_).trans h
  show pos k c r ⊢ atPos ER (cell k c) r ∅ 0
  unfold pos
  iintro ⟨H, -⟩
  iexact H

/-- A direction's end: its cells close, and its buffer is whole again. -/
theorem closeD (d : Bool) (c : Dev nD) : iprop(allInv E K ∗ Pst E d c 30) ⊢ iprop(|={Set.univ}=> (Cl d c ∗ ∃ f, scrPt fullShare d Finset.univ c f) : sProp 𝕄) := by
  unfold Pst posS posR
  rw [slotW_eq, slotW_eq]
  iintro ⟨#HI, ⟨Ps1, Ps0⟩, ⟨Pr0, Pr1⟩, Pa, -, -, -, -, S0, S1, -⟩
  imod (close1 E K (.send d true) c 15 (le_refl _)) $$ [Ps1] with H1
  · isplitr; · iexact HI
    iexact Ps1
  imod (close1 E K (.send d false) c 16 (le_refl _)) $$ [Ps0] with H2
  · isplitr; · iexact HI
    iexact Ps0
  imod (close1 E K (.recv d false) c 15 (le_refl _)) $$ [Pr0] with H3
  · isplitr; · iexact HI
    iexact Pr0
  imod (close1 E K (.recv d true) c 16 (le_refl _)) $$ [Pr1] with H4
  · isplitr; · iexact HI
    iexact Pr1
  imod (close1 E K (.ack d) c 30 (le_refl _)) $$ [Pa] with H5
  · isplitr; · iexact HI
    iexact Pa
  ihave HS := (scrPt_join d c (wbuf d (E (src d 30 c))) (wbuf d (E (src d 31 c)))) $$ [S0 S1]
  · isplitl [S0]; · iexact S0
    iexact S1
  imodintro
  unfold Cl
  isplitr [HS]; rotate_left; · iexact HS
  isplitl [H2]; · iexact H2
  isplitl [H1]; · iexact H1
  isplitl [H3]; · iexact H3
  isplitl [H4]; · iexact H4
  iexact H5

/-- A core's first arrival cell is at its first round. -/
theorem posR_reached (d : Bool) (c : Dev nD) : posR d c 0 ⊢ (iprop(posR d c 0 ∗ reached ER (cell (.recv d true) c) 0) : sProp 𝕄) := by
  unfold posR pos
  iintro ⟨⟨H, #R⟩, HH⟩
  isplitl [H HH]
  · isplitr [HH]; rotate_left; · iexact HH
    isplitl [H]; · iexact H
    iexact R
  iexact R

/-- What the body takes, -/
def runPre (c : Dev nD) : sProp 𝕄 :=
  iprop(allInv E K ∗ levAts L lv ∗ pos .bar c 0 ∗ cred (tallyAt (cell .bar c) 0 2) ∗ Pre0 false c ∗ Pre0 true c ∗ owesE c (O₀ c)
    ∗ (∃ f, scrPt fullShare false Finset.univ c f) ∗ (∃ f, scrPt fullShare true Finset.univ c f)
    ∗ ((c : Thread nD τ).loc cc0_stg0_0 ↦{fullShare} X) ∗ ((c : Thread nD τ).loc cc0_stg1_0 ↦{fullShare} E c)
    ∗ ((c : Thread nD τ).loc cc0_stg2_0 ↦{fullShare} (fun _ : S1.Idx => (BitVec.ofNat 32 (up false c).val : Elt F .i32)))
    ∗ ((c : Thread nD τ).loc cc0_stg3_0 ↦{fullShare} (fun _ : S1.Idx => (BitVec.ofNat 32 (dn false c).val : Elt F .i32)))
    ∗ (∃ Y : S8192x1024.Idx → Elt F .bf16, ((c : Thread nD τ).loc cc0_stg4_0 ↦{fullShare} Y)))
/-- and what it leaves. -/
def runPost (c : Dev nD) : sProp 𝕄 :=
  iprop(semVal (cell .bar c) 0 ∗ Cl false c ∗ Cl true c ∗ owesE c 0
    ∗ (∃ f, scrPt fullShare false Finset.univ c f) ∗ (∃ f, scrPt fullShare true Finset.univ c f)
    ∗ ((c : Thread nD τ).loc cc0_stg0_0 ↦{fullShare} X) ∗ ((c : Thread nD τ).loc cc0_stg1_0 ↦{fullShare} E c)
    ∗ ((c : Thread nD τ).loc cc0_stg2_0 ↦{fullShare} (fun _ : S1.Idx => (BitVec.ofNat 32 (up false c).val : Elt F .i32)))
    ∗ ((c : Thread nD τ).loc cc0_stg3_0 ↦{fullShare} (fun _ : S1.Idx => (BitVec.ofNat 32 (dn false c).val : Elt F .i32)))
    ∗ ((c : Thread nD τ).loc cc0_stg4_0 ↦{fullShare} G E X c))

/-- A device's number passes the check on the first neighbour word. -/
theorem chk1_of (x : Dev nD) : k0_chk1 (BitVec.ofNat 32 x.val) := by revert x; decide +kernel
/-- A device's number passes the check on the second neighbour word. -/
theorem chk2_of (x : Dev nD) : k0_chk2 (BitVec.ofNat 32 x.val) := by revert x; decide +kernel

/-- After the last store the result array holds the ring's result. -/
theorem yAt_done (c : Dev nD) : yAt E X c 128 ⊢ ((c : Thread nD τ).loc cc0_stg4_0 ↦{fullShare} G E X c : sProp 𝕄) := by
  unfold yAt
  iintro ⟨%Y, %hY, H⟩
  have : Y = G E X c := funext fun i => hY i (by
    have h1 := (blkOf i).isLt
    unfold tOf hOf jOf dOf
    cases decide (64 ≤ (blkOf i).val) <;> simp only [cond_true, cond_false] <;> omega)
  subst this
  iexact H

/-- The state before the first trip, from its parts. -/
theorem rdy_inv0 (c : Dev nD) :
    iprop(owesE c (Ow c 0 0 0 0)
      ∗ (posS false c 0 ∗ posR false c 0 ∗ pos (.ack false) c 0 ∗ toks false c 0 ∗ creds false c 0 ∗ acks false c 0 ∗ ackc false c 0 ∗ slotW E fullShare false false c c ∗ grant false c 0)
      ∗ (posS true c 0 ∗ posR true c 0 ∗ pos (.ack true) c 0 ∗ toks true c 0 ∗ creds true c 0 ∗ acks true c 0 ∗ ackc true c 0 ∗ slotW E fullShare true false c c ∗ grant true c 0))
    ⊢ inv0 E c 0 := by
  unfold inv0
  rw [if_pos rfl]
  exact .rfl

/-- The sixteen trips. -/
theorem loop_wp (c : Dev nD) (Q : PUnit → sProp 𝕄) (h0 : k0_chk1 (BitVec.ofNat 32 (up false c).val)) (h1 : k0_chk2 (BitVec.ofNat 32 (dn false c).val))
    (kk : PUnit → Prog (TpuEff nD τ sig (Elt F) Λ₀ .tc) PUnit) :
    iprop(allInv E K ∗ levAts L lv ∗ inv0 E c 0 ∗ arr E X c 0)
      ⊢ iprop(((inv0 E c 16 ∗ arr E X c 128) -∗ wpc c (kk ⟨⟩) Q)
       -∗ wpc c (Scf.Loop.for k0_t1_loop k0_t1_ok ⟨⟩ (k0_t1_body (F := F) xM (Memref.isWhole_whole _) eM (Memref.isWhole_whole _) sM (Memref.isWhole_whole _) tM (Memref.isWhole_whole _) yM (Memref.isWhole_whole _)
       (Memref.whole cc0_scratch0) (Memref.isWhole_whole _) (Memref.whole cc0_scratch1) (Memref.isWhole_whole _) cc0_scratch2 cc0_scratch3 cc0_scratch4 cc0_scratch5 cc0_scratch6 cc0_scratch7
       (BitVec.ofNat 32 (up false c).val) h0 (BitVec.ofNat 32 (dn false c).val) h1) >>= kk) Q) := by
  have h := Scf.wp_for_bind frame (wpE (defs₀ (F := F)) 𝒱₀ (c : Thread nD τ) none) Set.univ k0_t1_loop.lb k0_t1_loop.ub k0_t1_loop.st k0_t1_ok ⟨⟩
    (k0_t1_body (F := F) xM (Memref.isWhole_whole _) eM (Memref.isWhole_whole _) sM (Memref.isWhole_whole _) tM (Memref.isWhole_whole _) yM (Memref.isWhole_whole _)
       (Memref.whole cc0_scratch0) (Memref.isWhole_whole _) (Memref.whole cc0_scratch1) (Memref.isWhole_whole _) cc0_scratch2 cc0_scratch3 cc0_scratch4 cc0_scratch5 cc0_scratch6 cc0_scratch7
       (BitVec.ofNat 32 (up false c).val) h0 (BitVec.ofNat 32 (dn false c).val) h1)
    (fun n _ => iprop(allInv E K ∗ levAts L lv ∗ inv0 E c n ∗ arr E X c (8 * n))) (fun k acc => by
      iintro ⟨#HI, #Hlev, HS, HA⟩
      iapply (trip E K X _ h0 _ h1 k c rfl rfl acc) $$ [HS HA]
      · isplitr; · iexact HI
        isplitr; · iexact Hlev
        isplitl [HS]; · iexact HS
        iexact HA
      iintro ⟨HS, HA⟩
      isplitr; · iexact HI
      isplitr; · iexact Hlev
      isplitl [HS]; · iexact HS
      iexact HA) (kk := kk) (Q := Q)
  iintro H Hk
  iapply h $$ H
  iintro %acc ⟨-, -, HS, HA⟩
  iapply Hk
  isplitl [HS]; · iapply (Entails.of_eq (congrArg (inv0 E c) trips_eq)) $$ HS
  iapply (Entails.of_eq (congrArg (fun n => arr E X c (8 * n)) trips_eq)) $$ HA

/-- The body: the barrier, the weights put in place, the sixteen trips, the cells closed. -/
theorem run_body (c : Dev nD) (Q : PUnit → sProp 𝕄) :
    iprop(runPre E K X c ∗ (runPost E X c -∗ Q ⟨⟩))
      ⊢ wpc c (cc0_body (F := F) xM (Memref.isWhole_whole _) eM (Memref.isWhole_whole _) sM (Memref.isWhole_whole _) tM (Memref.isWhole_whole _) yM (Memref.isWhole_whole _)
       (Memref.whole cc0_scratch0) (Memref.isWhole_whole _) (Memref.whole cc0_scratch1) (Memref.isWhole_whole _) cc0_scratch2 cc0_scratch3 cc0_scratch4 cc0_scratch5 cc0_scratch6 cc0_scratch7) Q := by
  simp only [cc0_body_eq_skeleton]; unfold cc0_body_skel
  simp only [semSignalWord, semWaitWord, smemLoad, smemLoadElt, Prog.lift, Prog.bind_op, Prog.bind_ret, Prog.pure_eq_ret, Prog.bind_assoc]
  unfold runPre Pre0
  iintro ⟨⟨#HI, #Hlev, Hpb, Hcb, ⟨PS0, PR0, PA0, T0, C0, A0, AC0, D0, #R0⟩, ⟨PS1, PR1, PA1, T1, C1, A1, AC1, D1, #R1⟩, HO, ⟨%f0, S0⟩, ⟨%f1, S1⟩, HX, HE, HW2, HW3, ⟨%Y, HY⟩⟩, Hk⟩
  iapply (ld_s c (BitVec.ofNat 32 (up false c).val) _ _) $$ HW2
  iintro HW2
  iapply (Entails.of_eq (wp_assume_of 𝒱₀ (c : Thread nD τ) none Set.univ (d := k0_chk1.dec _) (chk1_of (up false c))).symm)
  iapply (ld_t c (BitVec.ofNat 32 (dn false c).val) _ _) $$ HW3
  iintro HW3
  iapply (Entails.of_eq (wp_assume_of 𝒱₀ (c : Thread nD τ) none Set.univ (d := k0_chk2.dec _) (chk2_of (dn false c))).symm)
  ihave ⟨S00, S01⟩ := (scrPt_split false c f0) $$ S0
  ihave ⟨S10, S11⟩ := (scrPt_split true c f1) $$ S1
  ihave ⟨PR0, #RR0⟩ := (posR_reached false c) $$ PR0
  ihave ⟨PR1, #RR1⟩ := (posR_reached true c) $$ PR1
  iapply (sig_bar E K false c ⟨k0_dev1 (BitVec.ofNat 32 (up false c).val), k0_dev1_lt _ (chk1_of (up false c))⟩
    (dev_of _ _ rfl _ rfl _) _ rfl 1#32 rfl (Ow c 0 0 0 0 + tallyAt (cell .bar (up true c)) 0 1)) $$ [HO D0 S01]
  · isplitr; · iexact HI
    isplitl [HO]; · iexact HO
    isplitl [D0]; · iexact D0
    isplitr; · iexact R0
    isplitl [S01]; · iapply (scrPt_slot false true c f0) $$ S01
    iexact RR0
  iintro HO
  iapply (sig_bar E K true c ⟨k0_dev2 (BitVec.ofNat 32 (dn false c).val), k0_dev2_lt _ (chk2_of (dn false c))⟩
    (dev_of _ _ rfl _ rfl _) _ rfl 1#32 rfl (Ow c 0 0 0 0)) $$ [HO D1 S11]
  · isplitr; · iexact HI
    isplitl [HO]; · iexact HO
    isplitl [D1]; · iexact D1
    isplitr; · iexact R1
    isplitl [S11]; · iapply (scrPt_slot true true c f1) $$ S11
    iexact RR1
  iintro HO
  iapply (wait_bar E K c _ rfl 2#32 rfl (Ow c 0 0 0 0) (mayWait_cell .bar c 0 0 0 0 0 (by decide) (by decide))) $$ [Hcb HO Hpb]
  · isplitr; · iexact HI
    isplitr; · iexact Hlev
    isplitl [Hcb]; · iexact Hcb
    isplitl [HO]; · iexact HO
    iexact Hpb
  iintro ⟨HO, Hpb, G0, G1⟩
  iapply (ld_e c (E c) false _ rfl _ _) $$ HE
  iintro HE
  iapply (ld_slot false c f0 _ rfl _ _ (fun _ => rfl)) $$ S00
  iintro S00
  iapply (st_slot E false c f0 _ rfl _ _ rfl _ _) $$ S00
  iintro S00
  iapply (ld_e c (E c) true _ rfl _ _) $$ HE
  iintro HE
  iapply (ld_slot true c f1 _ rfl _ _ (fun _ => rfl)) $$ S10
  iintro S10
  iapply (st_slot E true c f1 _ rfl _ _ rfl _ _) $$ S10
  iintro S10
  ihave HS : inv0 E c 0 $$ [HO PS0 PR0 PA0 T0 C0 A0 AC0 S00 G0 PS1 PR1 PA1 T1 C1 A1 AC1 S10 G1]
  · iapply (rdy_inv0 E c)
    isplitl [HO]; · iexact HO
    isplitl [PS0 PR0 PA0 T0 C0 A0 AC0 S00 G0]
    · isplitl [PS0]; · iexact PS0
      isplitl [PR0]; · iexact PR0
      isplitl [PA0]; · iexact PA0
      isplitl [T0]; · iexact T0
      isplitl [C0]; · iexact C0
      isplitl [A0]; · iexact A0
      isplitl [AC0]; · iexact AC0
      isplitl [S00]; · iexact S00
      iexact G0
    · isplitl [PS1]; · iexact PS1
      isplitl [PR1]; · iexact PR1
      isplitl [PA1]; · iexact PA1
      isplitl [T1]; · iexact T1
      isplitl [C1]; · iexact C1
      isplitl [A1]; · iexact A1
      isplitl [AC1]; · iexact AC1
      isplitl [S10]; · iexact S10
      iexact G1
  ihave HA : arr E X c 0 $$ [HX HY]
  · unfold arr yAt
    isplitl [HX]; · iexact HX
    iexists Y
    isplitr; · ipureintro; exact fun i h => absurd h (Nat.not_lt_zero _)
    iexact HY
  iapply (loop_wp E K X c) $$ [HS HA]
  · isplitr; · iexact HI
    isplitr; · iexact Hlev
    isplitl [HS] <;> iassumption
  iintro ⟨HS, HA⟩
  ihave ⟨HX, HY⟩ := (Entails.of_eq (show arr E X c 128 = iprop(((c : Thread nD τ).loc cc0_stg0_0 ↦{fullShare} X) ∗ yAt E X c 128) from rfl)) $$ HA
  ihave HY := (yAt_done E X c) $$ HY
  ihave HS := (Entails.of_eq (show inv0 E c 16 = iprop(owesE c (Ow c 31 30 31 30) ∗ Pst E false c 30 ∗ Pst E true c 30) from rfl)) $$ HS
  icases HS with ⟨HO, P0, P1⟩
  imod (close1 E K .bar c 1 (le_refl _)) $$ [Hpb] with Hb
  · isplitr; · iexact HI
    iexact Hpb
  imod (closeD E K false c) $$ [P0] with ⟨L0, S0⟩
  · isplitr; · iexact HI
    iexact P0
  imod (closeD E K true c) $$ [P1] with ⟨L1, S1⟩
  · isplitr; · iexact HI
    iexact P1
  iapply (ret_wp c)
  iapply Hk
  unfold runPost
  isplitl [Hb]; · iexact Hb
  isplitl [L0]; · iexact L0
  isplitl [L1]; · iexact L1
  isplitl [HO]
  · iapply (Entails.of_eq (congrArg (owesE c) (show Ow c 31 30 31 30 = 0 by unfold Ow; rw [OwD_end, OwD_end, add_zero]))) $$ HO
  isplitl [S0]; · iexact S0
  isplitl [S1]; · iexact S1
  isplitl [HX]; · iexact HX
  isplitl [HE]; · iexact HE
  isplitl [HW2]; · iexact HW2
  isplitl [HW3]; · iexact HW3
  iexact HY

end Cert.Proof.Ring
-- ==== Proof.Ring.Region.lean ====
/- The region of the ring: its proof data, its body from the run, and the segment of the program it makes. -/

module

public import proofs.«01_k».proof.Proof.Ring.Body
public import proofs.«01_k».proof.Proof.Gen.KernelIdeal.Regions
public import Idealize.ShloMosaic.Lib.Pipeline.RegionTalk

@[expose] public section

set_option maxRecDepth 16384

noncomputable section

namespace Cert.Proof.Ring

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The region's proof data: the arrays at their contents before the region, and the ring's result after it -/

/-- The weights every device holds as the region begins; -/
def Ew (W : Dev nD → Valuation τ sig (Elt F)) : Wts F := fun c => (W c (Proc.devRef .tc main_v172) : S4x512x1024.Idx → Elt F .bf16)
/-- a device's packed rows; -/
def Xw (W : Dev nD → Valuation τ sig (Elt F)) (c : Dev nD) : S8192x512.Idx → Elt F .bf16 := W c (Proc.devRef .tc main_v171)
/-- and the two neighbours' words, as the host code leaves them. -/
def WordsOK (W : Dev nD → Valuation τ sig (Elt F)) : Prop := ∀ c : Dev nD,
  (W c (Proc.devRef .tc main_v36) : S1.Idx → Elt F .i32) = (fun _ => (BitVec.ofNat 32 (up false c).val : Elt F .i32))
  ∧ (W c (Proc.devRef .tc main_v42) : S1.Idx → Elt F .i32) = (fun _ => (BitVec.ofNat 32 (dn false c).val : Elt F .i32))

variable (W : Dev nD → Valuation τ sig (Elt F))

/-- What the launch makes for a device, its scoped cells still dormant; -/
def dorm (d : Bool) (c : Dev nD) : sProp 𝕄 :=
  iprop((openTok ER (cell (.send d false) c) ∗ openTok ER (cell (.send d true) c) ∗ openTok ER (cell (.recv d false) c) ∗ openTok ER (cell (.recv d true) c) ∗ openTok ER (cell (.ack d) c))
    ∗ toks d c 0 ∗ creds d c 0 ∗ acks d c 0 ∗ ackc d c 0
    ∗ dutyTok ER (cell .bar (up d c)) 0 d ∗ reached ER (cell .bar (up d c)) 0)
def Tk (c : Dev nD) : sProp 𝕄 :=
  iprop((∃ K : Dev nD × Kind → ℕ, allInv (Ew W) K) ∗ pos .bar c 0 ∗ cred (tallyAt (cell .bar c) 0 2) ∗ dorm false c ∗ dorm true c)
/-- and its cells opened. -/
def Xk (c : Dev nD) : sProp 𝕄 :=
  iprop((∃ K : Dev nD × Kind → ℕ, allInv (Ew W) K) ∗ levAts L lv ∗ pos .bar c 0 ∗ cred (tallyAt (cell .bar c) 0 2) ∗ Pre0 false c ∗ Pre0 true c)

/-- The two buffers no window stages, at some contents. -/
def scrs (c : Dev nD) : sProp 𝕄 := iprop((∃ f, scrPt (F := F) fullShare false Finset.univ c f) ∗ (∃ f, scrPt (F := F) fullShare true Finset.univ c f))

def ringDat (c : Dev nD) : Dat τ (Elt F) ℕ ℕ UU ℕ cfg0 c where
  A w := W c (Proc.devRef .tc (Pipeline.arrRef spec0 w))
  after w _ := match w with
    | ⟨0, _⟩ => Xw W c
    | ⟨1, _⟩ => Ew W c
    | ⟨2, _⟩ => fun _ => BitVec.ofNat 32 (up false c).val
    | ⟨3, _⟩ => fun _ => BitVec.ofNat 32 (dn false c).val
    | ⟨4, _⟩ => G (Ew W) (Xw W c) c
  Φ t := match t with
    | ⟨0, _⟩ => iprop(Xk W c ∗ scrs c ∗ ∃ r, prngReg c r)
    | ⟨_ + 1, _⟩ => iprop(semVal (cell .bar c) 0 ∗ Cl false c ∗ Cl true c ∗ scrs c ∗ ∃ r, prngReg c r)
  q _ := fullShare
  owed t := match t with
    | ⟨0, _⟩ => O₀ c
    | ⟨_ + 1, _⟩ => 0

abbrev dats : (p : Fin 1) → (c : Dev nD) → Dat τ (Elt F) ℕ ℕ UU ℕ (cfgs p) c := fun _ c => ringDat W c

/-- Owning a whole buffer is owning its points-to. -/
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A region's dues, from an `owes` and back. -/
theorem owesAt_of (c : Dev nD) (t : Fin (cfg0.N + 1)) (O : CellTallies nD τ sig ℕ) (h0 : (ringDat W c).owed t = O) :
    (owesE c O : sProp 𝕄) ⊢ (ringDat W c).owesAt 0 t := by
  unfold owesE Dat.owesAt Pipeline.owesWithin Dat.bound
  rw [h0]
  iintro ⟨%V, HO⟩; iexists V
  isplitr; · ipureintro; exact fun _ _ => Or.inl trivial
  iexact HO
/-- What is owed at a step, from what the data says it owes. -/
theorem owesAt_to (c : Dev nD) (t : Fin (cfg0.N + 1)) (O : CellTallies nD τ sig ℕ) (h0 : (ringDat W c).owed t = O) :
    ((ringDat W c).owesAt 0 t : sProp 𝕄) ⊢ owesE c O := by
  unfold owesE Dat.owesAt Pipeline.owesWithin
  rw [h0]
  iintro ⟨%V, -, HO⟩; iexists V; iexact HO

/-- A window's block is its whole array: an element's place in the array is its own. -/
theorem emb_0 (y) : (win0_0.rect t0_0).emb y = y := funext fun a => Fin.ext (Pipeline.Window.rect_emb_val_of_index_zero win0_0 t0_0 a rfl y)
/-- The window of the weights is the whole array. -/
theorem emb_1 (y) : (win0_1.rect t0_0).emb y = y := funext fun a => Fin.ext (Pipeline.Window.rect_emb_val_of_index_zero win0_1 t0_0 a rfl y)
/-- The window of the first word is the whole array. -/
theorem emb_2 (y) : (win0_2.rect t0_0).emb y = y := funext fun a => Fin.ext (Pipeline.Window.rect_emb_val_of_index_zero win0_2 t0_0 a rfl y)
/-- The window of the second word is the whole array. -/
theorem emb_3 (y) : (win0_3.rect t0_0).emb y = y := funext fun a => Fin.ext (Pipeline.Window.rect_emb_val_of_index_zero win0_3 t0_0 a rfl y)
/-- The window of the result is the whole array. -/
theorem emb_4 (y) : (win0_4.rect t0_0).emb y = y := funext fun a => Fin.ext (Pipeline.Window.rect_emb_val_of_index_zero win0_4 t0_0 a rfl y)

/-- The array of an input window is staged whole. -/
theorem before_0 (c : Dev nD) (d) : (ringDat W c).before (0 : Fin 5) t0_0 d = Xw W c := by
  unfold Dat.before; rw [if_pos (show (cfg0.win (0 : Fin 5)).fetch t0_0 = true from rfl)]
  exact funext fun j => congrArg (Xw W c) (emb_0 j)
/-- The weights' buffer holds the device's weights. -/
theorem before_1 (c : Dev nD) (d) : (ringDat W c).before (1 : Fin 5) t0_0 d = Ew W c := by
  unfold Dat.before; rw [if_pos (show (cfg0.win (1 : Fin 5)).fetch t0_0 = true from rfl)]
  exact funext fun j => congrArg (Ew W c) (emb_1 j)
/-- The first word is the neighbour up. -/
theorem before_2 (hw : WordsOK W) (c : Dev nD) (d) : (ringDat W c).before (2 : Fin 5) t0_0 d = (fun _ => BitVec.ofNat 32 (up false c).val) := by
  unfold Dat.before; rw [if_pos (show (cfg0.win (2 : Fin 5)).fetch t0_0 = true from rfl)]
  exact funext fun j => (congrArg (W c (Proc.devRef .tc main_v36) : S1.Idx → Elt F .i32) (emb_2 j)).trans (congrFun (hw c).1 j)
/-- The second word is the neighbour down. -/
theorem before_3 (hw : WordsOK W) (c : Dev nD) (d) : (ringDat W c).before (3 : Fin 5) t0_0 d = (fun _ => BitVec.ofNat 32 (dn false c).val) := by
  unfold Dat.before; rw [if_pos (show (cfg0.win (3 : Fin 5)).fetch t0_0 = true from rfl)]
  exact funext fun j => (congrArg (W c (Proc.devRef .tc main_v42) : S1.Idx → Elt F .i32) (emb_3 j)).trans (congrFun (hw c).2 j)

/-- The body obligation: the run of the body at its staged arrays. -/
theorem body_obl (hw : WordsOK W) (c : Dev nD) : BodyObligation (ringDat W c) (defs₀ (F := F)) 𝒱₀ (0 : ℕ) Set.univ := fun t => by
  obtain rfl := fin_N0 t
  rw [bigSep_W0, bigSep_W0]
  simp only [owns_whole_eq, before_0, before_1, before_2 W hw, before_3 W hw]
  rw [show (ringDat W c).Φ (t0_0 : Fin cfg0.N).castSucc = iprop(Xk W c ∗ scrs c ∗ ∃ r, prngReg c r) from rfl,
    show (ringDat W c).Φ (t0_0 : Fin cfg0.N).succ = iprop(semVal (cell .bar c) 0 ∗ Cl false c ∗ Cl true c ∗ scrs c ∗ ∃ r, prngReg c r) from rfl]
  unfold Xk scrs
  iintro ⟨⟨⟨⟨%K, HI⟩, Hlev, Hpb, Hcb, H0, H1⟩, ⟨S0, S1⟩, Hp⟩, HO, ⟨%d0, %f0, %e0, HX⟩, ⟨%d1, %f1, %e1, HE⟩, ⟨%d2, %f2, %e2, H2⟩, ⟨%d3, %f3, %e3, H3⟩, ⟨%d4, %f4, -, H4⟩⟩
  subst e0 e1 e2 e3
  ihave HO := (owesAt_to W c _ (O₀ c) rfl) $$ HO
  iapply (run_body (Ew W) K (Xw W c) c _)
  unfold runPre runPost
  isplitr [Hp]
  · isplitl [HI]; · iexact HI
    isplitl [Hlev]; · iexact Hlev
    isplitl [Hpb]; · iexact Hpb
    isplitl [Hcb]; · iexact Hcb
    isplitl [H0]; · iexact H0
    isplitl [H1]; · iexact H1
    isplitl [HO]; · iexact HO
    isplitl [S0]; · iexact S0
    isplitl [S1]; · iexact S1
    isplitl [HX]; · iexact HX
    isplitl [HE]; · iexact HE
    isplitl [H2]; · iexact H2
    isplitl [H3]; · iexact H3
    iexists _; iexact H4
  iintro ⟨Hb, L0, L1, HO, S0, S1, HX, HE, H2, H3, HY⟩
  isplitl [Hb L0 L1 S0 S1 Hp]
  · isplitl [Hb]; · iexact Hb
    isplitl [L0]; · iexact L0
    isplitl [L1]; · iexact L1
    isplitl [S0 S1]; · isplitl [S0] <;> iassumption
    iexact Hp
  isplitl [HO]; · iapply (owesAt_of W c _ 0 rfl); iexact HO
  isplitl [HX]
  · iexists _; isplitr; · (ipureintro; rfl)
    iexact HX
  isplitl [HE]
  · iexists _; isplitr; · (ipureintro; rfl)
    iexact HE
  isplitl [H2]
  · iexists _; isplitr; · (ipureintro; rfl)
    iexact H2
  isplitl [H3]
  · iexists _; isplitr; · (ipureintro; rfl)
    iexact H3
  iexists _; isplitr; · (ipureintro; rfl)
  iexact HY

/-! ## The segment -/

/-- The ring's own ten scoped semaphores. -/
def osem : Fin 10 → SemLoc sig := ![semOf (.send false false), semOf (.send false true), semOf (.recv false false), semOf (.recv false true), semOf (.ack false),
  semOf (.send true false), semOf (.send true true), semOf (.recv true false), semOf (.recv true true), semOf (.ack true)]

/-- The region's own semaphores are those of its ten cells. -/
theorem ownSemFacts : Pipeline.OwnSemFacts spec0 osem := by decide

/-- They are all at zero, written out. -/
theorem ownSems_eq (c : Dev nD) : (Pipeline.ownSems0 osem c : sProp 𝕄) = iprop(semVal (cell (.send false false) c) 0 ∗ semVal (cell (.send false true) c) 0 ∗ semVal (cell (.recv false false) c) 0 ∗ semVal (cell (.recv false true) c) 0 ∗ semVal (cell (.ack false) c) 0 ∗ semVal (cell (.send true false) c) 0 ∗ semVal (cell (.send true true) c) 0 ∗ semVal (cell (.recv true false) c) 0 ∗ semVal (cell (.recv true true) c) 0 ∗ semVal (cell (.ack true) c) 0) :=
  Pipeline.ownSems0_eq_of_list c osem [0, 1, 2, 3, 4, 5, 6, 7, 8, 9] (by decide) (by decide)
/-- They are the two directions' cells. -/
theorem ownSems_to (c : Dev nD) : (Pipeline.ownSems0 osem c : sProp 𝕄) ⊢ iprop(Cl false c ∗ Cl true c) := by
  rw [ownSems_eq]
  unfold Cl
  iintro ⟨a0, a1, a2, a3, a4, H⟩
  isplitl [a0 a1 a2 a3 a4]
  · isplitl [a0]; · iexact a0
    isplitl [a1]; · iexact a1
    isplitl [a2]; · iexact a2
    isplitl [a3] <;> iassumption
  iexact H
/-- When both directions are closed they are all at zero. -/
theorem ownSems_of (c : Dev nD) : iprop(Cl false c ∗ Cl true c) ⊢ (Pipeline.ownSems0 osem c : sProp 𝕄) := by
  rw [ownSems_eq]
  unfold Cl
  iintro ⟨⟨a0, a1, a2, a3, a4⟩, H⟩
  isplitl [a0]; · iexact a0
  isplitl [a1]; · iexact a1
  isplitl [a2]; · iexact a2
  isplitl [a3]; · iexact a3
  isplitl [a4]; · iexact a4
  iexact H

/-- A dormant cell opens. -/
theorem open1 (K : Dev nD × Kind → ℕ) (k : Kind) (c : Dev nD) :
    iprop(allInv (Ew W) K ∗ openTok ER (cell k c) ∗ semVal (cell k c) 0) ⊢ (|={Set.univ}=> pos k c 0 : sProp 𝕄) :=
  (BI.sep_mono (inv_of (Ew W) K k c) (BI.Entails.refl _)).trans (Rounds.cell_open ER (Rd (Ew W)) (g := cell k c) (Set.mem_univ (K (c, k))))

/-- A direction's cells open. -/
theorem openD (K : Dev nD × Kind → ℕ) (d : Bool) (c : Dev nD) :
    iprop(allInv (Ew W) K ∗ dorm d c ∗ Cl d c) ⊢ (|={Set.univ}=> Pre0 d c : sProp 𝕄) := by
  unfold dorm Cl Pre0
  iintro ⟨#HI, ⟨⟨A0, A1, B0, B1, C0⟩, HT⟩, ⟨a0, a1, b0, b1, c0⟩⟩
  imod (open1 W K (.send d false) c) $$ [A0 a0] with A0
  · isplitr; · iexact HI
    isplitl [A0] <;> iassumption
  imod (open1 W K (.send d true) c) $$ [A1 a1] with A1
  · isplitr; · iexact HI
    isplitl [A1] <;> iassumption
  imod (open1 W K (.recv d false) c) $$ [B0 b0] with B0
  · isplitr; · iexact HI
    isplitl [B0] <;> iassumption
  imod (open1 W K (.recv d true) c) $$ [B1 b1] with B1
  · isplitr; · iexact HI
    isplitl [B1] <;> iassumption
  imod (open1 W K (.ack d) c) $$ [C0 c0] with C0
  · isplitr; · iexact HI
    isplitl [C0] <;> iassumption
  imodintro
  isplitl [A0 A1]
  · iapply (Entails.of_eq (show iprop(pos (.send d false) c 0 ∗ pos (.send d true) c 0) = (posS d c 0 : sProp 𝕄) from rfl))
    isplitl [A0] <;> iassumption
  isplitl [B0 B1]
  · iapply (Entails.of_eq (show iprop(pos (.recv d true) c 0 ∗ pos (.recv d false) c 0) = (posR d c 0 : sProp 𝕄) from rfl))
    isplitl [B1] <;> iassumption
  isplitl [C0]; · iexact C0
  iexact HT

/-- Opening the cells at the start of the region. -/
theorem hopen (c : Dev nD) : iprop(Tk W c ∗ Pipeline.ownSems0 osem c ∗ levAts L lv) ⊢ (|={Set.univ}=> Xk W c : sProp 𝕄) := by
  unfold Tk Xk
  iintro ⟨⟨⟨%K, #HI⟩, Hpb, Hcb, H0, H1⟩, HL, Hlev⟩
  ihave ⟨L0, L1⟩ := (ownSems_to c) $$ HL
  imod (openD W K false c) $$ [H0 L0] with H0
  · isplitr; · iexact HI
    isplitl [H0] <;> iassumption
  imod (openD W K true c) $$ [H1 L1] with H1
  · isplitr; · iexact HI
    isplitl [H1] <;> iassumption
  imodintro
  isplitr; · iexists K; iexact HI
  isplitl [Hlev]; · iexact Hlev
  isplitl [Hpb]; · iexact Hpb
  isplitl [Hcb]; · iexact Hcb
  isplitl [H0] <;> iassumption

/-- The valuation after the region: the ring's result in its array. -/
def Wn (c : Dev nD) : Valuation τ sig (Elt F) := Function.update (W c) (Proc.devRef .tc main_v173) (G (Ew W) (Xw W c) c)

/-- What the launch needs of the region's windows. -/
theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The buffers that ride past the region. -/
def others : Finset (DevRef τ sig) := Pipeline.ucRefs τ sig \ Pipeline.arrRefs (τ := τ) spec0

/-- What the region's arrays hold at its end. -/
theorem arr_end (c : Dev nD) (w : Fin 5) : (ringDat W c).arrAt w cfg0.N = Wn W c (Proc.devRef .tc (Pipeline.arrRef spec0 w)) := by
  unfold Wn
  match w with
  | ⟨0, _⟩ => exact ((ringDat W c).arrAt_in (0 : Fin 5) rfl _).trans (Function.update_of_ne (f := W c) (show Proc.devRef .tc (Pipeline.arrRef spec0 (0 : Fin 5)) ≠ Proc.devRef .tc main_v173 by decide) _).symm
  | ⟨1, _⟩ => exact ((ringDat W c).arrAt_in (1 : Fin 5) rfl _).trans (Function.update_of_ne (f := W c) (show Proc.devRef .tc (Pipeline.arrRef spec0 (1 : Fin 5)) ≠ Proc.devRef .tc main_v173 by decide) _).symm
  | ⟨2, _⟩ => exact ((ringDat W c).arrAt_in (2 : Fin 5) rfl _).trans (Function.update_of_ne (f := W c) (show Proc.devRef .tc (Pipeline.arrRef spec0 (2 : Fin 5)) ≠ Proc.devRef .tc main_v173 by decide) _).symm
  | ⟨3, _⟩ => exact ((ringDat W c).arrAt_in (3 : Fin 5) rfl _).trans (Function.update_of_ne (f := W c) (show Proc.devRef .tc (Pipeline.arrRef spec0 (3 : Fin 5)) ≠ Proc.devRef .tc main_v173 by decide) _).symm
  | ⟨4, _⟩ =>
    refine Eq.trans ?_ (Function.update_self (f := W c) (Proc.devRef .tc main_v173) _).symm
    funext i
    have h := (ringDat W c).arrAt_emb_eq_flushed (4 : Fin 5) (fun t t' _ _ h => absurd ((fin_N0 t).trans (fin_N0 t').symm) h) t0_0 rfl i
    exact (congrArg ((ringDat W c).arrAt (4 : Fin 5) cfg0.N) (emb_4 i).symm).trans h

/-- Whatever is owed is owed at a level that waiting allows. -/
theorem cut (c : Dev nD) (t : Fin (cfg0.N + 1)) (g : GSem nD τ sig) (i : ℕ) (h : 0 < (ringDat W c).owed t g i) : i ∈ L g ∧ 0 < lv g i := by
  obtain ⟨t, ht⟩ := t
  cases t with
  | zero => exact O₀_pos h
  | succ t => exact absurd h (Nat.lt_irrefl 0)

/-- What holds on entering the region starts the body. -/
theorem hin (c : Dev nD) : iprop(Pipeline.scopedRest spec0 c ∗ (∃ r, prngReg c r) ∗ StableHlo.held (c.tc : Thread nD τ) ∅ (W c) ∗ Xk W c)
    ⊢ (ringDat W c).Φ 0 := by
  rw [show (ringDat W c).Φ 0 = iprop(Xk W c ∗ scrs c ∗ ∃ r, prngReg c r) from rfl, scopedRest0_eq]
  unfold scrs
  iintro ⟨⟨S0, S1⟩, Hp, -, HX⟩
  isplitl [HX]; · iexact HX
  isplitl [S0 S1]
  · isplitl [S0]
    · iexact S0
    iexact S1
  iexact Hp

/-- What the body leaves is what holds on leaving the region. -/
theorem hout (c : Dev nD) : (ringDat W c).Φ (Fin.last cfg0.N)
    ⊢ iprop(Pipeline.scopedRest spec0 c ∗ (∃ r, prngReg c r) ∗ StableHlo.held (c.tc : Thread nD τ) ∅ (Wn W c) ∗ Pipeline.ownSems0 osem c ∗ semVal (cell .bar c) 0) := by
  rw [show (ringDat W c).Φ (Fin.last cfg0.N) = iprop(semVal (cell .bar c) 0 ∗ Cl false c ∗ Cl true c ∗ scrs c ∗ ∃ r, prngReg c r) from rfl, scopedRest0_eq]
  unfold scrs StableHlo.held
  rw [BI.bigSep_empty]
  iintro ⟨Hb, L0, L1, ⟨S0, S1⟩, Hp⟩
  isplitl [S0 S1]
  · isplitl [S0]
    · iexact S0
    iexact S1
  isplitl [Hp]; · iexact Hp
  isplitr; · iempintro
  isplitr [Hb]; rotate_left; · iexact Hb
  iapply (ownSems_of c)
  isplitl [L0] <;> iassumption

/-- The other buffers keep what they held. -/
theorem others_keep (c : Dev nD) : ∀ b ∈ others \ ∅, Wn W c b = W c b := fun b hb => by
  have hb' := (Finset.mem_sdiff.mp (Finset.mem_sdiff.mp hb).1).2
  unfold Wn
  refine Function.update_of_ne (fun h => hb' ?_) _ _
  rw [h]
  decide

set_option backward.isDefEq.respectTransparency.types false in
/-- The region as a segment of the program. -/
def ringSeg (hw : WordsOK W) : Pipeline.RegionSeg (pcfgs (F := F)) adm (dats W) (0 : ℕ) defs₀ 𝒱₀ L lv 0 :=
  Pipeline.RegionSeg.ofTalk (pcfgs (F := F)) adm (dats W) (0 : ℕ) defs₀ 𝒱₀ L lv 0 osem ownSemFacts
    ∅ others (Finset.empty_subset _) kit rfl (fun c => (body_obl W hw c).loose)
    (fun _ => 0) O₀ (fun c => (zero_add (O₀ c)).symm) (fun _ => rfl) (fun _ => rfl) (fun c w => by unfold Dat.share; split <;> rfl)
    W (Wn W) (others_keep W)
    (Tk W) (fun c => semVal (cell .bar c) 0) (Xk W) (fun c => semVal (cell .bar c) 0) (hopen W) (hin W) (hout W)
    (fun c => by iintro H; imodintro; iexact H)
    (fun _ => 0)
    ⟨fun c w s => by rw [L_tc]; decide, fun c w s => by fin_cases w <;> exact le_refl 0, fun c t g i h => cut W c t g i h⟩
    (fun _ => iprop(emp))
    (fun _ _ => rfl) (fun c w => arr_end W c w)

end Cert.Proof.Ring
-- ==== Proof.Ring.Ghost.lean ====
/- What the launch makes for the ring: the cells, the tokens, and the credit every device is owed. -/

module

public import proofs.«01_k».proof.Proof.Ring.Region

@[expose] public section

set_option maxRecDepth 16384

noncomputable section

namespace Cert.Proof.Ring

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The cells and the tokens of the launch -/

def barEmb : Dev nD ↪ GSem nD τ sig := ⟨fun c => cell .bar c, fun _ _ h => (cell_inj h).2⟩

/-- The five kinds of scoped cell of a direction. -/
def kindD (d : Bool) : Fin 5 → Kind := ![.send d false, .send d true, .recv d false, .recv d true, .ack d]

/-- A direction's kinds are told apart by direction and number. -/
theorem kindD_inj : ∀ d d' i i', kindD d i = kindD d' i' → d = d' ∧ i = i' := by decide
/-- None of them is the barrier. -/
theorem kindD_ne : ∀ d i, kindD d i ≠ .bar := by decide
/-- Every kind is the barrier or one of a direction. -/
theorem kindD_cover : ∀ k : Kind, k = .bar ∨ ∃ d i, k = kindD d i := by
  intro k
  rcases k with _ | ⟨d, s⟩ | ⟨d, s⟩ | d
  · exact Or.inl rfl
  · cases s
    · exact Or.inr ⟨d, 0, rfl⟩
    · exact Or.inr ⟨d, 1, rfl⟩
  · cases s
    · exact Or.inr ⟨d, 2, rfl⟩
    · exact Or.inr ⟨d, 3, rfl⟩
  · exact Or.inr ⟨d, 4, rfl⟩

def scEmb : Dev nD × Bool × Fin 5 ↪ GSem nD τ sig := ⟨fun x => cell (kindD x.2.1 x.2.2) x.1, fun x y h => by
  obtain ⟨h1, h2⟩ := cell_inj h
  obtain ⟨h3, h4⟩ := kindD_inj _ _ _ _ h1
  exact Prod.ext h2 (Prod.ext h3 h4)⟩

def barCells : Finset (GSem nD τ sig) := Finset.univ.map barEmb
def scCells : Finset (GSem nD τ sig) := Finset.univ.map scEmb

/-- The barrier cells and the others have nothing in common. -/
theorem disjoint_cells : Disjoint barCells scCells := by
  rw [Finset.disjoint_left]
  rintro g h1 h2
  obtain ⟨c, -, rfl⟩ := Finset.mem_map.mp h1
  obtain ⟨x, -, h⟩ := Finset.mem_map.mp h2
  exact kindD_ne _ _ (cell_inj h).1

/-- Every cell is one or the other. -/
theorem cell_mem (k : Kind) (c : Dev nD) : cell k c ∈ barCells ∪ scCells := by
  rcases kindD_cover k with rfl | ⟨d, i, rfl⟩
  · exact Finset.mem_union_left _ (Finset.mem_map_of_mem barEmb (Finset.mem_univ c))
  · exact Finset.mem_union_right _ (Finset.mem_map_of_mem scEmb (Finset.mem_univ (c, d, i)))

/-- The duties that a device pays in a direction, indexed: the barrier's, the copies' on its own side, the copies' on the
    next device's side, the acknowledgements. -/
abbrev TokI : Type := Unit ⊕ Fin 31 ⊕ Fin 31 ⊕ Fin 30

def tokOf (c : Dev nD) (d : Bool) : TokI → GSem nD τ sig × ℕ × Bool
  | .inl _ => (cell .bar (up d c), 0, d)
  | .inr (.inl k) => (cell (.send d (par k.val)) c, k.val / 2, false)
  | .inr (.inr (.inl k)) => (cell (.recv d (!par k.val)) (dn d c), k.val / 2, false)
  | .inr (.inr (.inr k)) => (cell (.ack d) (up d c), k.val, false)

/-- Two devices have different neighbours up. -/
theorem up_inj {d : Bool} {c c' : Dev nD} (h : up d c = up d c') : c = c' := by rw [← dn_up d c, ← dn_up d c', h]
/-- Two devices have different neighbours down. -/
theorem dn_inj {d : Bool} {c c' : Dev nD} (h : dn d c = dn d c') : c = c' := by rw [← up_dn d c, ← up_dn d c', h]
/-- A number is known from its parity and its half. -/
theorem par_half {a b : ℕ} (h : par a = par b) (h' : a / 2 = b / 2) : a = b := by
  unfold par at h
  have := decide_eq_decide.mp h
  omega

/-- Different indices name different tokens. -/
theorem tokOf_inj {c c' : Dev nD} {d d' : Bool} {i i' : TokI} (h : tokOf c d i = tokOf c' d' i') : (c, d, i) = (c', d', i') := by
  rcases i with i | i | i | i <;> rcases i' with i' | i' | i' | i' <;>
    (obtain ⟨h1, h2⟩ := Prod.ext_iff.mp h; obtain ⟨h2, h3⟩ := Prod.ext_iff.mp h2; obtain ⟨h4, h5⟩ := cell_inj h1; cases i; cases i'; try cases h4)
  · cases h3; cases up_inj h5; rfl
  · obtain ⟨rfl, hp⟩ := Kind.send.inj h4
    cases par_half hp h2; cases h5; rfl
  · obtain ⟨rfl, hp⟩ := Kind.recv.inj h4
    cases par_half (Bool.not_inj hp) h2; cases dn_inj h5; rfl
  · cases h2; cases up_inj h5; rfl

def tokEmb : Dev nD × Bool × TokI ↪ GSem nD τ sig × ℕ × Bool := ⟨fun x => tokOf x.1 x.2.1 x.2.2, fun _ _ h => tokOf_inj h⟩
def ringToks : Finset (GSem nD τ sig × ℕ × Bool) := Finset.univ.map tokEmb

omit [FloatOps F] in
/-- A separating conjunction over the numbers below `n`, by the finite type or by the interval. -/
theorem bigSep_fin (n : ℕ) (Φ : ℕ → sProp 𝕄) : (bigSep Finset.univ fun i : Fin n => Φ i.val) = bigSep (Finset.Ico 0 n) Φ := by
  rw [show Finset.Ico 0 n = (Finset.univ : Finset (Fin n)).map Fin.valEmbedding from by
    ext a; simp only [Finset.mem_Ico, Finset.mem_map, Finset.mem_univ, true_and, Fin.valEmbedding_apply]
    exact ⟨fun h => ⟨⟨a, h.2⟩, rfl⟩, fun ⟨i, hi⟩ => hi ▸ ⟨Nat.zero_le _, i.isLt⟩⟩, bigSep_map]
  rfl

omit [FloatOps F] in
/-- A separating conjunction over two directions. -/
theorem bigSep_two (Φ : Bool → sProp 𝕄) : bigSep Finset.univ Φ = iprop(Φ false ∗ Φ true) := by
  rw [show (Finset.univ : Finset Bool) = {false, true} by decide, bigSep_insert (by decide), bigSep_singleton]; rfl

omit [FloatOps F] in
/-- A separating conjunction over five numbers. -/
theorem bigSep_five (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} by decide, bigSep_insert (by decide), bigSep_insert (by decide), bigSep_insert (by decide),
    bigSep_insert (by decide), bigSep_singleton]; rfl

omit [FloatOps F] in
/-- A separating conjunction over a sum type. -/
theorem bigSep_sums {A B : Type} [Fintype A] [Fintype B] (Φ : A ⊕ B → sProp 𝕄) :
    bigSep Finset.univ Φ = iprop(bigSep Finset.univ (fun a => Φ (.inl a)) ∗ bigSep Finset.univ (fun b => Φ (.inr b))) := bigSep_univ_sum Φ

/-- The tokens of a device in a direction. -/
def tokD (d : Bool) (c : Dev nD) : sProp 𝕄 := iprop(dutyTok ER (cell .bar (up d c)) 0 d ∗ toks d c 0 ∗ acks d c 0)

/-- One direction's tokens of a device, gathered in the order in which it uses them. -/
theorem toks_dev (d : Bool) (c : Dev nD) :
    (bigSep Finset.univ fun i : TokI => (dutyTok ER (tokOf c d i).1 (tokOf c d i).2.1 (tokOf c d i).2.2 : sProp 𝕄)) ⊢ tokD d c := by
  rw [bigSep_sums, bigSep_sums, bigSep_sums, show (Finset.univ : Finset Unit) = {()} from rfl, bigSep_singleton]
  unfold tokD toks acks
  rw [← bigSep_fin 31 (fun k => iprop(dutyTok ER (cell (.send d (par k)) c) (k / 2) false ∗ dutyTok ER (cell (.recv d (!par k)) (dn d c)) (k / 2) false)),
    ← bigSep_fin 30 (fun k => (dutyTok ER (cell (.ack d) (up d c)) k false : sProp 𝕄)), bigSep_sep']
  iintro ⟨H0, H1, H2, H3⟩
  isplitl [H0]; · iexact H0
  isplitr [H3]
  · isplitl [H1]; · iexact H1
    iexact H2
  · iexact H3

/-- All tokens, handed out to the devices. -/
theorem toks_eq : bigSep ringToks (fun x => (dutyTok ER x.1 x.2.1 x.2.2 : sProp 𝕄)) ⊢ bigSep Finset.univ fun c : Dev nD => iprop(tokD (F := F) false c ∗ tokD true c) := by
  unfold ringToks; rw [bigSep_map, bigSep_univ_prod]
  refine bigSep_mono fun c _ => ?_
  rw [bigSep_univ_prod, bigSep_two]
  exact BI.sep_mono (toks_dev false c) (toks_dev true c)

/-- The rights to open a device's scoped cells. -/
def openDir (d : Bool) (c : Dev nD) : sProp 𝕄 :=
  iprop(openTok ER (cell (.send d false) c) ∗ openTok ER (cell (.send d true) c) ∗ openTok ER (cell (.recv d false) c) ∗ openTok ER (cell (.recv d true) c) ∗ openTok ER (cell (.ack d) c))

/-- All opening tokens, handed out to the devices. -/
theorem open_eq : bigSep scCells (fun g => (openTok ER g : sProp 𝕄)) ⊢ bigSep Finset.univ fun c : Dev nD => iprop(openDir (F := F) false c ∗ openDir true c) := by
  unfold scCells; rw [bigSep_map, bigSep_univ_prod]
  refine bigSep_mono fun c _ => ?_
  rw [bigSep_univ_prod, bigSep_two, bigSep_five, bigSep_five]
  exact BI.Entails.refl _

/-! ## The credit of the launch -/

/-- One unit of debt per device to the cell of another, when the others are a rearrangement of the devices, is one unit of
    credit at every device's own cell. -/
theorem credit_one (k : Kind) (f g : Dev nD → Dev nD) (hfg : ∀ c, f (g c) = c) (hgf : ∀ c, g (f c) = c) (u n : ℕ) (c : Dev nD) :
    (Pipeline.launchCred (fun d => tallyAt (cell k (f d)) u n) c : sProp 𝕄) ⊢ cred (tallyAt (cell k c) u n) := by
  refine (Pipeline.launchCred_elim _ c (semOf k)).trans (Entails.of_eq ?_)
  refine congrArg cred ?_
  unfold tallyAt
  refine congrArg _ (Finsupp.ext fun i => ?_)
  rw [Pipeline.launchCredit_owing]
  rw [Finset.sum_eq_single (g c)]
  · rw [hfg]; unfold tallyOn; rw [show ((c.tc : Thread nD τ), semOf k) = cell k c from rfl, Pi.single_eq_same]
  · intro d _ hd
    have hne : cell k c ≠ cell k (f d) := fun h => hd (by rw [(cell_inj h).2, hgf])
    unfold tallyOn; rw [show ((c.tc : Thread nD τ), semOf k) = cell k c from rfl, Pi.single_eq_of_ne hne]; rfl
  · intro h; exact absurd (Finset.mem_univ _) h

/-- A device's credit at the start, for one direction. -/
theorem credit_dir (d : Bool) (c : Dev nD) : (Pipeline.launchCred (fun c => OwD d c 0 0) c : sProp 𝕄) ⊢ iprop(creds d c 0 ∗ ackc d c 0) := by
  unfold OwD creds ackc
  rw [Pipeline.launchCred_add (fun c => ∑ k ∈ Finset.Ico 0 31, tallyAt (cell (.recv d (!par k)) (dn d c)) k N) (fun c => ∑ k ∈ Finset.Ico 0 30, tallyAt (cell (.ack d) (up d c)) k 1),
    Pipeline.launchCred_sum _ (fun k c => tallyAt (cell (.recv d (!par k)) (dn d c)) k N), Pipeline.launchCred_sum _ (fun k c => tallyAt (cell (.ack d) (up d c)) k 1)]
  exact BI.sep_mono (bigSep_mono fun k _ => credit_one _ (dn d) (up d) (dn_up d) (up_dn d) k N c)
    (bigSep_mono fun k _ => credit_one _ (up d) (dn d) (up_dn d) (dn_up d) k 1 c)

/-- A device's credit at launch. -/
theorem credit_all (c : Dev nD) : (Pipeline.launchCred O₀ c : sProp 𝕄)
    ⊢ iprop((creds false c 0 ∗ ackc false c 0) ∗ (creds true c 0 ∗ ackc true c 0) ∗ cred (tallyAt (cell .bar c) 0 2)) := by
  have e : (O₀ : Dev nD → CellTallies nD τ sig ℕ) = fun c => ((fun c => (fun c => (fun c => OwD false c 0 0) c + (fun c => OwD true c 0 0) c) c
    + (fun c => tallyAt (cell .bar (up true c)) 0 1) c) c) + (fun c => tallyAt (cell .bar (up false c)) 0 1) c := rfl
  rw [e, Pipeline.launchCred_add, Pipeline.launchCred_add, Pipeline.launchCred_add]
  iintro ⟨⟨⟨H0, H1⟩, H2⟩, H3⟩
  isplitl [H0]; · iapply (credit_dir false c) $$ H0
  isplitl [H1]; · iapply (credit_dir true c) $$ H1
  ihave H2' := (credit_one .bar (up true) (dn true) (up_dn true) (dn_up true) 0 1 c) $$ H2
  ihave H3' := (credit_one .bar (up false) (dn false) (up_dn false) (dn_up false) 0 1 c) $$ H3
  have h2 : iprop(cred (tallyAt (cell .bar c) 0 1) ∗ cred (tallyAt (cell .bar c) 0 1)) ⊢ (cred (tallyAt (cell .bar c) 0 2) : sProp 𝕄) := by
    rw [← tallyAt_add (cell .bar c) 0 1 1]; exact (cred_add _ _).2
  iapply h2
  isplitl [H2']; · iexact H2'
  iexact H3'

end Cert.Proof.Ring
-- ==== Proof.Ring.Words.lean ====
/- The two words that name a device's neighbours, as the host code before the call leaves them. -/

module

public import proofs.«01_k».proof.Proof.Ring.Region
public import Idealize.ShloMosaic.Lib.StableHlo.RunRead
public import Idealize.ShloMosaic.Lib.Pointwise.ShapeOpsCore

@[expose] public section

set_option maxRecDepth 16384

noncomputable section

namespace Cert.Proof.Ring

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-- A one-entry slice of a table of 32 words, started at a word in range, is the table's entry there. -/
theorem slice_tab (f : Fin 32 → BitVec 32) (start : Fin 1 → Int) (c : Fin 32) (hs : start 0 = (c.val : Int)) (i : S1.Idx) :
    Host.dynamicSlice S1 (fun i : S32.Idx => f (S32.rowMajor i)) start sliceFits_S32_S1 i = f c := by
  rw [Host.dynamicSlice_apply]
  refine congrArg f (Fin.ext ?_)
  rw [Shape.rowMajor_val_one]
  show Host.clampedStart S32 S1 sliceFits_S32_S1.1 start 0 + (i 0).val = c.val
  rw [Host.clampedStart_of_le sliceFits_S32_S1.1 start 0 c.val hs (by have := c.isLt; show c.val + 1 ≤ 32; omega)]
  have hi : (i 0).val < 1 := (i 0).isLt
  omega

/-- A device's number, read as a signed word with the negative ones wrapped, is itself. -/
theorem select_me (c : Fin 32) : (Scalar.select (IntOp.cmpi .slt (BitVec.ofNat 32 c.val) 0#32) (BitVec.ofNat 32 c.val + 32#32) (BitVec.ofNat 32 c.val)).toInt = (c.val : Int) := by
  revert c; decide

/-- The program's table of left neighbours. -/
theorem lit2_up : ∀ c : Fin 32, lit2 c = BitVec.ofNat 32 (prvTab c).val := by decide
/-- The program's table of right neighbours. -/
theorem lit3_dn : ∀ c : Fin 32, lit3 c = BitVec.ofNat 32 (nxtTab c).val := by decide

/-- The device number that the host code reads, as the scalar every table is read at. -/
theorem me_word1 (c : Dev nD) : (V1 m c (Proc.devRef .tc main_v4) : S_.Idx → Elt F .i32) = fun _ => (BitVec.ofNat 32 c.val : Elt F .i32) := by
  unfold V1
  after_reads_simp
  funext i
  have hd : IntOp.divui .host (Dev.word c) 1#32 = Dev.word c / 1#32 := if_neg (by decide)
  have hr : ∀ w : BitVec 32, IntOp.remui .host w 32#32 = w % 32#32 := fun w => if_neg (by decide)
  refine (hr _).trans ?_
  show IntOp.divui .host (Dev.word c) 1#32 % 32#32 = BitVec.ofNat 32 c.val
  rw [hd]
  revert c; decide

/-- The same word, still there before the neighbours' words are read. -/
theorem me_word (c : Dev nD) : (V4 m c (Proc.devRef .tc main_v4) : S_.Idx → Elt F .i32) = fun _ => (BitVec.ofNat 32 c.val : Elt F .i32) := by
  rw [V4_of m c _ (by decide), V3_of m c _ (by decide), V2_of m c _ (by decide)]
  exact me_word1 m c

/-- The table of predecessors, as the host code holds it. -/
theorem prev_tab (c : Dev nD) : (V4 m c (Proc.devRef .tc main_c_1) : S32.Idx → Elt F .i32) = fun i => (lit2 (S32.rowMajor i) : Elt F .i32) := by
  rw [V4_of m c _ (by decide), V3_of m c _ (by decide), V2_of m c _ (by decide)]
  unfold V1
  after_reads_simp
  rfl

/-- The table of successors, as the host code holds it. -/
theorem next_tab (c : Dev nD) : (V4 m c (Proc.devRef .tc main_c_2) : S32.Idx → Elt F .i32) = fun i => (lit3 (S32.rowMajor i) : Elt F .i32) := by
  rw [V4_of m c _ (by decide), V3_of m c _ (by decide), V2_of m c _ (by decide)]
  unfold V1
  after_reads_simp
  rfl

/-- The words that the ring call is given are the two neighbours' numbers. -/
theorem words_ok : WordsOK (V14 m) := by
  intro c
  constructor
  · rw [V14_of m c _ (by decide), V13_of m c _ (by decide), V12_of m c _ (by decide), V11_of m c _ (by decide), V10_of m c _ (by decide),
      V9_of m c _ (by decide), V8_of m c _ (by decide), V7_of m c _ (by decide), V6_of m c _ (by decide)]
    have h := me_word m c
    have ht := prev_tab m c
    unfold V5
    generalize V4 m c = V at h ht ⊢
    after_reads_simp [StableHlo.unaryIndexed_result_read, StableHlo.indexContents_cons, StableHlo.indexContents_empty]
    rw [h, ht]
    clear h ht
    funext i
    exact (slice_tab lit2 _ c (select_me c) _).trans (lit2_up c)
  · rw [V14_of m c _ (by decide), V13_of m c _ (by decide), V12_of m c _ (by decide), V11_of m c _ (by decide), V10_of m c _ (by decide),
      V9_of m c _ (by decide), V8_of m c _ (by decide), V7_of m c _ (by decide), V6_of m c _ (by decide)]
    have h := me_word m c
    have ht := next_tab m c
    unfold V5
    generalize V4 m c = V at h ht ⊢
    after_reads_simp [StableHlo.unaryIndexed_result_read, StableHlo.indexContents_cons, StableHlo.indexContents_empty]
    rw [h, ht]
    clear h ht
    funext i
    exact (slice_tab lit3 _ c (select_me c) _).trans (lit3_dn c)

end Cert.Proof.Ring
-- ==== Proof.Ring.Launch.lean ====
/- The launch of the ring program and its run. -/

module

public import proofs.«01_k».proof.Proof.Ring.Ghost
public import proofs.«01_k».proof.Proof.Ring.Words
public import Idealize.ShloMosaic.Lib.Quiescent

@[expose] public section

set_option maxRecDepth 16384

noncomputable section

namespace Cert.Proof.Ring

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- What the ring leaves in every buffer, by the buffer. -/
def outs : Outs (F := F) := fun _ r c => Wn (V14 m) c (Proc.devRef .tc r)

/-- The launch element: the staging cells', and the ring's. -/
def u₀ : UU :=
  (initOf (Pipeline.cells (Pipeline.pin (pcfgs (F := F)) adm) cellOf_inj) (Pipeline.launchToks (Pipeline.pin (pcfgs (F := F)) adm) cellOf_inj),
    launchOf barCells scCells ringToks)

/-- A resource held by one device. -/
def atDev (c₀ : Dev nD) (X : sProp 𝕄) (c : Dev nD) : sProp 𝕄 := if c = c₀ then X else iprop(emp)
omit [FloatOps F] in
/-- Something held at one device is held once. -/
theorem atDev_all (c₀ : Dev nD) (X : sProp 𝕄) : bigSep Finset.univ (atDev c₀ X) = X := by
  rw [bigSep_univ_at _ c₀, bigSep_congr (s := Finset.univ.erase c₀) (Ψ := fun _ => (BI.emp : sProp 𝕄))
    fun c hc => by unfold atDev; rw [if_neg (Finset.ne_of_mem_erase hc)]; rfl, BI.bigSep_emp_const]
  unfold atDev; rw [if_pos rfl]
  exact BI.equiv_iff.mp sep_emp

/-- Two resources of every device, together. -/
theorem devs_pair {Φ Ψ : Dev nD → sProp 𝕄} : iprop(bigSep Finset.univ Φ ∗ bigSep Finset.univ Ψ) ⊢ bigSep Finset.univ fun c => iprop(Φ c ∗ Ψ c) :=
  Entails.of_eq (bigSep_sep' _ _ _).symm
/-- Two resources of every device, apart. -/
theorem devs_unpair {Φ Ψ : Dev nD → sProp 𝕄} : (bigSep Finset.univ fun c => iprop(Φ c ∗ Ψ c)) ⊢ iprop(bigSep Finset.univ Φ ∗ bigSep Finset.univ Ψ) :=
  Entails.of_eq (bigSep_sep' _ _ _)

/-- The ring's launch element, kept by device 0 until the invariants are made. -/
def gRing : Dev nD → sProp 𝕄 := atDev 0 (BI.own (ER (launchOf barCells scCells ringToks)))

variable (W : Dev nD → Valuation τ sig (Elt F))

/-- The records that every device may consult. -/
def records (κ : GSem nD τ sig → ℕ) : sProp 𝕄 :=
  iprop((bigSep (barCells ∪ scCells) fun g => cellInv ER (Rd (Ew W)) (κ g) g) ∗ bigSep barCells fun g => reached ER g 0)
instance (κ : GSem nD τ sig → ℕ) : BI.Persistent (records W κ) := by unfold records; infer_instance

/-- What is a device's own. -/
def own1 (c : Dev nD) : sProp 𝕄 :=
  iprop(atPos ER (cell .bar c) 0 ∅ 0 ∗ (openDir false c ∗ openDir true c) ∗ (tokD false c ∗ tokD true c)
    ∗ ((creds false c 0 ∗ ackc false c 0) ∗ (creds true c 0 ∗ ackc true c 0) ∗ cred (tallyAt (cell .bar c) 0 2)))

/-- The cells' records give every cell's invariant. -/
theorem records_inv (κ : GSem nD τ sig → ℕ) : (bigSep (barCells ∪ scCells) fun g => (cellInv ER (Rd (Ew W)) (κ g) g : sProp 𝕄))
    ⊢ allInv (Ew W) (fun ck => κ (cell ck.2 ck.1)) := by
  unfold allInv
  exact bigSep_intro_persistent fun ck _ => bigSep_elim (cell_mem ck.2 ck.1)
/-- The barrier cells' records give a device's barrier record. -/
theorem records_bar (c : Dev nD) : (bigSep barCells fun g => (reached ER g 0 : sProp 𝕄)) ⊢ reached ER (cell .bar c) 0 :=
  bigSep_elim (Finset.mem_map_of_mem barEmb (Finset.mem_univ c))

/-- What the region takes at a device, from the records and what is the device's own. -/
theorem Tk_intro (κ : GSem nD τ sig → ℕ) (c : Dev nD) : iprop(records W κ ∗ own1 c) ⊢ Tk W c := by
  unfold records own1 Tk dorm tokD openDir pos
  iintro ⟨⟨#HI, #HR⟩, Ha, ⟨O0, O1⟩, ⟨⟨B0, T0, A0⟩, ⟨B1, T1, A1⟩⟩, ⟨C0, K0⟩, ⟨C1, K1⟩, HB⟩
  isplitr
  · iexists (fun ck => κ (cell ck.2 ck.1)); iapply (records_inv W κ); iexact HI
  isplitl [Ha]
  · isplitl [Ha]; · iexact Ha
    iapply (records_bar (F := F) c); iexact HR
  isplitl [HB]; · iexact HB
  isplitl [O0 B0 T0 A0 C0 K0]
  · isplitl [O0]; · iexact O0
    isplitl [T0]; · iexact T0
    isplitl [C0]; · iexact C0
    isplitl [A0]; · iexact A0
    isplitl [K0]; · iexact K0
    isplitl [B0]; · iexact B0
    iapply (records_bar (F := F) (up false c)); iexact HR
  · isplitl [O1]; · iexact O1
    isplitl [T1]; · iexact T1
    isplitl [C1]; · iexact C1
    isplitl [A1]; · iexact A1
    isplitl [K1]; · iexact K1
    isplitl [B1]; · iexact B1
    iapply (records_bar (F := F) (up true c)); iexact HR

/-- What rides along beside the buffers: before the ring, and after it. -/
def rest (i : Fin 2) (c : Dev nD) : sProp 𝕄 :=
  if i = 0 then iprop(Tk (V14 m) c ∗ (∃ r, prngReg c r) ∗ ∃ Wd, owes (c : Thread nD τ) (O₀ c) Wd)
  else iprop(semVal (cell .bar c) 0 ∗ ∃ Wd, owes (c : Thread nD τ) (0 : CellTallies nD τ sig ℕ) Wd)

/-- A device's one semaphore that outlives the region is its barrier. -/
theorem unscoped_bar (c : Dev nD) : (unscopedSems0 c : sProp 𝕄) = semVal (cell .bar c) 0 := by
  unfold unscopedSems0
  rw [show (Finset.univ.filter fun sm : SemLoc sig => ¬ sm.isScoped .tc) = {SemLoc.reg barS} from by decide, BI.bigSep_singleton]
  rfl

/-- The launch makes every device's part of the ring. -/
theorem rest_init :
    iprop((bigSep Finset.univ fun c : Dev nD => iprop(unscopedSems0 c ∗ owes (c : Thread nD τ) (O₀ c) ∅ ∗ Pipeline.launchCred O₀ c ∗ prngReg c (ρ c) ∗ gRing c)) ∗ levAts L lv)
      ⊢ (|={Set.univ}=> bigSep Finset.univ (rest m 0) : sProp 𝕄) := by
  have hcore (c : Dev nD) : iprop(unscopedSems0 c ∗ owes (c : Thread nD τ) (O₀ c) ∅ ∗ Pipeline.launchCred O₀ c ∗ prngReg c (ρ c) ∗ gRing c)
      ⊢ (iprop(((∃ r, prngReg c r) ∗ ∃ Wd, owes (c : Thread nD τ) (O₀ c) Wd)
        ∗ ((creds false c 0 ∗ ackc false c 0) ∗ (creds true c 0 ∗ ackc true c 0) ∗ cred (tallyAt (cell .bar c) 0 2))
        ∗ semVal (cell .bar c) 0 ∗ gRing c) : sProp 𝕄) := by
    rw [unscoped_bar]
    iintro ⟨Hs, HO, Hc, Hp, HG⟩
    ihave Hc := (credit_all (F := F) c) $$ Hc
    isplitl [Hp HO]
    · isplitl [Hp]
      · iexists (ρ c); iexact Hp
      · iexists ∅; iexact HO
    isplitl [Hc]; · iexact Hc
    isplitl [Hs]; · iexact Hs
    iexact HG
  have hv : bigSep Finset.univ (fun c : Dev nD => (semVal (cell .bar c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cell .bar c) 0 ∅ 0 : sProp 𝕄)) :=
    Entails.of_eq (bigSep_map (s := Finset.univ) barEmb (Φ := fun g : GSem nD τ sig => (atPos ER g 0 ∅ 0 : sProp 𝕄)))
  have hall : bigSep Finset.univ (fun c : Dev nD => iprop(unscopedSems0 c ∗ owes (c : Thread nD τ) (O₀ c) ∅ ∗ Pipeline.launchCred O₀ c ∗ prngReg c (ρ c) ∗ gRing c))
      ⊢ (bigSep Finset.univ fun c : Dev nD => iprop(((∃ r, prngReg c r) ∗ ∃ Wd, owes (c : Thread nD τ) (O₀ c) Wd)
        ∗ ((creds false c 0 ∗ ackc false c 0) ∗ (creds true c 0 ∗ ackc true c 0) ∗ cred (tallyAt (cell .bar c) 0 2))
        ∗ semVal (cell .bar c) 0 ∗ gRing c) : sProp 𝕄) := bigSep_mono fun c _ => hcore c
  iintro ⟨H, -⟩
  ihave H' := hall $$ H
  ihave H2 := devs_unpair $$ H'; icases H2 with ⟨HB, H3⟩
  ihave H4 := devs_unpair $$ H3; icases H4 with ⟨Hc, H5⟩
  ihave H6 := devs_unpair $$ H5; icases H6 with ⟨Hv, HG⟩
  ihave Hu := (show bigSep Finset.univ (gRing (F := F)) ⊢ BI.own (ER (launchOf barCells scCells ringToks)) from
    Entails.of_eq (atDev_all (F := F) 0 (BI.own (ER (launchOf barCells scCells ringToks))))) $$ HG
  imod (Rounds.fund_launch ER (Rd (Ew (V14 m))) disjoint_cells (fun g _ h => h) ringToks) $$ [Hv Hu] with ⟨%κ, -, #Hinv, #Hr, Hat, Hopen, Htok⟩
  · isplitl [Hv]
    · iapply hv $$ Hv
    · iexact Hu
  imodintro
  iapply (bigSep_with_persistent (R := records (V14 m) κ)
    (Φ := fun c => iprop(own1 c ∗ ((∃ r, prngReg c r) ∗ ∃ Wd, owes (c : Thread nD τ) (O₀ c) Wd))) fun c _ => by
      unfold rest; rw [if_pos rfl]
      iintro ⟨HR, Ho, Hb⟩
      isplitl [HR Ho]
      · iapply (Tk_intro (V14 m) κ c); isplitl [HR] <;> iassumption
      · iexact Hb)
  isplitr
  · unfold records
    isplitr; · iexact Hinv
    iexact Hr
  iapply devs_pair
  isplitr [HB]
  · unfold own1
    iapply devs_pair; isplitl [Hat]; · iapply hat $$ Hat
    iapply devs_pair; isplitl [Hopen]; · iapply (open_eq (F := F)) $$ Hopen
    iapply devs_pair; isplitl [Htok]; · iapply (toks_eq (F := F)) $$ Htok
    iexact Hc
  · iexact HB

/-- Every semaphore that outlives the region is the barrier. -/
theorem unscoped_eq : ∀ sm : SemLoc sig, sm.isScoped .tc = false → sm = .reg barS := by decide

/-- The buffers the region's windows stage, and the others, are all the unscoped buffers. -/
theorem held_split (c : Dev nD) (V : Valuation τ sig (Elt F)) :
    (StableHlo.held (c : Thread nD τ) (Pipeline.ucRefs τ sig) V : sProp 𝕄)
      = iprop(StableHlo.held (c : Thread nD τ) (Pipeline.arrRefs (τ := τ) spec0) V ∗ StableHlo.held (c : Thread nD τ) others V) :=
  StableHlo.held_sub_split (c : Thread nD τ) (by decide) V

/-- What is held before the region is what the region asks. -/
theorem pre0 (c : Dev nD) : iprop(StableHlo.held (c : Thread nD τ) (Pipeline.ucRefs τ sig) (V14 m c) ∗ rest m 0 c) ⊢ (ringSeg (V14 m) (words_ok m)).pre c := by
  show _ ⊢ iprop(StableHlo.held (c : Thread nD τ) (Pipeline.arrRefs (τ := τ) spec0) (V14 m c) ∗ (∃ r, prngReg c r)
    ∗ (StableHlo.held (c : Thread nD τ) others (V14 m c) ∗ emp) ∗ Tk (V14 m) c ∗ ∃ Wd, owes (c : Thread nD τ) (0 + O₀ c) Wd)
  rw [held_split, zero_add]
  unfold rest; rw [if_pos rfl]
  iintro ⟨⟨H1, H2⟩, HT, Hp, HO⟩
  isplitl [H1]; · iexact H1
  isplitl [Hp]; · iexact Hp
  isplitl [H2]
  · isplitl [H2]; · iexact H2
    iempintro
  isplitl [HT]; · iexact HT
  iexact HO

/-- The memory after the region holds the ring's result. -/
theorem V15_eq (c : Dev nD) : V15 m (outs m) c = Wn (V14 m) c := by
  unfold V15 outs Wn
  rw [Function.update_self]

/-- What the region gives back is what is held after it. -/
theorem post0 (c : Dev nD) : (ringSeg (V14 m) (words_ok m)).post c ⊢ iprop(StableHlo.held (c : Thread nD τ) (Pipeline.ucRefs τ sig) (V15 m (outs m) c) ∗ rest m 1 c) := by
  show iprop(StableHlo.held (c : Thread nD τ) (Pipeline.arrRefs (τ := τ) spec0) (Wn (V14 m) c) ∗ (∃ r, prngReg c r)
    ∗ (StableHlo.held (c : Thread nD τ) others (Wn (V14 m) c) ∗ emp) ∗ semVal (cell .bar c) 0 ∗ ∃ Wd, owes (c : Thread nD τ) 0 Wd) ⊢ _
  rw [V15_eq, held_split]
  unfold rest; rw [if_neg (by decide)]
  iintro ⟨H1, -, ⟨H2, -⟩, Hs, HO⟩
  isplitl [H1 H2]
  · isplitl [H1] <;> iassumption
  isplitl [Hs] <;> iassumption

/-- What a device's memory holds at the end. -/
def Final (c : Dev nD) (s : MemSt nD τ sig (Elt F)) : Prop :=
  s.mem ((c.tc : Thread nD τ).loc main_v188) = V20 m (outs m) c (Proc.devRef .tc main_v188)
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)

set_option backward.isDefEq.respectTransparency.types false in
/-- The run: from any memory with zero counters the program ends on every device, with the arguments unchanged, the result as
    the host code makes it of what the ring leaves, and every counter at zero. -/
theorem run_main : θ_run defs (onTc (τ := τ) (main (F := F))) ⟨m, fun _ => 0, ρ⟩
    (fun r => (∀ c : Dev nD, Final m c r.2) ∧ r.2.sem = fun _ => 0) := by
  refine Pipeline.θ_run_regions_kit_dev_sems (pcfgs (F := F)) adm (dats (V14 m)) (0 : ℕ) cellOf_inj EP defs₀ 𝒱₀ L lv m ρ main
    (segs m (outs m) 𝒱₀ L lv (rest m) (0 : ℕ) (dats (V14 m)) (ringSeg (V14 m) (words_ok m)))
    (fun c Q => by
      rewrite [main_chain c, Pipeline.Seg.run_eq_chain,
        show (segs m (outs m) 𝒱₀ L lv (rest m) (0 : ℕ) (dats (V14 m)) (ringSeg (V14 m) (words_ok m)) c).map Pipeline.Seg.prog = [
          StableHlo.seq (hostOps0 c), StableHlo.seq hostOps0_1, StableHlo.seq hostOps0_2, StableHlo.seq hostOps0_3, StableHlo.seq hostOps0_4,
          StableHlo.seq hostOps0_5, StableHlo.seq hostOps0_6, StableHlo.seq hostOps0_7, StableHlo.seq hostOps0_8, StableHlo.seq hostOps0_9,
          StableHlo.seq hostOps0_10, StableHlo.seq hostOps0_11, StableHlo.seq hostOps0_12, StableHlo.seq hostOps0_13,
          Prog.lift (.customCall (Pipeline.entry 0) ()),
          StableHlo.seq hostOps1, StableHlo.seq hostOps1_1, StableHlo.seq hostOps1_2, StableHlo.seq hostOps1_3, StableHlo.seq hostOps1_4 ] from rfl]
      dsimp (config := { failIfUnchanged := false }) only
      exact .rfl)
    (fun c => by simp only [segs, Pipeline.Seg.pipes_host, Pipeline.Seg.pipes_region, Pipeline.Seg.pipes_nil]; decide)
    O₀ L_of_ne gRing (u₀ (F := F)) ?_
    (T₀ := fun c => iprop(StableHlo.held (c : Thread nD τ) (Pipeline.ucRefs τ sig) (V0 m c) ∗ rest m 0 c))
    (Tₙ := fun c => iprop(StableHlo.held (c : Thread nD τ) (Pipeline.ucRefs τ sig) (V20 m (outs m) c) ∗ semVal (cell .bar c) 0))
    (hch := fun c => ⟨.rfl, .rfl, .rfl, .rfl, .rfl, .rfl, .rfl, .rfl, .rfl, .rfl, .rfl, .rfl, .rfl, .rfl, pre0 m c, post0 m c, .rfl, .rfl, .rfl, .rfl, ?_⟩)
    (hinit := ?_) (QY := fun c s => Final m c s ∧ s.sem (cell .bar c) = 0)
    (hfin := fun c s' => ?_) (hQ := fun s h hs => ⟨fun c => (h c).1, sem_eq_zero hs fun c sm hsm => by
      obtain rfl := unscoped_eq sm hsm
      exact (h c).2⟩)
  · unfold u₀ gRing
    iintro Hu
    ihave H := (ownU_pair _ _) $$ Hu
    icases H with ⟨HP, HX⟩
    imodintro
    isplitl [HP]; · iexact HP
    rw [atDev_all]; iexact HX
  · show iprop(StableHlo.held (c : Thread nD τ) (Pipeline.ucRefs τ sig) (V20 m (outs m) c) ∗ rest m 1 c) ⊢ _
    unfold rest; rw [if_neg (by decide)]
    iintro ⟨Hh, Hb, HO⟩
    isplitr [HO]
    · isplitl [Hh] <;> iassumption
    · iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ gRing c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ gRing c))
            : sProp 𝕄) := by
      rw [← bigSep_sep']
      exact bigSep_mono fun c _ => by rw [← Pipeline.unscopedBufs_held c (V0 m c)]; exact BI.Entails.refl _
    iintro ⟨H, Hla⟩
    ihave H' := hsplit $$ H
    icases H' with ⟨Hh, Hr⟩
    imod (rest_init m ρ) $$ [Hr Hla] with HE
    · isplitl [Hr] <;> iassumption
    imodintro
    rw [bigSep_sep']
    isplitl [Hh] <;> iassumption
  · unfold StableHlo.held
    iintro ⟨⟨Hh, Hb⟩, HSI⟩
    icombine HSI Hb gives %hb
    ihave Hr := (pointsTo_read_all (Pipeline.ucRefs τ sig) (fun b => ((c : Thread nD τ).1, b)) (V20 m (outs m) c) s') $$ [Hh HSI]
    · isplitl [Hh] <;> iassumption
    icases Hr with ⟨%h, HSI⟩
    imodintro
    isplitr
    · ipureintro
      refine ⟨⟨h (Proc.devRef .tc main_v188) (Finset.mem_filter.mpr ⟨StableHlo.devRef_mem_tcRefs main_v188, by decide⟩),
        (h (Proc.devRef .tc main_arg0) (Finset.mem_filter.mpr ⟨StableHlo.devRef_mem_tcRefs main_arg0, by decide⟩)).trans (V20_main_arg0 m (outs m) c),
        (h (Proc.devRef .tc main_arg1) (Finset.mem_filter.mpr ⟨StableHlo.devRef_mem_tcRefs main_arg1, by decide⟩)).trans (V20_main_arg1 m (outs m) c),
        (h (Proc.devRef .tc main_arg2) (Finset.mem_filter.mpr ⟨StableHlo.devRef_mem_tcRefs main_arg2, by decide⟩)).trans (V20_main_arg2 m (outs m) c),
        (h (Proc.devRef .tc main_arg3) (Finset.mem_filter.mpr ⟨StableHlo.devRef_mem_tcRefs main_arg3, by decide⟩)).trans (V20_main_arg3 m (outs m) c)⟩, by simpa using hb⟩
    · iexact HSI

end Cert.Proof.Ring
-- ==== Proof.SameText.lean ====
/- The kernel as it is printed and the kernel printed for reading over the extended reals have the same text. -/

module

public import proofs.«01_k».proof.Defs
public import proofs.«01_k».proof.Proof.Gen.Kernel
public import proofs.«01_k».proof.Proof.Gen.Kernel.Launch
public import proofs.«01_k».proof.Proof.Gen.KernelIdeal
public import proofs.«01_k».proof.Proof.Gen.KernelIdeal.Launch

@[expose] public section

noncomputable section

namespace Cert.Proof

open Idealize.ShloMosaic Idealize.SL.Sem

instance : Cert.Kernel.Facts := Cert.Kernel.Gen.facts
instance : Cert.KernelIdeal.Facts := Cert.KernelIdeal.Gen.facts

/-- The two programs have the same kernel body. -/
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
/-- The two programs have the same table of functions. -/
theorem defs_eq : Cert.Kernel.defs (F := Bits) = Cert.KernelIdeal.defs (F := Bits) := by
  unfold Cert.Kernel.defs Cert.KernelIdeal.defs
  rw [defs₀_eq]
  rfl
/-! The two programs have the same host operations, stretch by stretch. -/

/-- Stretch 0. -/
theorem host_eq_0 (c) : Cert.Kernel.Gen.hostOps0 (F := Bits) c = Cert.KernelIdeal.Gen.hostOps0 (F := Bits) c := rfl
/-- Stretch 14. -/
theorem host_eq_14 : Cert.Kernel.Gen.hostOps1 (F := Bits) = Cert.KernelIdeal.Gen.hostOps1 (F := Bits) := rfl
/-- Stretch 1. -/
theorem host_eq_1 : Cert.Kernel.Gen.hostOps0_1 (F := Bits) = Cert.KernelIdeal.Gen.hostOps0_1 (F := Bits) := rfl
/-- Stretch 2. -/
theorem host_eq_2 : Cert.Kernel.Gen.hostOps0_2 (F := Bits) = Cert.KernelIdeal.Gen.hostOps0_2 (F := Bits) := rfl
/-- Stretch 3. -/
theorem host_eq_3 : Cert.Kernel.Gen.hostOps0_3 (F := Bits) = Cert.KernelIdeal.Gen.hostOps0_3 (F := Bits) := rfl
/-- Stretch 4. -/
theorem host_eq_4 : Cert.Kernel.Gen.hostOps0_4 (F := Bits) = Cert.KernelIdeal.Gen.hostOps0_4 (F := Bits) := rfl
/-- Stretch 5. -/
theorem host_eq_5 : Cert.Kernel.Gen.hostOps0_5 (F := Bits) = Cert.KernelIdeal.Gen.hostOps0_5 (F := Bits) := rfl
/-- Stretch 6. -/
theorem host_eq_6 : Cert.Kernel.Gen.hostOps0_6 (F := Bits) = Cert.KernelIdeal.Gen.hostOps0_6 (F := Bits) := rfl
/-- Stretch 7. -/
theorem host_eq_7 : Cert.Kernel.Gen.hostOps0_7 (F := Bits) = Cert.KernelIdeal.Gen.hostOps0_7 (F := Bits) := rfl
/-- Stretch 8. -/
theorem host_eq_8 : Cert.Kernel.Gen.hostOps0_8 (F := Bits) = Cert.KernelIdeal.Gen.hostOps0_8 (F := Bits) := rfl
/-- Stretch 9. -/
theorem host_eq_9 : Cert.Kernel.Gen.hostOps0_9 (F := Bits) = Cert.KernelIdeal.Gen.hostOps0_9 (F := Bits) := rfl
/-- Stretch 10. -/
theorem host_eq_10 : Cert.Kernel.Gen.hostOps0_10 (F := Bits) = Cert.KernelIdeal.Gen.hostOps0_10 (F := Bits) := rfl
/-- Stretch 11. -/
theorem host_eq_11 : Cert.Kernel.Gen.hostOps0_11 (F := Bits) = Cert.KernelIdeal.Gen.hostOps0_11 (F := Bits) := rfl
/-- Stretch 12. -/
theorem host_eq_12 : Cert.Kernel.Gen.hostOps0_12 (F := Bits) = Cert.KernelIdeal.Gen.hostOps0_12 (F := Bits) := rfl
/-- Stretch 13. -/
theorem host_eq_13 : Cert.Kernel.Gen.hostOps0_13 (F := Bits) = Cert.KernelIdeal.Gen.hostOps0_13 (F := Bits) := rfl
/-- Stretch 15. -/
theorem host_eq_15 : Cert.Kernel.Gen.hostOps1_1 (F := Bits) = Cert.KernelIdeal.Gen.hostOps1_1 (F := Bits) := rfl
/-- Stretch 16. -/
theorem host_eq_16 : Cert.Kernel.Gen.hostOps1_2 (F := Bits) = Cert.KernelIdeal.Gen.hostOps1_2 (F := Bits) := rfl
/-- Stretch 17. -/
theorem host_eq_17 : Cert.Kernel.Gen.hostOps1_3 (F := Bits) = Cert.KernelIdeal.Gen.hostOps1_3 (F := Bits) := rfl
/-- Stretch 18. -/
theorem host_eq_18 : Cert.Kernel.Gen.hostOps1_4 (F := Bits) = Cert.KernelIdeal.Gen.hostOps1_4 (F := Bits) := rfl

/-- Equal heads and equal tails make equal lists. -/
theorem cons_congr {α : Type*} {a b : α} {l l' : List α} (h : a = b) (h' : l = l') : a :: l = b :: l' := by rw [h, h']
/-- The two programs have the same text. -/
theorem main_eq (c) : Cert.Kernel.main (F := Bits) c = Cert.KernelIdeal.main (F := Bits) c :=
  (Cert.Kernel.Gen.main_chain c).trans <| Eq.trans (congrArg Pipeline.chain <|
    cons_congr (congrArg StableHlo.seq (host_eq_0 c)) <|
    cons_congr (congrArg StableHlo.seq host_eq_1) <|
    cons_congr (congrArg StableHlo.seq host_eq_2) <|
    cons_congr (congrArg StableHlo.seq host_eq_3) <|
    cons_congr (congrArg StableHlo.seq host_eq_4) <|
    cons_congr (congrArg StableHlo.seq host_eq_5) <|
    cons_congr (congrArg StableHlo.seq host_eq_6) <|
    cons_congr (congrArg StableHlo.seq host_eq_7) <|
    cons_congr (congrArg StableHlo.seq host_eq_8) <|
    cons_congr (congrArg StableHlo.seq host_eq_9) <|
    cons_congr (congrArg StableHlo.seq host_eq_10) <|
    cons_congr (congrArg StableHlo.seq host_eq_11) <|
    cons_congr (congrArg StableHlo.seq host_eq_12) <|
    cons_congr (congrArg StableHlo.seq host_eq_13) <|
    cons_congr (rfl) <|
    cons_congr (congrArg StableHlo.seq host_eq_14) <|
    cons_congr (congrArg StableHlo.seq host_eq_15) <|
    cons_congr (congrArg StableHlo.seq host_eq_16) <|
    cons_congr (congrArg StableHlo.seq host_eq_17) <|
    cons_congr (congrArg StableHlo.seq host_eq_18) <|
    rfl)
    (Cert.KernelIdeal.Gen.main_chain c).symm

end Cert.Proof

end
-- ==== Proof.Frames.lean ====
/- The frames: every program ends with its arguments unchanged and its counters at zero. -/

module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Ring.Launch
public import proofs.«01_k».proof.Proof.SameText

@[expose] public section

noncomputable section

namespace Cert.Proof

open Idealize.ShloMosaic Idealize.SL.Sem

instance : Cert.ReferenceIdeal.Facts := Cert.ReferenceIdeal.Gen.facts

/-- The frame of the kernel read at `Ideal`. -/
theorem frame_kernelIdeal : Cert.quiescent_KernelIdeal := fun m ρ _ =>
  (θ_run Cert.KernelIdeal.defs _ _).mono (fun _ h => ⟨fun c => (h.1 c).2, h.2⟩) (Ring.run_main (F := Ideal) m ρ)

/-- A program with the kernel's text runs, at `Bits`, as the kernel does. -/
theorem frame_of (d : Defs Cert.KernelIdeal.nD Cert.KernelIdeal.τ Cert.KernelIdeal.sig (Elt Bits) _) (p : Dev Cert.KernelIdeal.nD → Prog (TpuEff Cert.KernelIdeal.nD Cert.KernelIdeal.τ Cert.KernelIdeal.sig (Elt Bits) _ .tc) PUnit)
    (hd : d = Cert.KernelIdeal.defs (F := Bits)) (hp : p = Cert.KernelIdeal.main (F := Bits))
    (m : (ℓ : Loc Cert.KernelIdeal.nD Cert.KernelIdeal.τ Cert.KernelIdeal.sig) → Buf (Elt Bits) ℓ) (ρ : Dev Cert.KernelIdeal.nD → PrngReg) :
    θ_run d (onTc (τ := Cert.KernelIdeal.τ) p) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) := by
  subst hd hp
  exact (θ_run Cert.KernelIdeal.defs _ _).mono (fun _ h => ⟨fun c => (h.1 c).2, h.2⟩) (Ring.run_main (F := Bits) m ρ)

/-- The frame of the kernel read at `Bits`. -/
theorem frame_kernel : Cert.quiescent_Kernel := fun m ρ _ =>
  frame_of Cert.Kernel.defs Cert.Kernel.main defs_eq (funext main_eq) m ρ

/-- The frame of the reference, which has no semaphores. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Maths.Ops.lean ====
/- Host operations read at an index: the sort, the running maximum. -/

module

public import proofs.«01_k».proof.Proof.Gen.KernelIdeal
public import Idealize.ShloMosaic.Lib.Routing.OpsSet
public import Idealize.ShloMosaic.Lib.SortFacts

@[expose] public section

set_option maxRecDepth 16384

noncomputable section

namespace Cert.Proof.Maths

open Cert.KernelIdeal Cert.KernelIdeal.Gen
open Idealize.ShloMosaic Idealize.ShloMosaic.Routing Idealize.ShloMosaic.ValueIdx

/-! ## Words -/

/-- A word below 2³¹, read signed. -/
theorem toInt_nat (n : Nat) (h : n < 2 ^ 31) : (BitVec.ofNat 32 n).toInt = n := StableHlo.Predicate.toInt_ofNat_small _ h

/-- Comparing two small words. -/
theorem slt_nat (a b : Nat) (ha : a < 2 ^ 31) (hb : b < 2 ^ 31) : IntOp.cmpi .slt (BitVec.ofNat 32 a) (BitVec.ofNat 32 b) = BitVec.ofBool (decide (a < b)) := by
  show BitVec.ofBool ((BitVec.ofNat 32 a).slt (BitVec.ofNat 32 b)) = _
  rw [BitVec.slt_eq_decide, toInt_nat a ha, toInt_nat b hb]
  simp

/-- A small word is not negative, so the usual correction of a negative index leaves it. -/
theorem fix_nat (n : Nat) (h : n < 2 ^ 31) (z y : BitVec 32) (hz : z = 0#32) :
    Scalar.select (IntOp.cmpi .slt (BitVec.ofNat 32 n) z) y (BitVec.ofNat 32 n) = BitVec.ofNat 32 n := by
  subst hz
  have := slt_nat n 0 h (by decide)
  rw [show (0#32 : BitVec 32) = BitVec.ofNat 32 0 from rfl, this]
  simp [Scalar.select]

/-! ## The sort -/

/-- The order in which the pairs stand once they are sorted by the expert. -/
def ord (e : Fin 4096 → Fin 128) : Fin 4096 → Fin 4096 := sortedFrom fun a b => decide ((e a).val < (e b).val)

/-- Sorting rearranges the pairs. -/
theorem ord_bij (e : Fin 4096 → Fin 128) : Function.Bijective (ord e) := ⟨sortedFrom_injective _, sortedFrom_surjective _⟩

/-- In sorted order the experts do not decrease. -/
theorem ord_mono (e : Fin 4096 → Fin 128) (i j : Fin 4096) (h : i ≤ j) : (e (ord e i)).val ≤ (e (ord e j)).val := by
  rcases h.lt_or_eq with h | rfl
  · have := sortedFrom_noInversion (fun a b : Fin 4096 => decide ((e a).val < (e b).val)) (fun a b => decide ((e a).val < (e b).val))
      (fun a b hab => by simp at hab ⊢; omega) (fun a b h => h) (fun a b c h1 h2 => by simp at h1 h2 ⊢; omega) i j h
    exact not_lt.mp (of_decide_eq_false this)
  · exact le_refl _

/-- The sort's second result lists the order. -/
theorem sort_read (e : Fin 4096 → Fin 128) (k : IVec S4096 32) (hk : ∀ p, k (ix1 p) = BitVec.ofNat 32 (e p).val) (q : Fin 4096) :
    (Host.sort2 S4096 0 comparator_i32_i32_d0 k (iotaInDim S4096 32 0)).2 (ix1 q) = BitVec.ofNat 32 (ord e q).val := by
  have hd : 0 < S4096.rank := Nat.zero_lt_one
  have al : ∀ (j : S4096.Idx) (c : Fin 4096), j.along (⟨0, hd⟩ : Fin S4096.rank) c = ix1 c := fun j c => by
    funext a
    match a with
    | ⟨0, _⟩ => exact Function.update_self ..
  unfold Host.sort2
  rw [dif_pos hd]
  show iotaInDim S4096 32 0 ((ix1 q).along (⟨0, hd⟩ : Fin S4096.rank) _) = _
  have hb : (fun a b : Fin 4096 => comparator_i32_i32_d0 (k ((ix1 q).along (⟨0, hd⟩ : Fin S4096.rank) a), iotaInDim S4096 32 0 ((ix1 q).along (⟨0, hd⟩ : Fin S4096.rank) a))
      (k ((ix1 q).along (⟨0, hd⟩ : Fin S4096.rank) b), iotaInDim S4096 32 0 ((ix1 q).along (⟨0, hd⟩ : Fin S4096.rank) b)) == 1#1)
      = fun a b => decide ((e a).val < (e b).val) := by
    funext a b
    show (IntOp.cmpi .slt (k ((ix1 q).along (⟨0, hd⟩ : Fin S4096.rank) a)) (k ((ix1 q).along (⟨0, hd⟩ : Fin S4096.rank) b)) == 1#1) = _
    rw [al, al, hk, hk, slt_nat _ _ (by have := (e a).isLt; omega) (by have := (e b).isLt; omega)]
    by_cases h : (e a).val < (e b).val <;> simp [h]
  refine (congrArg (fun f => iotaInDim S4096 32 0 ((ix1 q).along (⟨0, hd⟩ : Fin S4096.rank) (sortedFrom f q))) hb).trans ?_
  exact (congrArg (iotaInDim S4096 32 0) (al (ix1 q) (ord e q))).trans rfl

/-! ## The running maximum -/

/-- The larger of two words, where the second is known to be at most the first. -/
theorem maxsi_of_le {a b : BitVec 32} (h : b.toInt ≤ a.toInt) : IntOp.maxsi a b = a := by
  unfold IntOp.maxsi
  rw [BitVec.slt_eq_decide]
  by_cases h' : b.toInt < a.toInt
  · simp [h']
  · have : a = b := BitVec.eq_of_toInt_eq (le_antisymm (not_lt.mp h') h)
    simp [this]
/-- The larger of two words is the second when it is no smaller. -/
theorem maxsi_of_ge {a b : BitVec 32} (h : a.toInt ≤ b.toInt) : IntOp.maxsi a b = b := by
  unfold IntOp.maxsi
  rw [BitVec.slt_eq_decide]; simp [not_lt.mpr h]

/-- A running maximum stays at the bound once it is there. -/
theorem foldl_maxsi_stay {ι : Type} (L : List ι) (g : ι → BitVec 32) (b : BitVec 32) (h : ∀ i ∈ L, (g i).toInt ≤ b.toInt) :
    L.foldl (fun r n => IntOp.maxsi r (g n)) b = b := by
  induction L with
  | nil => rfl
  | cons a l ih =>
    rw [List.foldl_cons, maxsi_of_le (h a (List.mem_cons_self ..))]
    exact ih fun i hi => h i (List.mem_cons_of_mem _ hi)

/-- A fold of maxima is an element that bounds every element and the start. -/
theorem foldl_maxsi {ι : Type} (L : List ι) (g : ι → BitVec 32) (b v : BitVec 32) (hv : v.toInt ≤ b.toInt) (h : ∀ i ∈ L, (g i).toInt ≤ b.toInt)
    (hb : ∃ i ∈ L, g i = b) : L.foldl (fun r n => IntOp.maxsi r (g n)) v = b := by
  induction L generalizing v with
  | nil => obtain ⟨i, hi, -⟩ := hb; exact absurd hi (List.not_mem_nil)
  | cons a l ih =>
    rw [List.foldl_cons]
    by_cases hab : g a = b
    · rw [maxsi_of_ge (by rw [hab]; exact hv), hab]
      exact foldl_maxsi_stay l g b fun i hi => h i (List.mem_cons_of_mem _ hi)
    · refine ih _ ?_ (fun i hi => h i (List.mem_cons_of_mem _ hi)) ?_
      · rcases le_total v.toInt (g a).toInt with h' | h'
        · rw [maxsi_of_ge h']; exact h a (List.mem_cons_self ..)
        · rw [maxsi_of_le h']; exact hv
      · obtain ⟨i, hi, he⟩ := hb
        rcases List.mem_cons.mp hi with rfl | hi
        · exact absurd he hab
        · exact ⟨i, hi, he⟩

/-- The cumulative maximum at `q` is the entry at a `p ≤ q` that bounds every entry up to `q`. -/
theorem cummax_read (f : IVec S4096 32) (init : IVec S_ 32) (h) (hu) (q p : Fin 4096) (hp : p ≤ q) (hmax : ∀ r : Fin 4096, r ≤ q → (f (ix1 r)).toInt ≤ (f (ix1 p)).toInt)
    (hi : ∀ i, (init i).toInt ≤ (f (ix1 p)).toInt) :
    Host.reduceWindow (s := S4096) (t := S4096) (u := S_) IntOp.maxsi ![4096] ![1] ![4095] ![0] f init h hu (ix1 q) = f (ix1 p) := by
  unfold Host.reduceWindow
  refine foldl_maxsi _ _ _ _ (hi _) (fun n _ => ?_) ?_
  · split
    · rename_i hin
      have h0 := hin 0
      rw [eq_ix1 (n := 4096) (fun a => _)]
      refine hmax _ ?_
      have hn : (((⟨1, ![4096]⟩ : Shape).rowMajor.symm n) 0).val < 4096 := Fin.isLt _
      show q.val * 1 + (((⟨1, ![4096]⟩ : Shape).rowMajor.symm n) 0).val - 4095 ≤ q.val
      omega
    · exact hi _
  · refine ⟨(⟨1, ![4096]⟩ : Shape).rowMajor (ix1 (⟨p.val + 4095 - q.val, by have := q.isLt; have := hp; omega⟩ : Fin 4096)), List.mem_finRange _, ?_⟩
    have hpq : p.val ≤ q.val := hp
    rw [dif_pos]
    · refine congrArg f (funext fun a => ?_)
      match a with
      | ⟨0, _⟩ =>
        refine Fin.ext ?_
        simp only [Equiv.symm_apply_apply]
        show q.val * 1 + (p.val + 4095 - q.val) - 4095 = p.val
        have := q.isLt
        omega
    · intro a
      match a with
      | ⟨0, _⟩ =>
        simp only [Equiv.symm_apply_apply]
        show 4095 ≤ q.val * 1 + (p.val + 4095 - q.val) ∧ q.val * 1 + (p.val + 4095 - q.val) - 4095 < 4096
        have := q.isLt; have := p.isLt
        omega

end Cert.Proof.Maths

end
-- ==== Proof.Maths.Lands.lean ====
/- Host gathers and scatters read at an index. -/

module

public import proofs.«01_k».proof.Proof.Maths.Ops

@[expose] public section

set_option maxRecDepth 16384

noncomputable section

namespace Cert.Proof.Maths

open Cert.KernelIdeal Cert.KernelIdeal.Gen
open Idealize.ShloMosaic Idealize.ShloMosaic.Routing Idealize.ShloMosaic.ValueIdx

/-! ## Gathers -/

/-- Taking along axis 1 of a matrix of `n` rows. -/
abbrev alongD (n : Nat) (wf : GatherDims.WF (shape2 n 128) (⟨3, ![n, 2, 1]⟩ : Shape) (shape2 n 2) [] [1] [0] [1] [0] 2 ![1, 1]) : GatherDims (shape2 n 128) (⟨3, ![n, 2, 1]⟩ : Shape) (shape2 n 2) := ⟨[], [1], [0], [0], [1], 2, ![1, 1], wf⟩

/-- Taking along axis 1: entry `(r, k)` of the result is the operand's entry in row `r` at the column that the indices hold at `(r, k)`. -/
theorem gather_along {α : Type} {n : Nat} (wf) (x : (shape2 n 128).Idx → α) (idx : IVec (⟨3, ![n, 2, 1]⟩ : Shape) 32) (r : Fin n) (k : Fin 2) (b : Fin 128)
    (hb : idx (ix3 r k (0 : Fin 1)) = BitVec.ofNat 32 b.val) : Host.gather (alongD n wf) x idx (ix2 r k) = x (ix2 r b) := by
  have hl := b.isLt
  unfold Host.gather
  refine congrArg x (funext fun a => Fin.ext ?_)
  match a with
  | ⟨0, _⟩ =>
    show (alongD n wf).start (ix2 r k) idx (0 : Fin 2) + (alongD n wf).batchCoord (ix2 r k) (0 : Fin 2) + (alongD n wf).offCoord (ix2 r k) (0 : Fin 2) = r.val
    rw [GatherDims.start_batching _ _ _ _ (show (0 : Fin 2) ∈ [(0 : Fin 2)] by decide),
      GatherDims.offCoord_eq_zero _ _ _ (show (0 : Fin 2) ∉ Shape.kept ⟨2, ![0, 0]⟩ ([1] ++ [0]) by decide)]
    unfold GatherDims.batchCoord
    rw [dif_pos (show (0 : Fin 2) ∈ [(0 : Fin 2)] by decide)]
    exact (Nat.add_zero _).trans (Nat.zero_add _)
  | ⟨1, _⟩ =>
    show (alongD n wf).start (ix2 r k) idx (1 : Fin 2) + (alongD n wf).batchCoord (ix2 r k) (1 : Fin 2) + (alongD n wf).offCoord (ix2 r k) (1 : Fin 2) = b.val
    rw [GatherDims.batchCoord_eq_zero _ _ _ (show (1 : Fin 2) ∉ [(0 : Fin 2)] by decide),
      GatherDims.offCoord_eq_zero _ _ _ (show (1 : Fin 2) ∉ Shape.kept ⟨2, ![0, 0]⟩ ([1] ++ [0]) by decide)]
    unfold GatherDims.start
    rw [dif_pos (show (1 : Fin 2) ∈ [(1 : Fin 2)] by decide)]
    have hs : (alongD n wf).siIdx (ix2 r k) ⟨0, Nat.zero_lt_one⟩ = ix3 r k (0 : Fin 1) := by
      funext b'
      match b' with
      | ⟨0, _⟩ => rfl
      | ⟨1, _⟩ => rfl
      | ⟨2, _⟩ => rfl
    refine (congrArg (fun w : BitVec 32 => min w.toInt.toNat (128 - 1)) ((congrArg idx hs).trans hb)).trans ?_
    show min (BitVec.ofNat 32 b.val).toInt.toNat (128 - 1) = b.val
    rw [toInt_nat _ (by omega)]
    omega

/-- Taking `n` slabs along axis 0. -/
abbrev slabD (n : Nat) (wf : GatherDims.WF (⟨3, ![128, 512, 1024]⟩ : Shape) (shape2 n 1) (⟨3, ![n, 512, 1024]⟩ : Shape) [1, 2] [0] [] [0] [] 1 ![1, 512, 1024]) : GatherDims (⟨3, ![128, 512, 1024]⟩ : Shape) (shape2 n 1) (⟨3, ![n, 512, 1024]⟩ : Shape) := ⟨[1, 2], [0], [], [], [0], 1, ![1, 512, 1024], wf⟩

/-- Taking slabs along axis 0: slab `r` of the result is the operand's slab at the number that the indices hold at `r`. -/
theorem gather_slab {α : Type} {n : Nat} (wf) (x : (⟨3, ![128, 512, 1024]⟩ : Shape).Idx → α) (idx : IVec (shape2 n 1) 32) (r : Fin n) (k : Fin 512) (h : Fin 1024) (b : Fin 128)
    (hb : idx (ix2 r (0 : Fin 1)) = BitVec.ofNat 32 b.val) : Host.gather (slabD n wf) x idx (ix3 r k h) = x (ix3 b k h) := by
  have hl := b.isLt
  unfold Host.gather
  refine congrArg x (funext fun a => Fin.ext ?_)
  match a with
  | ⟨0, _⟩ =>
    show (slabD n wf).start (ix3 r k h) idx (0 : Fin 3) + (slabD n wf).batchCoord (ix3 r k h) (0 : Fin 3) + (slabD n wf).offCoord (ix3 r k h) (0 : Fin 3) = b.val
    rw [GatherDims.batchCoord_eq_zero _ _ _ (show (0 : Fin 3) ∉ ([] : List (Fin 3)) by decide),
      GatherDims.offCoord_eq_zero _ _ _ (show (0 : Fin 3) ∉ Shape.kept ⟨3, ![0, 0, 0]⟩ ([0] ++ []) by decide)]
    unfold GatherDims.start
    rw [dif_pos (show (0 : Fin 3) ∈ [(0 : Fin 3)] by decide)]
    have hs : (slabD n wf).siIdx (ix3 r k h) ⟨0, Nat.zero_lt_one⟩ = ix2 r (0 : Fin 1) := by
      funext b'
      match b' with
      | ⟨0, _⟩ => rfl
      | ⟨1, _⟩ => rfl
    refine (congrArg (fun w : BitVec 32 => min w.toInt.toNat (128 - 1)) ((congrArg idx hs).trans hb)).trans ?_
    show min (BitVec.ofNat 32 b.val).toInt.toNat (128 - 1) = b.val
    rw [toInt_nat _ (by omega)]
    omega
  | ⟨1, _⟩ =>
    show (slabD n wf).start (ix3 r k h) idx (1 : Fin 3) + (slabD n wf).batchCoord (ix3 r k h) (1 : Fin 3) + (slabD n wf).offCoord (ix3 r k h) (1 : Fin 3) = k.val
    rw [GatherDims.batchCoord_eq_zero _ _ _ (show (1 : Fin 3) ∉ ([] : List (Fin 3)) by decide)]
    unfold GatherDims.start GatherDims.offCoord
    have hm : (1 : Fin 3) ∈ (slabD n wf).sKept := show (1 : Fin 3) ∈ Shape.kept ⟨3, ![0, 0, 0]⟩ ([0] ++ []) by decide
    rw [dif_neg (show (1 : Fin 3) ∉ [(0 : Fin 3)] by decide), dif_pos hm, Nat.zero_add]
    rfl
  | ⟨2, _⟩ =>
    show (slabD n wf).start (ix3 r k h) idx (2 : Fin 3) + (slabD n wf).batchCoord (ix3 r k h) (2 : Fin 3) + (slabD n wf).offCoord (ix3 r k h) (2 : Fin 3) = h.val
    rw [GatherDims.batchCoord_eq_zero _ _ _ (show (2 : Fin 3) ∉ ([] : List (Fin 3)) by decide)]
    unfold GatherDims.start GatherDims.offCoord
    have hm : (2 : Fin 3) ∈ (slabD n wf).sKept := show (2 : Fin 3) ∈ Shape.kept ⟨3, ![0, 0, 0]⟩ ([0] ++ []) by decide
    rw [dif_neg (show (2 : Fin 3) ∉ [(0 : Fin 3)] by decide), dif_pos hm, Nat.zero_add]
    rfl

/-! ## Scatters -/

/-- Where an update of the scatter of 64 words into 128 lands. -/
theorem lands_base (idx : IVec S64x1 32) (i : Fin 64) (x : Fin 128) :
    (scatter_S128_S64x1_S64_n_0_0_1).resultIdx? (ix1 i) idx = some (ix1 x) ↔ (idx (ix2 i (0 : Fin 1))).toInt = (x.val : Int) := by
  have hs : (scatter_S128_S64x1_S64_n_0_0_1).siIdx (ix1 i) ⟨0, Nat.zero_lt_one⟩ = ix2 i (0 : Fin 1) := by
    funext b'
    match b' with
    | ⟨0, _⟩ => rfl
    | ⟨1, _⟩ => rfl
  have h0 : (scatter_S128_S64x1_S64_n_0_0_1).start (ix1 i) idx 0 = (idx (ix2 i (0 : Fin 1))).toInt := by
    unfold ScatterDims.start
    rw [dif_pos (by exact List.mem_singleton.2 rfl)]
    exact congrArg (fun q => (idx q).toInt) hs
  have w0 : (scatter_S128_S64x1_S64_n_0_0_1).window (ix1 i) 0 = 0 := by
    unfold ScatterDims.window
    rw [dif_neg (by decide)]
  have hx := x.isLt
  unfold ScatterDims.resultIdx?
  constructor
  · intro h
    split at h
    · rename_i hin
      have := congrFun (Option.some.inj h) 0
      have hv := congrArg Fin.val this
      have h2 := hin 0
      simp only [h0, w0] at hv h2
      change (_ : Int).toNat = x.val at hv
      omega
    · exact absurd h (by simp)
  · intro h
    rw [dif_pos]
    · refine congrArg some (funext fun a => Fin.ext ?_)
      match a with
      | ⟨0, _⟩ =>
        show ((scatter_S128_S64x1_S64_n_0_0_1).start (ix1 i) idx 0 + ((scatter_S128_S64x1_S64_n_0_0_1).window (ix1 i) 0 : Int)).toNat = x.val
        rw [h0, w0]; omega
    · intro a
      match a with
      | ⟨0, _⟩ =>
        show 0 ≤ (scatter_S128_S64x1_S64_n_0_0_1).start (ix1 i) idx 0 + ((scatter_S128_S64x1_S64_n_0_0_1).window (ix1 i) 0 : Int) ∧ (scatter_S128_S64x1_S64_n_0_0_1).start (ix1 i) idx 0 + ((scatter_S128_S64x1_S64_n_0_0_1).window (ix1 i) 0 : Int) < 128
        rw [h0, w0]; omega

/-- Where an update of the scatter of 4096 rows into 8192 lands. -/
theorem lands_rows (idx : IVec S4096x1 32) (i : Fin 4096) (k : Fin 512) (x : Fin 8192) (l : Fin 512) :
    (scatter_S8192x512_S4096x1_S4096x512_1_0_0_1).resultIdx? (ix2 i k) idx = some (ix2 x l) ↔ (idx (ix2 i (0 : Fin 1))).toInt = (x.val : Int) ∧ k = l := by
  have hs : (scatter_S8192x512_S4096x1_S4096x512_1_0_0_1).siIdx (ix2 i k) ⟨0, Nat.zero_lt_one⟩ = ix2 i (0 : Fin 1) := by
    funext b'
    match b' with
    | ⟨0, _⟩ => rfl
    | ⟨1, _⟩ => rfl
  have h0 : (scatter_S8192x512_S4096x1_S4096x512_1_0_0_1).start (ix2 i k) idx 0 = (idx (ix2 i (0 : Fin 1))).toInt := by
    unfold ScatterDims.start
    rw [dif_pos (by exact List.mem_singleton.2 rfl)]
    exact congrArg (fun q => (idx q).toInt) hs
  have h1 : (scatter_S8192x512_S4096x1_S4096x512_1_0_0_1).start (ix2 i k) idx 1 = 0 := by
    unfold ScatterDims.start
    rw [dif_neg (by show (1 : Fin 2) ∉ [(0 : Fin 2)]; decide)]
  have w0 : (scatter_S8192x512_S4096x1_S4096x512_1_0_0_1).window (ix2 i k) 0 = 0 := by
    unfold ScatterDims.window
    rw [dif_neg (by decide)]
  have w1 : (scatter_S8192x512_S4096x1_S4096x512_1_0_0_1).window (ix2 i k) 1 = k.val := by
    unfold ScatterDims.window
    rw [dif_pos (by decide)]
    rfl
  have hx := x.isLt
  have hk := k.isLt
  unfold ScatterDims.resultIdx?
  constructor
  · intro h
    split at h
    · rename_i hin
      have hv := congrArg Fin.val (congrFun (Option.some.inj h) 0)
      have hv1 := congrArg Fin.val (congrFun (Option.some.inj h) 1)
      have h2 := hin 0
      simp only [h0, w0] at hv h2
      simp only [h1, w1] at hv1
      change (_ : Int).toNat = x.val at hv
      change (_ : Int).toNat = l.val at hv1
      exact ⟨by omega, Fin.ext (by omega)⟩
    · exact absurd h (by simp)
  · rintro ⟨h, rfl⟩
    rw [dif_pos]
    · refine congrArg some (funext fun a => Fin.ext ?_)
      match a with
      | ⟨0, _⟩ =>
        show ((scatter_S8192x512_S4096x1_S4096x512_1_0_0_1).start (ix2 i k) idx 0 + ((scatter_S8192x512_S4096x1_S4096x512_1_0_0_1).window (ix2 i k) 0 : Int)).toNat = x.val
        rw [h0, w0]; omega
      | ⟨1, _⟩ =>
        show ((scatter_S8192x512_S4096x1_S4096x512_1_0_0_1).start (ix2 i k) idx 1 + ((scatter_S8192x512_S4096x1_S4096x512_1_0_0_1).window (ix2 i k) 1 : Int)).toNat = k.val
        rw [h1, w1]; omega
    · intro a
      match a with
      | ⟨0, _⟩ =>
        show 0 ≤ (scatter_S8192x512_S4096x1_S4096x512_1_0_0_1).start (ix2 i k) idx 0 + ((scatter_S8192x512_S4096x1_S4096x512_1_0_0_1).window (ix2 i k) 0 : Int) ∧ (scatter_S8192x512_S4096x1_S4096x512_1_0_0_1).start (ix2 i k) idx 0 + ((scatter_S8192x512_S4096x1_S4096x512_1_0_0_1).window (ix2 i k) 0 : Int) < 8192
        rw [h0, w0]; omega
      | ⟨1, _⟩ =>
        show 0 ≤ (scatter_S8192x512_S4096x1_S4096x512_1_0_0_1).start (ix2 i k) idx 1 + ((scatter_S8192x512_S4096x1_S4096x512_1_0_0_1).window (ix2 i k) 1 : Int) ∧ (scatter_S8192x512_S4096x1_S4096x512_1_0_0_1).start (ix2 i k) idx 1 + ((scatter_S8192x512_S4096x1_S4096x512_1_0_0_1).window (ix2 i k) 1 : Int) < 512
        rw [h1, w1]; omega

/-- The scatter of 64 words at distinct places: update `i` is read where it lands. -/
theorem scatter_base_hit (x0 : IVec S128 32) (idx : IVec S64x1 32) (u : IVec S64 32) (f : Fin 64 → Fin 128) (hf : Function.Injective f)
    (hi : ∀ i, idx (ix2 i (0 : Fin 1)) = BitVec.ofNat 32 (f i).val) (i : Fin 64) :
    Host.scatter scatter_S128_S64x1_S64_n_0_0_1 (fun _ b => b) x0 idx u (ix1 (f i)) = u (ix1 i) := by
  refine scatter_set_hit _ x0 idx u _ _ (fun k hk => ?_) (ix1 i) ((lands_base idx i (f i)).2 ?_)
  · obtain ⟨j, rfl⟩ : ∃ j, k = ix1 j := ⟨_, eq_ix1 k⟩
    have := (lands_base idx j (f i)).1 hk
    rw [hi, toInt_nat _ (by have := (f j).isLt; omega)] at this
    exact congrArg (fun q => u (ix1 q)) (hf (Fin.ext (by omega)))
  · rw [hi, toInt_nat _ (by have := (f i).isLt; omega)]

/-- Where none of the 64 updates lands the operand's word stays. -/
theorem scatter_base_miss (x0 : IVec S128 32) (idx : IVec S64x1 32) (u : IVec S64 32) (f : Fin 64 → Fin 128)
    (hi : ∀ i, idx (ix2 i (0 : Fin 1)) = BitVec.ofNat 32 (f i).val) (x : Fin 128) (hx : ∀ i, f i ≠ x) :
    Host.scatter scatter_S128_S64x1_S64_n_0_0_1 (fun _ b => b) x0 idx u (ix1 x) = x0 (ix1 x) := by
  refine scatter_set_miss _ x0 idx u _ fun k hk => ?_
  obtain ⟨j, rfl⟩ : ∃ j, k = ix1 j := ⟨_, eq_ix1 k⟩
  have := (lands_base idx j x).1 hk
  rw [hi, toInt_nat _ (by have := (f j).isLt; omega)] at this
  exact hx j (Fin.ext (by omega))

/-- The scatter of 4096 rows at distinct places: row `i` is read where it lands. -/
theorem scatter_rows_hit {α : Type} (x0 : S8192x512.Idx → α) (idx : IVec S4096x1 32) (u : S4096x512.Idx → α) (f : Fin 4096 → Fin 8192) (hf : Function.Injective f)
    (hi : ∀ i, idx (ix2 i (0 : Fin 1)) = BitVec.ofNat 32 (f i).val) (i : Fin 4096) (k : Fin 512) :
    Host.scatter scatter_S8192x512_S4096x1_S4096x512_1_0_0_1 (fun _ b => b) x0 idx u (ix2 (f i) k) = u (ix2 i k) := by
  refine scatter_set_hit _ x0 idx u _ _ (fun q hq => ?_) (ix2 i k) ((lands_rows idx i k (f i) k).2 ⟨?_, rfl⟩)
  · obtain ⟨j, l, rfl⟩ : ∃ j l, q = ix2 j l := ⟨_, _, eq_ix2 q⟩
    obtain ⟨h1, rfl⟩ := (lands_rows idx j l (f i) k).1 hq
    rw [hi, toInt_nat _ (by have := (f j).isLt; omega)] at h1
    exact congrArg (fun q => u (ix2 q l)) (hf (Fin.ext (by omega)))
  · rw [hi, toInt_nat _ (by have := (f i).isLt; omega)]

/-- The scatter of 4096 words at a permutation of the places. -/
theorem scatter_pairs_hit (x0 : IVec S4096 32) (idx : IVec S4096x1 32) (u : IVec S4096 32) (f : Fin 4096 → Fin 4096) (hf : Function.Injective f)
    (hi : ∀ i, idx (ix2 i (0 : Fin 1)) = BitVec.ofNat 32 (f i).val) (i : Fin 4096) :
    Host.scatter scatter_S4096_S4096x1_S4096_n_0_0_1 (fun _ b => b) x0 idx u (ix1 (f i)) = u (ix1 i) := by
  refine (scatter_set_signed (N := 4096) scatter_S4096_S4096x1_S4096_n_0_0_1 rfl rfl rfl x0 idx u (f i) (u (ix1 i)) fun j hj => ?_).1 ⟨i, ?_⟩
  · rw [hi, toInt_nat _ (by have := (f j).isLt; omega)] at hj
    exact congrArg (fun q => u (ix1 q)) (hf (Fin.ext (by omega)))
  · rw [hi, toInt_nat _ (by have := (f i).isLt; omega)]

end Cert.Proof.Maths

end
-- ==== Proof.Maths.Ring.lean ====
/- The ring by positions, the row block of an expert, and the place of a pair among its expert's pairs. -/

module

public import proofs.«01_k».proof.Proof.Maths.Lands
public import proofs.«01_k».proof.Proof.Ring.Words

@[expose] public section

set_option maxRecDepth 16384

noncomputable section

namespace Cert.Proof.Maths

open Cert.KernelIdeal Cert.KernelIdeal.Gen Cert.Proof.Ring
open Idealize.ShloMosaic Idealize.ShloMosaic.Routing Idealize.ShloMosaic.ValueIdx

/-! ## The ring as a cycle of positions -/

/-- The device at a position of the ring; -/
def cyc : Fin 32 → Fin 32 := ![0, 3, 4, 7, 15, 12, 11, 8, 16, 19, 20, 23, 31, 28, 27, 24, 25, 26, 29, 30, 22, 21, 18, 17, 9, 10, 13, 14, 6, 5, 2, 1]
/-- the position of a device. -/
def pos : Fin 32 → Fin 32 := ![0, 31, 30, 1, 2, 29, 28, 3, 7, 24, 25, 6, 5, 26, 27, 4, 8, 23, 22, 9, 10, 21, 20, 11, 15, 16, 17, 14, 13, 18, 19, 12]

/-- The program's table of devices by position is the ring's. -/
theorem lit0_cyc : ∀ i : Fin 32, lit0 i = BitVec.ofNat 32 (cyc i).val := by decide
/-- The program's table of positions by device is the ring's. -/
theorem lit1_pos : ∀ c : Fin 32, lit1 c = BitVec.ofNat 32 (pos c).val := by decide
/-- The device at a device's position is that device. -/
theorem cyc_pos : ∀ c : Fin 32, cyc (pos c) = c := by decide
/-- The position one hop up is one more, or one less, modulo 32. -/
theorem pos_up (d : Bool) : ∀ c : Fin 32, (pos (up d c)).val = ((pos c).val + cond d 1 31) % 32 := by cases d <;> decide

/-- The position, `h` steps up the ring. -/
theorem pos_src (d : Bool) (h : ℕ) (c : Fin 32) : (pos (src d h c)).val = ((pos c).val + h * cond d 1 31) % 32 := by
  induction h with
  | zero => have := (pos c).isLt; unfold src; simp only [Function.iterate_zero, id]; omega
  | succ h ih =>
    have : src d (h + 1) c = up d (src d h c) := by unfold src; rw [Function.iterate_succ_apply']
    rw [this, pos_up, ih]
    cases d <;> simp only [cond_true, cond_false] <;> omega

/-- The device whose position is `h` hops away is the one that `h` hops lead to. -/
theorem src_eq (d : Bool) (h : ℕ) (c i : Fin 32) (hi : i.val = ((pos c).val + h * cond d 1 31) % 32) : cyc i = src d h c := by
  rw [show i = pos (src d h c) from Fin.ext (hi.trans (pos_src d h c).symm), cyc_pos]

/-- Two steps of the same length at most 31 apart from each other reach different devices. -/
theorem src_inj (d : Bool) (c : Fin 32) (h k : ℕ) (hh : h < 32) (hk : k < 32) (e : src d h c = src d k c) : h = k := by
  have h1 := pos_src d h c
  have h2 := pos_src d k c
  rw [e] at h1
  cases d <;> simp only [cond_true, cond_false] at h1 h2 <;> omega

/-! ## The block that holds an expert's rows -/

/-- The expert whose matrix row block `b` is multiplied by at device `c`. -/
def expOf (c : Fin 32) (b : Fin 128) : Fin 128 := ⟨4 * (src (dOf b) (hOf b) c).val + cond (dOf b) 2 0 + (jOf b).val, by
  have h1 : (src (dOf b.val) (hOf b.val) c).val < 32 := Fin.isLt _
  have h2 := (jOf b.val).isLt
  have h3 : cond (dOf b.val) 2 0 ≤ 2 := by cases dOf b.val <;> simp
  omega⟩

/-- Two row blocks have different experts. -/
theorem expOf_inj (c : Fin 32) : Function.Injective (expOf c) := by
  intro a b hab
  have hv : 4 * (src (dOf a) (hOf a) c).val + cond (dOf a) 2 0 + a.val % 2 = 4 * (src (dOf b) (hOf b) c).val + cond (dOf b) 2 0 + b.val % 2 := congrArg Fin.val hab
  have ha := a.isLt
  have hb := b.isLt
  have hd : dOf a = dOf b := by
    cases h1 : dOf a.val <;> cases h2 : dOf b.val <;> first | rfl | (exfalso; simp only [h1, h2, cond_true, cond_false] at hv; omega)
  rw [← hd] at hv
  have hs : src (dOf a) (hOf a) c = src (dOf a) (hOf b) c := Fin.ext (by omega)
  have hh := src_inj (dOf a) c (hOf a) (hOf b) (by unfold hOf; omega) (by unfold hOf; omega) hs
  have h64 : 64 ≤ a.val ↔ 64 ≤ b.val := by simpa [dOf] using hd
  unfold hOf at hh
  apply Fin.ext
  omega

/-- Every expert has exactly one row block. -/
theorem expOf_bij (c : Fin 32) : Function.Bijective (expOf c) := Finite.injective_iff_bijective.mp (expOf_inj c)

/-- The row block of an expert's rows. -/
def blk (c : Fin 32) : Fin 128 → Fin 128 := (Equiv.ofBijective _ (expOf_bij c)).symm

/-- The expert of the row block of expert `x` is `x`. -/
theorem expOf_blk (c : Fin 32) (x : Fin 128) : expOf c (blk c x) = x := (Equiv.ofBijective _ (expOf_bij c)).apply_symm_apply x
/-- Two experts have different row blocks. -/
theorem blk_inj (c : Fin 32) : Function.Injective (blk c) := (Equiv.ofBijective _ (expOf_bij c)).symm.injective

/-! ## The place of a pair among its expert's pairs -/

section
variable (e : Fin 4096 → Fin 128)

/-- The expert of the pair that stands `q`-th in the sorted order. -/
def key (q : Fin 4096) : Fin 128 := e (ord e q)

/-- The sorted experts do not decrease. -/
theorem key_mono {i j : Fin 4096} (h : i ≤ j) : (key e i).val ≤ (key e j).val := ord_mono e i j h

/-- The first pair of the same expert. -/
def st (q : Fin 4096) : Fin 4096 := (Finset.univ.filter fun r => key e r = key e q).min' ⟨q, by simp⟩

/-- The first place of an expert's run has the same expert. -/
theorem key_st (q : Fin 4096) : key e (st e q) = key e q := by
  have := Finset.min'_mem (Finset.univ.filter fun r => key e r = key e q) ⟨q, by simp⟩
  exact (Finset.mem_filter.mp this).2

/-- No place of the same expert comes before the first. -/
theorem st_le {q r : Fin 4096} (h : key e r = key e q) : st e q ≤ r := Finset.min'_le _ _ (by simp [h])

/-- Every place between the first of a run and a place of the run has the same expert. -/
theorem key_between {q r : Fin 4096} (h1 : st e q ≤ r) (h2 : r ≤ q) : key e r = key e q := by
  have a := key_mono e h1
  have b := key_mono e h2
  rw [key_st] at a
  exact Fin.ext (by omega)

/-- How many pairs of the same expert come before. -/
def rank (q : Fin 4096) : ℕ := q.val - (st e q).val

variable (hcnt : ∀ x : Fin 128, (Finset.univ.filter fun p => e p = x).card ≤ 64)
include hcnt

/-- An expert has at most 64 pairs, so there are fewer than 64 before any. -/
theorem rank_lt (q : Fin 4096) : rank e q < 64 := by
  have hle : st e q ≤ q := st_le e rfl
  have hsub : (Finset.Icc (st e q) q).image (ord e) ⊆ Finset.univ.filter fun p => e p = key e q := by
    intro p hp
    obtain ⟨r, hr, rfl⟩ := Finset.mem_image.mp hp
    obtain ⟨h1, h2⟩ := Finset.mem_Icc.mp hr
    exact Finset.mem_filter.mpr ⟨Finset.mem_univ _, key_between e h1 h2⟩
  have hc := Finset.card_le_card hsub
  rw [Finset.card_image_of_injective _ (ord_bij e).1, Fin.card_Icc] at hc
  have := hcnt (key e q)
  have hle' : (st e q).val ≤ q.val := hle
  unfold rank
  omega

/-- The row at which the `q`-th pair's token is stored. -/
def slot (c : Fin 32) (q : Fin 4096) : Fin 8192 := ⟨64 * (blk c (key e q)).val + rank e q, by
  have := rank_lt e hcnt q
  have := (blk c (key e q)).isLt
  omega⟩

/-- Two pairs have different rows. -/
theorem slot_inj (c : Fin 32) : Function.Injective (slot e hcnt c) := by
  intro q q' h
  have hv : 64 * (blk c (key e q)).val + rank e q = 64 * (blk c (key e q')).val + rank e q' := congrArg Fin.val h
  have h1 := rank_lt e hcnt q
  have h2 := rank_lt e hcnt q'
  have hb : blk c (key e q) = blk c (key e q') := Fin.ext (by omega)
  have hk : key e q = key e q' := blk_inj c hb
  have hs : st e q = st e q' := le_antisymm (st_le e ((key_st e q').trans hk.symm)) (st_le e ((key_st e q).trans hk))
  have ha : (st e q).val ≤ q.val := st_le e rfl
  have hb' : (st e q').val ≤ q'.val := st_le e rfl
  unfold rank at hv
  rw [hb, hs] at hv
  rw [hs] at ha
  exact Fin.ext (by omega)
end

/-- The word that marks where an expert's pairs begin: the pair's own place there, zero elsewhere. -/
def flag (e : Fin 4096 → Fin 128) (q : Fin 4096) : ℕ := if h : q.val = 0 then 0 else if key e q = key e ⟨q.val - 1, by omega⟩ then 0 else q.val

/-- The flag at the first place of a run is that place. -/
theorem flag_st (e : Fin 4096 → Fin 128) (q : Fin 4096) : flag e (st e q) = (st e q).val := by
  unfold flag
  split
  · omega
  · rename_i h0
    rw [if_neg]
    intro hk
    have hm : st e q ≤ (⟨(st e q).val - 1, by omega⟩ : Fin 4096) := st_le e (hk.symm.trans (key_st e q))
    have : (st e q).val ≤ (st e q).val - 1 := hm
    omega

/-- No flag up to a place exceeds the first place of its run. -/
theorem flag_le (e : Fin 4096 → Fin 128) {q r : Fin 4096} (h : r ≤ q) : flag e r ≤ (st e q).val := by
  unfold flag
  split
  · omega
  · rename_i h0
    split
    · omega
    · rename_i hk
      by_contra hlt
      have h' : r.val ≤ q.val := h
      have h1 : st e q ≤ (⟨r.val - 1, by omega⟩ : Fin 4096) := show (st e q).val ≤ r.val - 1 by omega
      have h2 : (⟨r.val - 1, by omega⟩ : Fin 4096) ≤ q := show r.val - 1 ≤ q.val by omega
      have h3 : st e q ≤ r := show (st e q).val ≤ r.val by omega
      exact hk ((key_between e h3 h).trans (key_between e h1 h2).symm)

end Cert.Proof.Maths

end
-- ==== Proof.Maths.Base.lean ====
/- The word that the host code holds for the first row of an expert's block. -/

module

public import proofs.«01_k».proof.Proof.Maths.Ring

@[expose] public section

set_option maxRecDepth 16384

noncomputable section

namespace Cert.Proof.Maths

open Cert.KernelIdeal Cert.KernelIdeal.Gen Cert.Proof.Ring
open Idealize.ShloMosaic hiding ix1 ix2 ix3 eq_ix1 eq_ix2 eq_ix3
open Idealize.ShloMosaic.Routing Idealize.ShloMosaic.ValueIdx

variable {F : FTy → Type} [FloatOps F] (m : (ℓ : Loc nD τ sig) → Buf (Elt F) ℓ)

/-! ## Remainders -/

/-- A positive divisor is no corner of the signed division. -/
theorem remsi_32 (w : BitVec 32) : IntOp.remsi .host w 32#32 = w.srem 32#32 := if_neg (by unfold IntOp.SDivCorner; simp)

/-- The remainder with the divisor's sign, of `w` by 32. -/
def fmod (w : BitVec 32) : BitVec 32 :=
  Scalar.select (IntOp.andi (IntOp.cmpi .ne (IntOp.cmpi .slt (IntOp.remsi .host w 32#32) 0#32) (IntOp.cmpi .slt (32#32 : BitVec 32) 0#32)) (IntOp.cmpi .ne (IntOp.remsi .host w 32#32) 0#32)) (IntOp.remsi .host w 32#32 + 32#32) (IntOp.remsi .host w 32#32)

/-- The remainder by 32 of a difference of two ring positions, as a word. -/
theorem fmod_sub : ∀ p h : Fin 32, fmod (BitVec.ofNat 32 p.val - BitVec.ofNat 32 h.val) = BitVec.ofNat 32 ((p.val + h.val * 31) % 32) := by
  unfold fmod; simp only [remsi_32]; decide
/-- The remainder by 32 of a sum of two ring positions, as a word. -/
theorem fmod_add : ∀ p h : Fin 32, fmod (BitVec.ofNat 32 p.val + BitVec.ofNat 32 h.val) = BitVec.ofNat 32 ((p.val + h.val * 1) % 32) := by
  unfold fmod; simp only [remsi_32]; decide

/-! ## The devices up the ring -/

/-- The device's position along the ring. -/
theorem v9_read (c : Dev nD) : (V1 m c (Proc.devRef .tc main_v9) : S_.Idx → Elt F .i32) = fun _ => (BitVec.ofNat 32 (pos c).val : Elt F .i32) := by
  have key : (Host.remui (Host.divui (constantI S_ 32 (Dev.word c)) (constantI S_ 32 1#32)) (constantI S_ 32 32#32) : IVec S_ 32) = fun _ => BitVec.ofNat 32 c.val := by
    have := me_word1 m c
    unfold V1 at this
    refine Eq.trans ?_ this
    generalize V0 m c = V
    after_reads_simp
    rfl
  unfold V1
  generalize V0 m c = V
  after_reads_simp [StableHlo.unaryIndexed_result_read, StableHlo.indexContents_cons, StableHlo.indexContents_empty]
  rw [key]
  funext i
  exact (slice_tab lit1 _ c (select_me c) _).trans (lit1_pos c)

/-- The position less each hop. -/
theorem v12_read (c : Dev nD) : (V1 m c (Proc.devRef .tc main_v12) : S32.Idx → Elt F .i32) = fun i => (BitVec.ofNat 32 (pos c).val - BitVec.ofNat 32 (i 0).val : BitVec 32) := by
  have h : (V1 m c (Proc.devRef .tc main_v12) : S32.Idx → Elt F .i32)
      = subi (broadcastInDim S32 ![] bcast_S_S32 (V1 m c (Proc.devRef .tc main_v9) : IVec S_ 32)) (iotaInDim S32 32 0) := by
    unfold V1
    generalize V0 m c = V
    after_reads_simp
  rw [h, v9_read]
  rfl

/-- The hops, 0 to 31. -/
theorem v10_read (c : Dev nD) : (V1 m c (Proc.devRef .tc main_v10) : S32.Idx → Elt F .i32) = iotaInDim S32 32 0 := by
  unfold V1
  after_reads_simp

/-- The table of the ring's devices, by position. -/
theorem tab_read (c : Dev nD) : (V1 m c (Proc.devRef .tc main_c) : S32.Idx → Elt F .i32) = fun i => lit0 (S32.rowMajor i) := by
  unfold V1
  after_reads_simp
  rfl

/-- The positions `h` hops back, taken modulo 32. -/
theorem v13_read (c : Dev nD) : (V2 m c (Proc.devRef .tc main_v13) : S32.Idx → Elt F .i32) = fun i => fmod ((V1 m c (Proc.devRef .tc main_v12) : S32.Idx → Elt F .i32) i) := by
  have h : (V1 m c (Proc.devRef .tc main_c_7) : S_.Idx → Elt F .i32) = fun _ => (32#32 : BitVec 32) := by
    unfold V1
    after_reads_simp
    rfl
  unfold V2
  generalize V1 m c = V at h ⊢
  after_reads_simp
  rw [h]
  rfl

/-- The table of the cycle at a position. -/
theorem tab_at (a : Fin S32.numel) (b : Fin 32) (h : a.val = b.val) : lit0 a = BitVec.ofNat 32 (cyc b).val := by
  rw [show a = b from Fin.ext h]; exact lit0_cyc b

/-- The device whose matrices come `h` hops down in the first direction; -/
theorem v20_read (c : Dev nD) (h : Fin 32) : (V3 m c (Proc.devRef .tc main_v20) : S32.Idx → Elt F .i32) (ix1 h) = (BitVec.ofNat 32 (src false h.val c).val : BitVec 32) := by
  have h13 : (V2 m c (Proc.devRef .tc main_v13) : S32.Idx → Elt F .i32) (ix1 h) = (BitVec.ofNat 32 (((pos c).val + h.val * 31) % 32) : BitVec 32) := by
    rw [v13_read, v12_read]; exact fmod_sub _ _
  have ht : (V2 m c (Proc.devRef .tc main_c) : S32.Idx → Elt F .i32) = fun i => lit0 (S32.rowMajor i) := by
    rw [V2_of m c _ (by decide)]; exact tab_read m c
  unfold V3
  generalize V2 m c = V at h13 ht ⊢
  after_reads_simp
  rw [ht]
  have hb := Nat.mod_lt ((pos c).val + h.val * 31) (show 0 < 32 by decide)
  refine (gather_take1 (N := 32) (n := 32) gather_S32_S32x1_S32_n_0_n_n_0_1_1 rfl rfl rfl rfl _ _ h (⟨((pos c).val + h.val * 31) % 32, hb⟩ : Fin 32) ?_ (by decide)).trans ?_
  · refine (bcCol _ _ h).trans ?_
    show Scalar.select (IntOp.cmpi .slt _ _) _ _ = _
    rw [h13]
    exact fix_nat _ (by omega) _ _ rfl
  · exact (tab_at _ _ (Shape.rowMajor_val_one _)).trans (congrArg (fun x : Fin 32 => BitVec.ofNat 32 x.val) (src_eq false h.val c _ rfl))

/-- The position plus each hop. -/
theorem v22_read (c : Dev nD) : (V3 m c (Proc.devRef .tc main_v22) : S32.Idx → Elt F .i32) = fun i => (BitVec.ofNat 32 (pos c).val + BitVec.ofNat 32 (i 0).val : BitVec 32) := by
  have h9 : (V2 m c (Proc.devRef .tc main_v9) : S_.Idx → Elt F .i32) = fun _ => (BitVec.ofNat 32 (pos c).val : Elt F .i32) := by
    rw [V2_of m c _ (by decide)]; exact v9_read m c
  have h10 : (V2 m c (Proc.devRef .tc main_v10) : S32.Idx → Elt F .i32) = iotaInDim S32 32 0 := by
    rw [V2_of m c _ (by decide)]; exact v10_read m c
  unfold V3
  generalize V2 m c = V at h9 h10 ⊢
  after_reads_simp
  rw [h9, h10]
  rfl

/-- The positions `h` hops on, taken modulo 32. -/
theorem v23_read (c : Dev nD) : (V4 m c (Proc.devRef .tc main_v23) : S32.Idx → Elt F .i32) = fun i => fmod ((V3 m c (Proc.devRef .tc main_v22) : S32.Idx → Elt F .i32) i) := by
  have h : (V3 m c (Proc.devRef .tc main_c_10) : S_.Idx → Elt F .i32) = fun _ => (32#32 : BitVec 32) := by
    unfold V3
    after_reads_simp
    rfl
  unfold V4
  generalize V3 m c = V at h ⊢
  after_reads_simp
  rw [h]
  rfl

/-- and in the second. -/
theorem v30_read (c : Dev nD) (h : Fin 32) : (V5 m c (Proc.devRef .tc main_v30) : S32.Idx → Elt F .i32) (ix1 h) = (BitVec.ofNat 32 (src true h.val c).val : BitVec 32) := by
  have h13 : (V4 m c (Proc.devRef .tc main_v23) : S32.Idx → Elt F .i32) (ix1 h) = (BitVec.ofNat 32 (((pos c).val + h.val * 1) % 32) : BitVec 32) := by
    rw [v23_read, v22_read]; exact fmod_add _ _
  have ht : (V4 m c (Proc.devRef .tc main_c) : S32.Idx → Elt F .i32) = fun i => lit0 (S32.rowMajor i) := by
    rw [V4_of m c _ (by decide), V3_of m c _ (by decide), V2_of m c _ (by decide)]; exact tab_read m c
  unfold V5
  generalize V4 m c = V at h13 ht ⊢
  after_reads_simp
  rw [ht]
  have hb := Nat.mod_lt ((pos c).val + h.val * 1) (show 0 < 32 by decide)
  refine (gather_take1 (N := 32) (n := 32) gather_S32_S32x1_S32_n_0_n_n_0_1_1 rfl rfl rfl rfl _ _ h (⟨((pos c).val + h.val * 1) % 32, hb⟩ : Fin 32) ?_ (by decide)).trans ?_
  · refine (bcCol _ _ h).trans ?_
    show Scalar.select (IntOp.cmpi .slt _ _) _ _ = _
    rw [h13]
    exact fix_nat _ (by omega) _ _ rfl
  · exact (tab_at _ _ (Shape.rowMajor_val_one _)).trans (congrArg (fun x : Fin 32 => BitVec.ofNat 32 x.val) (src_eq true h.val c _ rfl))

/-! ## The experts' first rows -/

/-- The expert number that entry `i` of the first direction's list names; -/
def expA (c : Fin 32) (i : Fin 64) : Fin 128 := expOf c ⟨i.val, by omega⟩
/-- and of the second's. -/
def expB (c : Fin 32) (i : Fin 64) : Fin 128 := expOf c ⟨64 + i.val, by omega⟩

/-- The number of the expert of row block `i` of the first direction. -/
theorem expA_val (c : Fin 32) (i : Fin 64) : (expA c i).val = 4 * (src false (i.val / 2) c).val + i.val % 2 := by
  have h1 : dOf i.val = false := by unfold dOf; simp
  have h2 : hOf i.val = i.val / 2 := by unfold hOf; omega
  show 4 * (src (dOf i.val) (hOf i.val) c).val + cond (dOf i.val) 2 0 + i.val % 2 = _
  rw [h1, h2]; rfl
/-- The number of the expert of row block `64 + i`, of the second direction. -/
theorem expB_val (c : Fin 32) (i : Fin 64) : (expB c i).val = 4 * (src true (i.val / 2) c).val + 2 + i.val % 2 := by
  have h1 : dOf (64 + i.val) = true := by unfold dOf; simp
  have h2 : hOf (64 + i.val) = i.val / 2 := by unfold hOf; omega
  show 4 * (src (dOf (64 + i.val)) (hOf (64 + i.val)) c).val + cond (dOf (64 + i.val)) 2 0 + (64 + i.val) % 2 = _
  rw [h1, h2]
  show 4 * _ + 2 + _ = _
  omega

/-- The experts of the first direction's row blocks, as the host code lists them. -/
theorem v51_read (c : Dev nD) (i : Fin 64) : (V5 m c (Proc.devRef .tc main_v51) : S64.Idx → Elt F .i32) (ix1 i) = (BitVec.ofNat 32 (expA c i).val : BitVec 32) := by
  have hd : i.val / 2 < 32 := by omega
  have h20 : (V4 m c (Proc.devRef .tc main_v20) : S32.Idx → Elt F .i32) (ix1 (⟨i.val / 2, hd⟩ : Fin 32)) = (BitVec.ofNat 32 (src false (i.val / 2) c).val : BitVec 32) := by
    rw [V4_of m c _ (by decide)]; exact v20_read m c ⟨i.val / 2, hd⟩
  unfold V5
  generalize V4 m c = V at h20 ⊢
  after_reads_simp
  refine (cast21 (a := 32) (b := 2) (n := 64) _ _ (⟨i.val / 2, hd⟩ : Fin 32) (⟨i.val % 2, by omega⟩ : Fin 2) i (by show i.val = i.val / 2 * 2 + i.val % 2; omega)).trans ?_
  show (4#32 : BitVec 32) * (V (Proc.devRef .tc main_v20) : S32.Idx → Elt F .i32) _ + BitVec.ofNat 32 (i.val % 2) = _
  rw [expA_val, BitVec.ofNat_add, BitVec.ofNat_mul]
  refine congrArg (fun w => 4#32 * w + _) (Eq.trans (congrArg _ ?_) h20)
  funext a
  match a with
  | ⟨0, _⟩ => rfl

/-- The experts of the second direction's row blocks, as the host code lists them. -/
theorem v61_read (c : Dev nD) (i : Fin 64) : (V5 m c (Proc.devRef .tc main_v61) : S64.Idx → Elt F .i32) (ix1 i) = (BitVec.ofNat 32 (expB c i).val : BitVec 32) := by
  have hd : i.val / 2 < 32 := by omega
  have h30 := v30_read m c ⟨i.val / 2, hd⟩
  have h : (V5 m c (Proc.devRef .tc main_v61) : S64.Idx → Elt F .i32)
      = shapeCast S64 (addi (broadcastInDim S32x2 ![0, 1] bcast_S32x1_S32x2_0_1 (addi (muli (broadcastInDim S32x1 ![] bcast_S_S32x1 (constantI S_ 32 4#32))
          (broadcastInDim S32x1 ![0] bcast_S32_S32x1_0 (V5 m c (Proc.devRef .tc main_v30) : IVec S32 32))) (broadcastInDim S32x1 ![] bcast_S_S32x1 (constantI S_ 32 2#32))))
          (broadcastInDim S32x2 ![0, 1] bcast_S1x2_S32x2_0_1 (broadcastInDim S1x2 ![1] bcast_S2_S1x2_1 (iotaInDim S2 32 0)))) shapeCasts_S32x2_S64 := by
    unfold V5
    generalize V4 m c = V
    after_reads_simp
    rfl
  rw [h]
  generalize (V5 m c (Proc.devRef .tc main_v30) : IVec S32 32) = X at h30 ⊢
  refine (cast21 (a := 32) (b := 2) (n := 64) _ _ (⟨i.val / 2, hd⟩ : Fin 32) (⟨i.val % 2, by omega⟩ : Fin 2) i (by show i.val = i.val / 2 * 2 + i.val % 2; omega)).trans ?_
  show (4#32 : BitVec 32) * X _ + 2#32 + BitVec.ofNat 32 (i.val % 2) = _
  rw [expB_val, BitVec.ofNat_add, BitVec.ofNat_add, BitVec.ofNat_mul]
  refine congrArg (fun w => 4#32 * w + 2#32 + BitVec.ofNat 32 (i.val % 2)) (Eq.trans (congrArg X ?_) h30)
  funext a
  match a with
  | ⟨0, _⟩ => rfl

/-- The first row of each row block. -/
theorem v71_read (c : Dev nD) (i : Fin 64) : (V5 m c (Proc.devRef .tc main_v71) : S64.Idx → Elt F .i32) (ix1 i) = (BitVec.ofNat 32 (64 * i.val) : BitVec 32) := by
  have hd : i.val / 2 < 32 := by omega
  have h10 : (V4 m c (Proc.devRef .tc main_v10) : S32.Idx → Elt F .i32) = iotaInDim S32 32 0 := by
    rw [V4_of m c _ (by decide), V3_of m c _ (by decide), V2_of m c _ (by decide)]; exact v10_read m c
  unfold V5
  generalize V4 m c = V at h10 ⊢
  after_reads_simp
  rw [h10]
  refine (cast21 (a := 32) (b := 2) (n := 64) _ _ (⟨i.val / 2, hd⟩ : Fin 32) (⟨i.val % 2, by omega⟩ : Fin 2) i (by show i.val = i.val / 2 * 2 + i.val % 2; omega)).trans ?_
  show (2#32 * BitVec.ofNat 32 (i.val / 2) + BitVec.ofNat 32 (i.val % 2)) * 64#32 = _
  revert i; decide

/-- The first row of the block of the expert that the block belongs to. -/
theorem v88_read (c : Dev nD) (b : Fin 128) : (V5 m c (Proc.devRef .tc main_v88) : S128.Idx → Elt F .i32) (ix1 (expOf c b)) = (BitVec.ofNat 32 (64 * b.val) : BitVec 32) := by
  have h51 := v51_read m c
  have h61 := v61_read m c
  have h71 := v71_read m c
  have h : (V5 m c (Proc.devRef .tc main_v88) : S128.Idx → Elt F .i32)
      = Host.scatter scatter_S128_S64x1_S64_n_0_0_1 (fun _ b => b)
          (Host.scatter scatter_S128_S64x1_S64_n_0_0_1 (fun _ b => b) (broadcastInDim S128 ![] bcast_S_S128 (constantI S_ 32 0#32))
            (broadcastInDim S64x1 ![0] bcast_S64_S64x1_0 (V5 m c (Proc.devRef .tc main_v77) : IVec S64 32)) (V5 m c (Proc.devRef .tc main_v71) : IVec S64 32))
          (broadcastInDim S64x1 ![0] bcast_S64_S64x1_0 (V5 m c (Proc.devRef .tc main_v86) : IVec S64 32)) (V5 m c (Proc.devRef .tc main_v81) : IVec S64 32) := by
    unfold V5
    generalize V4 m c = V
    after_reads_simp
  have h77 : ∀ i : Fin 64, (V5 m c (Proc.devRef .tc main_v77) : S64.Idx → Elt F .i32) (ix1 i) = (BitVec.ofNat 32 (expA c i).val : BitVec 32) := fun i => by
    have : (V5 m c (Proc.devRef .tc main_v77) : S64.Idx → Elt F .i32) (ix1 i)
        = Scalar.select (IntOp.cmpi .slt ((V5 m c (Proc.devRef .tc main_v51) : S64.Idx → Elt F .i32) (ix1 i)) 0#32) ((V5 m c (Proc.devRef .tc main_v76) : S64.Idx → Elt F .i32) (ix1 i))
          ((V5 m c (Proc.devRef .tc main_v51) : S64.Idx → Elt F .i32) (ix1 i)) := by
      unfold V5
      generalize V4 m c = V
      after_reads_simp
      rfl
    rw [this, h51]
    exact fix_nat _ (by have := (expA c i).isLt; omega) _ _ rfl
  have h86 : ∀ i : Fin 64, (V5 m c (Proc.devRef .tc main_v86) : S64.Idx → Elt F .i32) (ix1 i) = (BitVec.ofNat 32 (expB c i).val : BitVec 32) := fun i => by
    have : (V5 m c (Proc.devRef .tc main_v86) : S64.Idx → Elt F .i32) (ix1 i)
        = Scalar.select (IntOp.cmpi .slt ((V5 m c (Proc.devRef .tc main_v61) : S64.Idx → Elt F .i32) (ix1 i)) 0#32) ((V5 m c (Proc.devRef .tc main_v85) : S64.Idx → Elt F .i32) (ix1 i))
          ((V5 m c (Proc.devRef .tc main_v61) : S64.Idx → Elt F .i32) (ix1 i)) := by
      unfold V5
      generalize V4 m c = V
      after_reads_simp
      rfl
    rw [this, h61]
    exact fix_nat _ (by have := (expB c i).isLt; omega) _ _ rfl
  have h81 : ∀ i : Fin 64, (V5 m c (Proc.devRef .tc main_v81) : S64.Idx → Elt F .i32) (ix1 i) = (BitVec.ofNat 32 (4096 + 64 * i.val) : BitVec 32) := fun i => by
    have : (V5 m c (Proc.devRef .tc main_v81) : S64.Idx → Elt F .i32) (ix1 i) = (4096#32 : BitVec 32) + (V5 m c (Proc.devRef .tc main_v71) : S64.Idx → Elt F .i32) (ix1 i) := by
      unfold V5
      generalize V4 m c = V
      after_reads_simp
      rfl
    rw [this, h71, BitVec.ofNat_add]
  rw [h]
  have hA : ∀ i : Fin 64, expA c i = expOf c ⟨i.val, by omega⟩ := fun _ => rfl
  by_cases hb : b.val < 64
  · rw [scatter_base_miss _ _ _ (expB c) (fun i => (bcCol _ _ i).trans (h86 i)) _ (fun i hi => by
      have := congrArg Fin.val (expOf_inj c hi)
      change 64 + i.val = b.val at this
      omega)]
    refine (scatter_base_hit _ _ _ (expA c) (fun i j hij => Fin.ext (by have := congrArg Fin.val (expOf_inj c hij); exact this)) (fun i => (bcCol _ _ i).trans (h77 i)) (⟨b.val, hb⟩ : Fin 64)).trans ?_
    rw [h71]
  · refine Eq.trans (congrArg (fun x => Host.scatter _ _ _ _ _ (ix1 x)) (show expOf c b = expB c ⟨b.val - 64, by omega⟩ from congrArg (expOf c) (Fin.ext (show b.val = 64 + (b.val - 64) by omega)))) ?_
    refine (scatter_base_hit _ _ _ (expB c) (fun i j hij => Fin.ext (by have := congrArg Fin.val (expOf_inj c hij); change 64 + i.val = 64 + j.val at this; omega))
      (fun i => (bcCol _ _ i).trans (h86 i)) _).trans ?_
    rw [h81]
    exact congrArg (BitVec.ofNat 32) (show 4096 + 64 * (b.val - 64) = 64 * b.val by omega)

end Cert.Proof.Maths

end
-- ==== Proof.Maths.Pairs.lean ====
/- The pairs in the order of their experts, as the host code holds them. -/

module

public import proofs.«01_k».proof.Proof.Maths.Base

@[expose] public section

set_option maxRecDepth 16384

noncomputable section

namespace Cert.Proof.Maths

open Cert.KernelIdeal Cert.KernelIdeal.Gen Cert.Proof.Ring
open Idealize.ShloMosaic hiding ix1 ix2 ix3 eq_ix1 eq_ix2 eq_ix3
open Idealize.ShloMosaic.Routing Idealize.ShloMosaic.ValueIdx

variable {F : FTy → Type} [FloatOps F] (m : (ℓ : Loc nD τ sig) → Buf (Elt F) ℓ) (c : Dev nD) (e : Fin 4096 → Fin 128)

/-! ## The pairs -/

/-- The token of a pair; -/
def tok (p : Fin 4096) : Fin 2048 := ⟨p.val / 2, by omega⟩
/-- and which of its token's two it is. -/
def ch (p : Fin 4096) : Fin 2 := ⟨p.val % 2, by omega⟩

/-- The route words name the experts `e`. -/
def Routes : Prop := ∀ p : Fin 4096, (m ((c.tc : Thread nD τ).loc main_arg2) : S2048x2.Idx → Elt F .i32) (ix2 (tok p) (ch p)) = (BitVec.ofNat 32 (e p).val : BitVec 32)

/-- The flattened routing holds the expert of each pair. -/
theorem v106_read (hE : Routes m c e) (p : Fin 4096) : (V7 m c (Proc.devRef .tc main_v106) : S4096.Idx → Elt F .i32) (ix1 p) = (BitVec.ofNat 32 (e p).val : BitVec 32) := by
  have h2 : (V6 m c (Proc.devRef .tc main_arg2) : S2048x2.Idx → Elt F .i32) = m ((c.tc : Thread nD τ).loc main_arg2) := by
    rw [V6_of m c _ (by decide), V5_of m c _ (by decide), V4_of m c _ (by decide), V3_of m c _ (by decide), V2_of m c _ (by decide), V1_of m c _ (by decide)]
  have hp := hE p
  rw [← h2] at hp
  unfold V7
  generalize V6 m c = V at hp ⊢
  after_reads_simp
  refine (cast21 (a := 2048) (b := 2) (n := 4096) _ _ (tok p) (ch p) p (by show p.val = p.val / 2 * 2 + p.val % 2; omega)).trans hp

/-- The token of each pair. -/
theorem v109_read (p : Fin 4096) : (V7 m c (Proc.devRef .tc main_v109) : S4096.Idx → Elt F .i32) (ix1 p) = (BitVec.ofNat 32 (tok p).val : BitVec 32) := by
  unfold V7
  generalize V6 m c = V
  after_reads_simp
  refine (cast21 (a := 2048) (b := 2) (n := 4096) _ _ (tok p) (ch p) p (by show p.val = p.val / 2 * 2 + p.val % 2; omega)).trans rfl

/-- The gate of each pair is the entry of the matrix of gates at its token and choice. -/
theorem v110_read (p : Fin 4096) : (V7 m c (Proc.devRef .tc main_v110) : S4096.Idx → Elt F .f32) (ix1 p) = (V7 m c (Proc.devRef .tc main_v105) : S2048x2.Idx → Elt F .f32) (ix2 (tok p) (ch p)) := by
  have h : (V7 m c (Proc.devRef .tc main_v110) : S4096.Idx → Elt F .f32) = shapeCast S4096 (V7 m c (Proc.devRef .tc main_v105) : S2048x2.Idx → Elt F .f32) shapeCasts_S2048x2_S4096 := by
    unfold V7
    generalize V6 m c = V
    after_reads_simp
    rfl
  rw [h]
  exact cast21 (a := 2048) (b := 2) (n := 4096) _ _ (tok p) (ch p) p (by show p.val = p.val / 2 * 2 + p.val % 2; omega)

/-! ## The sorted order -/

/-- The sorting permutation of the pairs. -/
theorem v111_read (hE : Routes m c e) (q : Fin 4096) : (V8 m c (Proc.devRef .tc main_v111) : S4096.Idx → Elt F .i32) (ix1 q) = (BitVec.ofNat 32 (ord e q).val : BitVec 32) := by
  have h := v106_read m c e hE
  unfold V8
  generalize V7 m c = V at h ⊢
  after_reads_simp
  exact sort_read e _ h q

/-- A column of indices, corrected for negative ones, read where the index is the word of a small number. -/
theorem col_read {n : ℕ} (h₁ : (shape1 n).BroadcastsInDim (shape2 n 1) (![0] : Fin 1 → Fin (shape2 n 1).rank)) (x z y : IVec (shape1 n) 32) (q : Fin n) (b : ℕ) (hb : b < 2 ^ 31)
    (hx : x (ix1 q) = BitVec.ofNat 32 b) (hz : z (ix1 q) = 0#32) :
    broadcastInDim (shape2 n 1) ![0] h₁ (select (cmpi .slt x z) y x) (ix2 q (0 : Fin 1)) = BitVec.ofNat 32 b := by
  refine (bcCol _ _ q).trans ?_
  show Scalar.select (IntOp.cmpi .slt (x (ix1 q)) (z (ix1 q))) (y (ix1 q)) (x (ix1 q)) = _
  rw [hx]
  exact fix_nat _ hb _ _ hz

/-- The experts in sorted order. -/
theorem v118_read (hE : Routes m c e) (q : Fin 4096) : (V9 m c (Proc.devRef .tc main_v118) : S4096.Idx → Elt F .i32) (ix1 q) = (BitVec.ofNat 32 (key e q).val : BitVec 32) := by
  have h := v111_read m c e hE q
  have h6 : (V8 m c (Proc.devRef .tc main_v106) : S4096.Idx → Elt F .i32) (ix1 (ord e q)) = (BitVec.ofNat 32 (key e q).val : BitVec 32) := by
    rw [V8_of m c _ (by decide)]; exact v106_read m c e hE _
  unfold V9
  generalize V8 m c = V at h h6 ⊢
  after_reads_simp
  refine (gather_take1 (N := 4096) (n := 4096) gather_S4096_S4096x1_S4096_n_0_n_n_0_1_1 rfl rfl rfl rfl _ _ q (ord e q) ?_ (by decide)).trans h6
  exact col_read _ _ _ _ q _ (by have := (ord e q).isLt; omega) h rfl

/-- The tokens in sorted order. -/
theorem v125_read (hE : Routes m c e) (q : Fin 4096) : (V9 m c (Proc.devRef .tc main_v125) : S4096.Idx → Elt F .i32) (ix1 q) = (BitVec.ofNat 32 (tok (ord e q)).val : BitVec 32) := by
  have h := v111_read m c e hE q
  have h6 : (V8 m c (Proc.devRef .tc main_v109) : S4096.Idx → Elt F .i32) (ix1 (ord e q)) = (BitVec.ofNat 32 (tok (ord e q)).val : BitVec 32) := by
    rw [V8_of m c _ (by decide)]; exact v109_read m c _
  unfold V9
  generalize V8 m c = V at h h6 ⊢
  after_reads_simp
  refine (gather_take1 (N := 4096) (n := 4096) gather_S4096_S4096x1_S4096_n_0_n_n_0_1_1 rfl rfl rfl rfl _ _ q (ord e q) ?_ (by decide)).trans h6
  exact col_read _ _ _ _ q _ (by have := (ord e q).isLt; omega) h rfl

/-- The gates in sorted order. -/
theorem v132_read (hE : Routes m c e) (q : Fin 4096) : (V9 m c (Proc.devRef .tc main_v132) : S4096.Idx → Elt F .f32) (ix1 q)
    = (V7 m c (Proc.devRef .tc main_v105) : S2048x2.Idx → Elt F .f32) (ix2 (tok (ord e q)) (ch (ord e q))) := by
  have h := v111_read m c e hE q
  have h6 : (V8 m c (Proc.devRef .tc main_v110) : S4096.Idx → Elt F .f32) (ix1 (ord e q)) = _ :=
    (congrFun (V8_of m c main_v110 (by decide)) (ix1 (ord e q))).trans (v110_read m c (ord e q))
  refine Eq.trans ?_ h6
  clear h6
  unfold V9
  generalize V8 m c = V at h ⊢
  after_reads_simp
  refine gather_take1 (N := 4096) (n := 4096) gather_S4096_S4096x1_S4096_n_0_n_n_0_1_1 rfl rfl rfl rfl _ _ q (ord e q) ?_ (by decide)
  exact col_read _ _ _ _ q _ (by have := (ord e q).isLt; omega) h rfl

/-- The places, 0 to 4095. -/
theorem v133_read : (V9 m c (Proc.devRef .tc main_v133) : S4096.Idx → Elt F .i32) = iotaInDim S4096 32 0 := by
  unfold V9
  generalize V8 m c = V
  after_reads_simp

/-- Comparing the words of two experts. -/
theorem ne_nat (a b : Fin 128) : IntOp.cmpi .ne (BitVec.ofNat 32 a.val) (BitVec.ofNat 32 b.val) = BitVec.ofBool (decide (a ≠ b)) := by
  revert a b; decide

/-- Whether a place is the first of its expert. -/
theorem v138_read (hE : Routes m c e) (q : Fin 4096) : (V9 m c (Proc.devRef .tc main_v138) : S4096.Idx → Elt F .i1) (ix1 q)
    = (if h : q.val = 0 then 1#1 else BitVec.ofBool (decide (key e q ≠ key e ⟨q.val - 1, by omega⟩)) : BitVec 1) := by
  have h118 := v118_read m c e hE
  have h : (V9 m c (Proc.devRef .tc main_v138) : S4096.Idx → Elt F .i1)
      = concatenate S4096 0 [⟨S1, broadcastInDim S1 ![] bcast_S_S1 (constantI S_ 1 1#1)⟩,
          ⟨S4095, cmpi .ne (extractStridedSlice S4095 ![1] (V9 m c (Proc.devRef .tc main_v118) : IVec S4096 32) slices_S4096_S4095_1)
            (extractStridedSlice S4095 ![0] (V9 m c (Proc.devRef .tc main_v118) : IVec S4096 32) slices_S4096_S4095_0)⟩] concatenates_S1_S4095_S4096_d0 := by
    unfold V9
    generalize V8 m c = V
    after_reads_simp
    rfl
  rw [h]
  generalize (V9 m c (Proc.devRef .tc main_v118) : IVec S4096 32) = X at h118 ⊢
  split
  · rename_i h0
    refine (concatenate_pair_apply_left (t := S4096) (s₁ := S1) (s₂ := S4095) 0 _ _ _ (ix1 q) rfl (ix1 (0 : Fin 1)) fun b => ?_).trans rfl
    match b with
    | ⟨0, _⟩ => exact h0.symm
  · rename_i h0
    have hlt : q.val - 1 < 4095 := by omega
    refine (concatenate_pair_apply_right (t := S4096) (s₁ := S1) (s₂ := S4095) 0 _ _ _ (ix1 q) rfl rfl (ix1 (⟨q.val - 1, hlt⟩ : Fin 4095)) (fun b hb => ?_) ?_).trans ?_
    · match b with
      | ⟨0, _⟩ => exact absurd rfl hb
    · show q.val - 1 + 1 = q.val
      omega
    · refine (congrArg₂ (IntOp.cmpi .ne) ((slice1 (m := 4096) (n := 4095) 1 X _ ⟨q.val - 1, hlt⟩ (by show 1 + (q.val - 1) < 4096; omega)).trans ?_)
        ((slice1 (m := 4096) (n := 4095) 0 X _ ⟨q.val - 1, hlt⟩ (by show 0 + (q.val - 1) < 4096; omega)).trans ?_)).trans (ne_nat _ _)
      · exact (congrArg (fun r => X (ix1 r)) (Fin.ext (show 1 + (q.val - 1) = q.val by omega))).trans (h118 q)
      · exact (congrArg (fun r => X (ix1 r)) (Fin.ext (show 0 + (q.val - 1) = q.val - 1 by omega))).trans (h118 ⟨q.val - 1, by omega⟩)

/-- The place itself where it is the first of its expert, and 0 elsewhere. -/
theorem v139_read (hE : Routes m c e) (q : Fin 4096) : (V10 m c (Proc.devRef .tc main_v139) : S4096.Idx → Elt F .i32) (ix1 q) = (BitVec.ofNat 32 (flag e q) : BitVec 32) := by
  have h := v138_read m c e hE q
  have h3 := v133_read m c
  have hc : (V9 m c (Proc.devRef .tc main_c_38) : S_.Idx → Elt F .i32) = constantI S_ 32 0#32 := by
    unfold V9
    generalize V8 m c = V
    after_reads_simp
  unfold V10
  generalize V9 m c = V at h h3 hc ⊢
  after_reads_simp
  show Scalar.select ((V (Proc.devRef .tc main_v138) : S4096.Idx → Elt F .i1) (ix1 q)) ((V (Proc.devRef .tc main_v133) : S4096.Idx → Elt F .i32) (ix1 q)) ((V (Proc.devRef .tc main_c_38) : S_.Idx → Elt F .i32) _) = _
  rw [h, h3, hc]
  show Scalar.select _ (BitVec.ofNat 32 q.val) 0#32 = _
  unfold flag
  split
  · rename_i h0
    rw [h0]; rfl
  · by_cases hk : key e q = key e ⟨q.val - 1, by omega⟩
    · rw [if_pos hk, decide_eq_false (not_not.mpr hk)]; rfl
    · rw [if_neg hk, decide_eq_true hk]; rfl

attribute [local irreducible] Host.reduceWindow in
/-- The first place of each place's expert: the running maximum of the flags. -/
theorem v140_read (hE : Routes m c e) (q : Fin 4096) : (V11 m c (Proc.devRef .tc main_v140) : S4096.Idx → Elt F .i32) (ix1 q) = (BitVec.ofNat 32 (st e q).val : BitVec 32) := by
  have h := v139_read m c e hE
  have hst : (V10 m c (Proc.devRef .tc main_v139) : S4096.Idx → Elt F .i32) (ix1 (st e q)) = (BitVec.ofNat 32 (st e q).val : BitVec 32) := by rw [h, flag_st]
  have hs := (st e q).isLt
  have hV : (V11 m c (Proc.devRef .tc main_v140) : S4096.Idx → Elt F .i32) = Host.reduceWindow IntOp.maxsi ![4096] ![1] ![4095] ![0] (V10 m c (Proc.devRef .tc main_v139) : S4096.Idx → Elt F .i32)
      (broadcastInDim S_ ![] bcast_S_S_ (constantI S_ 32 2147483648#32)) reduceWindows_S4096_S4096_w4096s1p4095_0 h_S_ := by
    unfold V11
    generalize V10 m c = V
    after_reads_simp
    rfl
  rw [hV]
  generalize (V10 m c (Proc.devRef .tc main_v139) : S4096.Idx → Elt F .i32) = X at h hst ⊢
  refine (cummax_read _ _ _ _ q (st e q) (st_le e rfl) (fun r hr => ?_) (fun i => ?_)).trans hst
  · refine le_of_eq_of_le (congrArg BitVec.toInt (h r)) (le_of_le_of_eq ?_ (congrArg BitVec.toInt hst).symm)
    have := flag_le e hr
    rw [toInt_nat _ (by omega), toInt_nat _ (by omega)]
    omega
  · refine le_of_le_of_eq ?_ (congrArg BitVec.toInt hst).symm
    rw [toInt_nat _ (by omega)]
    show (2147483648#32 : BitVec 32).toInt ≤ _
    rw [show (2147483648#32 : BitVec 32).toInt = -2147483648 by decide]
    omega

/-! ## The row of each pair -/

/-- The difference of two words of small numbers. -/
theorem sub_nat (a b : ℕ) (h : b ≤ a) (ha : a < 2 ^ 31) : (BitVec.ofNat 32 a : BitVec 32) - BitVec.ofNat 32 b = BitVec.ofNat 32 (a - b) := by
  apply BitVec.eq_of_toNat_eq
  rw [BitVec.toNat_sub, BitVec.toNat_ofNat, BitVec.toNat_ofNat, BitVec.toNat_ofNat]
  omega

/-- Their sum. -/
theorem add_nat (a b : ℕ) : (BitVec.ofNat 32 a : BitVec 32) + BitVec.ofNat 32 b = BitVec.ofNat 32 (a + b) := by
  apply BitVec.eq_of_toNat_eq
  rw [BitVec.toNat_add, BitVec.toNat_ofNat, BitVec.toNat_ofNat, BitVec.toNat_ofNat]
  omega

/-- Before the rank's test the host code holds the row of each pair: where its expert's blocks start and how many came before. -/
theorem v151_read (hE : Routes m c e) (hcnt : ∀ x : Fin 128, (Finset.univ.filter fun p => e p = x).card ≤ 64) (q : Fin 4096) :
    (V12 m c (Proc.devRef .tc main_v151) : S4096.Idx → Elt F .i32) (ix1 q) = (BitVec.ofNat 32 (slot e hcnt c q).val : BitVec 32)
    ∧ (V12 m c (Proc.devRef .tc main_v143) : S4096.Idx → Elt F .i1) (ix1 q) = (1#1 : BitVec 1) := by
  have h140 := v140_read m c e hE q
  have h133 : (V11 m c (Proc.devRef .tc main_v133) : S4096.Idx → Elt F .i32) = iotaInDim S4096 32 0 := by
    rw [V11_of m c _ (by decide), V10_of m c _ (by decide)]; exact v133_read m c
  have h118 : (V11 m c (Proc.devRef .tc main_v118) : S4096.Idx → Elt F .i32) (ix1 q) = (BitVec.ofNat 32 (key e q).val : BitVec 32) := by
    rw [V11_of m c _ (by decide), V10_of m c _ (by decide)]; exact v118_read m c e hE q
  have h88 : (V11 m c (Proc.devRef .tc main_v88) : S128.Idx → Elt F .i32) (ix1 (key e q)) = (BitVec.ofNat 32 (64 * (blk c (key e q)).val) : BitVec 32) := by
    rw [V11_of m c _ (by decide), V10_of m c _ (by decide), V9_of m c _ (by decide), V8_of m c _ (by decide), V7_of m c _ (by decide), V6_of m c _ (by decide)]
    have h := v88_read m c (blk c (key e q))
    rw [expOf_blk] at h
    exact h
  have hr := rank_lt e hcnt q
  have hs : (st e q) ≤ q := st_le e rfl
  have hd : (BitVec.ofNat 32 q.val : BitVec 32) - BitVec.ofNat 32 (st e q).val = BitVec.ofNat 32 (rank e q) := sub_nat _ _ hs (by omega)
  unfold V12
  generalize V11 m c = V at h140 h133 h118 h88 ⊢
  have h141 : subi (V (Proc.devRef .tc main_v133) : IVec S4096 32) (V (Proc.devRef .tc main_v140)) (ix1 q) = BitVec.ofNat 32 (rank e q) := by
    refine Eq.trans (congrArg₂ (fun a b : BitVec 32 => a - b) (congrFun h133 (ix1 q)) h140) hd
  constructor
  · after_reads_simp
    refine (congrArg₂ (fun a b : BitVec 32 => a + b) ?_ h141).trans (add_nat _ _)
    refine (gather_take1 (N := 128) (n := 4096) gather_S128_S4096x1_S4096_n_0_n_n_0_1_1 rfl rfl rfl rfl _ _ q (key e q) ?_ (by decide)).trans h88
    exact col_read _ _ _ _ q _ (by have := (key e q).isLt; omega) h118 rfl
  · after_reads_simp
    refine (congrArg (fun a : BitVec 32 => IntOp.cmpi .slt a 64#32) h141).trans ?_
    refine (slt_nat (rank e q) 64 (by omega) (by omega)).trans ?_
    rw [decide_eq_true hr]
    rfl

/-- The host code's row of each pair. -/
theorem v152_read (hE : Routes m c e) (hcnt : ∀ x : Fin 128, (Finset.univ.filter fun p => e p = x).card ≤ 64) (q : Fin 4096) :
    (V13 m c (Proc.devRef .tc main_v152) : S4096.Idx → Elt F .i32) (ix1 q) = (BitVec.ofNat 32 (slot e hcnt c q).val : BitVec 32) := by
  have h := v151_read m c e hE hcnt q
  unfold V13
  generalize V12 m c = V at h ⊢
  after_reads_simp
  show Scalar.select ((V (Proc.devRef .tc main_v143) : S4096.Idx → Elt F .i1) (ix1 q)) ((V (Proc.devRef .tc main_v151) : S4096.Idx → Elt F .i32) (ix1 q)) _ = _
  rw [h.2, h.1]
  rfl

/-- The rows as a column of indices. -/
theorem v170_read (hE : Routes m c e) (hcnt : ∀ x : Fin 128, (Finset.univ.filter fun p => e p = x).card ≤ 64) (q : Fin 4096) :
    (V14 m c (Proc.devRef .tc main_v170) : S4096x1.Idx → Elt F .i32) (ix2 q (0 : Fin 1)) = (BitVec.ofNat 32 (slot e hcnt c q).val : BitVec 32) := by
  have h := v152_read m c e hE hcnt q
  unfold V14
  generalize V13 m c = V at h ⊢
  after_reads_simp
  exact col_read _ _ _ _ q _ (by have := (slot e hcnt c q).isLt; omega) h rfl

/-- The scaled token row of each pair, in its expert's order. -/
theorem v164_read (hE : Routes m c e) (q : Fin 4096) (k : Fin 512) :
    (V14 m c (Proc.devRef .tc main_v164) : S4096x512.Idx → Elt F .bf16) (ix2 q k)
      = FloatOps.truncf .bf16 (by decide : FTy.bf16.bits < FTy.f32.bits) (FloatOps.mulf (φ := .f32) ((m ((c.tc : Thread nD τ).loc main_arg0) : S2048x512.Idx → Elt F .f32) (ix2 (tok (ord e q)) k))
          ((V7 m c (Proc.devRef .tc main_v105) : S2048x2.Idx → Elt F .f32) (ix2 (tok (ord e q)) (ch (ord e q))))) := by
  have h0 : (V13 m c (Proc.devRef .tc main_arg0) : S2048x512.Idx → Elt F .f32) = m ((c.tc : Thread nD τ).loc main_arg0) := by
    rw [V13_of m c _ (by decide), V12_of m c _ (by decide), V11_of m c _ (by decide), V10_of m c _ (by decide), V9_of m c _ (by decide), V8_of m c _ (by decide), V7_of m c _ (by decide),
      V6_of m c _ (by decide), V5_of m c _ (by decide), V4_of m c _ (by decide), V3_of m c _ (by decide), V2_of m c _ (by decide), V1_of m c _ (by decide)]
  have h125 : (V13 m c (Proc.devRef .tc main_v125) : S4096.Idx → Elt F .i32) (ix1 q) = (BitVec.ofNat 32 (tok (ord e q)).val : BitVec 32) := by
    rw [V13_of m c _ (by decide), V12_of m c _ (by decide), V11_of m c _ (by decide), V10_of m c _ (by decide)]; exact v125_read m c e hE q
  have h132 : (V13 m c (Proc.devRef .tc main_v132) : S4096.Idx → Elt F .f32) (ix1 q) = (V7 m c (Proc.devRef .tc main_v105) : S2048x2.Idx → Elt F .f32) (ix2 (tok (ord e q)) (ch (ord e q))) := by
    rw [V13_of m c _ (by decide), V12_of m c _ (by decide), V11_of m c _ (by decide), V10_of m c _ (by decide)]; exact v132_read m c e hE q
  rw [← h0, ← h132]
  clear h0 h132
  unfold V14
  generalize V13 m c = V at h125 ⊢
  after_reads_simp
  refine congrArg (FloatOps.truncf .bf16 _) (congrArg₂ (FloatOps.mulf (φ := .f32)) ?_ ?_)
  · refine gather_row (nb := 2048) (n := 4096) (B := 512) gather_S2048x512_S4096x1_S4096x512_1_0_n_n_0_1_1512 rfl rfl rfl rfl rfl _ _ q k (tok (ord e q)) ?_ (by decide)
    exact col_read _ _ _ _ q _ (by have := (tok (ord e q)).isLt; omega) h125 rfl
  · exact bcRows _ _ _ q k

/-- What the region is given: at the row of each pair its scaled token row. -/
theorem v171_read (hE : Routes m c e) (hcnt : ∀ x : Fin 128, (Finset.univ.filter fun p => e p = x).card ≤ 64) (q : Fin 4096) (k : Fin 512) :
    (V14 m c (Proc.devRef .tc main_v171) : S8192x512.Idx → Elt F .bf16) (ix2 (slot e hcnt c q) k) = (V14 m c (Proc.devRef .tc main_v164) : S4096x512.Idx → Elt F .bf16) (ix2 q k) := by
  have h := v170_read m c e hE hcnt
  have hV : (V14 m c (Proc.devRef .tc main_v171) : S8192x512.Idx → Elt F .bf16) = Host.scatter scatter_S8192x512_S4096x1_S4096x512_1_0_0_1 (fun _ b => b) (V14 m c (Proc.devRef .tc main_v153) : S8192x512.Idx → Elt F .bf16)
      (V14 m c (Proc.devRef .tc main_v170) : IVec S4096x1 32) (V14 m c (Proc.devRef .tc main_v164) : S4096x512.Idx → Elt F .bf16) := by
    unfold V14
    generalize V13 m c = V
    after_reads_simp
    rfl
  rw [hV]
  generalize V14 m c = V at h ⊢
  exact scatter_rows_hit _ _ _ (slot e hcnt c) (slot_inj e hcnt c) h q k

/-- The experts' weights as the region is given them. -/
theorem v172_read (i : S4x512x1024.Idx) :
    (V14 m c (Proc.devRef .tc main_v172) : S4x512x1024.Idx → Elt F .bf16) i = FloatOps.truncf .bf16 (by decide : FTy.bf16.bits < FTy.f32.bits) ((m ((c.tc : Thread nD τ).loc main_arg3) : S4x512x1024.Idx → Elt F .f32) i) := by
  have h0 : (V13 m c (Proc.devRef .tc main_arg3) : S4x512x1024.Idx → Elt F .f32) = m ((c.tc : Thread nD τ).loc main_arg3) := by
    rw [V13_of m c _ (by decide), V12_of m c _ (by decide), V11_of m c _ (by decide), V10_of m c _ (by decide), V9_of m c _ (by decide), V8_of m c _ (by decide), V7_of m c _ (by decide),
      V6_of m c _ (by decide), V5_of m c _ (by decide), V4_of m c _ (by decide), V3_of m c _ (by decide), V2_of m c _ (by decide), V1_of m c _ (by decide)]
  rw [← h0]
  clear h0
  unfold V14
  generalize V13 m c = V
  after_reads_simp
  rfl

end Cert.Proof.Maths

end
-- ==== Proof.Maths.Given.lean ====
/- What the precondition gives. -/

module

public import proofs.«01_k».proof.Proof.Maths.Pairs
public import proofs.«01_k».proof.Defs
public import Idealize.ShloMosaic.Lib.WordCmp
public import Idealize.ShloMosaic.Lib.StableHlo.Predicate

@[expose] public section

set_option maxRecDepth 16384

noncomputable section

namespace Cert.Proof.Maths

open Cert.KernelIdeal Cert.KernelIdeal.Gen Cert.Proof.Ring
open Idealize.ShloMosaic hiding ix0 ix1 ix2 ix3 eq_ix1 eq_ix2 eq_ix3
open Idealize.ShloMosaic.Routing Idealize.ShloMosaic.ValueIdx

open Cert.Pre_pre_KernelIdeal in
/-- The side conditions of the precondition's program over one device's blocks. -/
theorem pre_facts_kernel : Cert.Pre_pre_KernelIdeal.Facts := by
  constructor <;> decide

/-- The side conditions of the precondition's program over the reference's arrays. -/
theorem pre_facts_reference : Cert.Pre_pre_ReferenceIdeal.Facts := by
  constructor <;> decide

/-- A value whose absolute value is below infinity is a real number. -/
theorem real_of_lt (x : Ideal .f32) (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  have h'' : max (x : EReal) (-(x : EReal)) < ⊤ := by
    by_contra hc
    rw [Ideal.cmp] at h'
    simp [hc] at h'
  induction x using EReal.rec with
  | bot => simp at h''
  | top => simp at h''
  | coe r => exact ⟨r, rfl⟩

section
variable [hF : Cert.Pre_pre_KernelIdeal.Facts] (m : (ℓ : Loc nD τ sig) → Buf (Elt Ideal) ℓ) (hp : Cert.Pre_KernelIdeal_pre_KernelIdeal m) (c : Dev nD)

include hp in
/-- Every routed expert is one of the 128. -/
theorem word_lt (t : Fin 2048) (k : Fin 2) : (m (c.tc.loc main_arg2) (ix2 t k)).toNat < 128 := by
  have h : IntOp.andi (IntOp.cmpi .sge (m (c.tc.loc main_arg2) (ix2 t k)) 0#32)
      (IntOp.cmpi .slt (m (c.tc.loc main_arg2) (ix2 t k)) (BitVec.ofNat 32 128)) = 1#1 := congrFun (hp c).1 (ix2 t k)
  rw [WordCmp.andi_sge_zero_slt_ofNat (by decide)] at h
  exact (WordCmp.ofBool_decide_eq_one_iff _).1 h

include hp in
/-- Every entry of the tokens' block is a real number. -/
theorem x_real (i : S2048x512.Idx) : ∃ r : ℝ, (m (c.tc.loc main_arg0) i : EReal) = (r : EReal) :=
  real_of_lt _ (congrFun (hp c).2.2.1 i)

include hp in
/-- Every entry of the router's matrix is a real number. -/
theorem w_real (i : S512x128.Idx) : ∃ r : ℝ, (m (c.tc.loc main_arg1) i : EReal) = (r : EReal) :=
  real_of_lt _ (congrFun (hp c).2.2.2 i)

/-- Entry `p` of the flattened pairs is choice `p % 2` of token `p / 2`. -/
theorem pair_word {α : Type} (a : (shape2 2048 2).Idx → α) (h : (shape2 2048 2).ShapeCasts (shape1 4096)) (p : Fin 4096) :
    shapeCast (shape1 4096) a h (ix1 p) = a (ix2 (tok p) (ch p)) := by
  refine shapeCast_apply _ _ _ _ ?_
  rw [Shape.rowMajor_val_two, Shape.rowMajor_val_one]
  show p.val / 2 * 2 + p.val % 2 = p.val
  omega

/-- The expert of every pair. -/
def ex (p : Fin 4096) : Fin 128 := ⟨(m (c.tc.loc main_arg2) (ix2 (tok p) (ch p))).toNat % 128, Nat.mod_lt _ (by decide)⟩

include hp in
/-- The routing words are those of the experts. -/
theorem routes : Routes m c (ex m c) := fun p => by
  have h := word_lt m hp c (tok p) (ch p)
  apply BitVec.eq_of_toNat_eq
  rw [BitVec.toNat_ofNat]
  show _ = ((m (c.tc.loc main_arg2) (ix2 (tok p) (ch p))).toNat % 128) % 2 ^ 32
  omega

/-- Which pairs go to which expert, as the precondition computes it. -/
def loadMask : IVec Cert.Pre_pre_KernelIdeal.S4096x128 1 :=
  cmpi .eq (broadcastInDim Cert.Pre_pre_KernelIdeal.S4096x128 ![0, 1] hF.bcast_S4096x1_S4096x128_0_1
      (broadcastInDim Cert.Pre_pre_KernelIdeal.S4096x1 ![0] hF.bcast_S4096_S4096x1_0 (shapeCast Cert.Pre_pre_KernelIdeal.S4096 (m (c.tc.loc main_arg2)) hF.shapeCasts_S2048x2_S4096)))
    (broadcastInDim Cert.Pre_pre_KernelIdeal.S4096x128 ![0, 1] hF.bcast_S1x128_S4096x128_0_1
      (broadcastInDim Cert.Pre_pre_KernelIdeal.S1x128 ![1] hF.bcast_S128_S1x128_1 (iotaInDim Cert.Pre_pre_KernelIdeal.S128 32 0)))

include hp in
/-- An entry of it. -/
theorem loadMask_read (p : Fin 4096) (x : Fin 128) : loadMask m c (ix2 p x) = 1#1 ↔ ex m c p = x := by
  have h1 : loadMask m c (ix2 p x) = IntOp.cmpi .eq (m (c.tc.loc main_arg2) (ix2 (tok p) (ch p))) (BitVec.ofNat 32 x.val) := by
    unfold loadMask
    refine congrArg₂ (IntOp.cmpi .eq) ?_ ?_
    · exact (bcRows _ _ _ p x).trans (pair_word _ _ p)
    · exact bcCols _ _ _ p x
  rw [h1, routes m hp c p, WordCmp.cmpi_eq_eq, WordCmp.ofBool_decide_eq_one_iff]
  constructor
  · intro h
    have h2 := congrArg BitVec.toNat h
    rw [BitVec.toNat_ofNat, BitVec.toNat_ofNat] at h2
    have := (ex m c p).isLt
    have := x.isLt
    exact Fin.ext (by omega)
  · intro h
    rw [h]

attribute [local irreducible] Host.reduce in
include hp in
/-- No expert is given more than 64 of the device's pairs. -/
theorem load_le (x : Fin 128) : (Finset.univ.filter fun p => ex m c p = x).card ≤ 64 := by
  have h : IntOp.cmpi .sle (Host.reduce IntOp.addi (extui 32 (loadMask m c) hF.natLt_1_32) (constantI Cert.Pre_pre_KernelIdeal.S_ 32 0#32)
      hF.reducesTo_S4096x128_S128_d0 hF.h_S_ (ix1 x)) (BitVec.ofNat 32 64) = 1#1 := congrFun (hp c).2.1 (ix1 x)
  have h32 : ∀ k : ℕ, k = 4096 → k < 2 ^ 32 := fun k hk => by omega
  have hr := StableHlo.Predicate.toNat_reduce_count_rows (n := 4096) (m := 128) (h32 _ rfl) (loadMask m c) hF.natLt_1_32
    hF.reducesTo_S4096x128_S128_d0 hF.h_S_ (ix1 x)
  have hc : (Finset.univ.filter fun p : Fin 4096 => loadMask m c (StableHlo.Predicate.ij p ((ix1 x : S128.Idx) 0)) = 1#1)
      = Finset.univ.filter fun p => ex m c p = x := by
    refine Finset.filter_congr fun p _ => ?_
    rw [← loadMask_read m hp c p x]
    exact iff_of_eq (congrArg (fun i => loadMask m c i = 1#1) (funext fun a => by match a with | ⟨0, _⟩ => rfl | ⟨1, _⟩ => rfl))
  rw [hc] at hr
  have hle : (Finset.univ.filter fun p => ex m c p = x).card ≤ 4096 := by
    simpa using Finset.card_filter_le (Finset.univ : Finset (Fin 4096)) (fun p => ex m c p = x)
  rw [← hr] at hle ⊢
  revert h hle
  generalize Host.reduce _ _ _ _ _ _ = w
  intro h hle
  rw [WordCmp.cmpi_sle_eq, WordCmp.ofBool_decide_eq_one_iff, BitVec.toInt_eq_toNat_of_lt (by omega)] at h
  have h64 : (BitVec.ofNat 32 64).toInt = 64 := by decide
  omega
end

end Cert.Proof.Maths

end
-- ==== Proof.Maths.Final.lean ====
/- The result, read from what the region leaves. -/

module

public import proofs.«01_k».proof.Proof.Maths.Pairs
public import proofs.«01_k».proof.Proof.Ring.Launch

@[expose] public section

set_option maxRecDepth 16384

noncomputable section

namespace Cert.Proof.Maths

open Cert.KernelIdeal Cert.KernelIdeal.Gen Cert.Proof.Ring
open Idealize.ShloMosaic hiding ix1 ix2 ix3 eq_ix1 eq_ix2 eq_ix3
open Idealize.ShloMosaic.Routing Idealize.ShloMosaic.ValueIdx

/-! ## Reading rows that are all in range -/

/-- A conjunction of ones is one. -/
theorem reduce_andi_one {s t u : Shape} {axes : List (Fin s.rank)} (x : s.Idx → BitVec 1) (init : u.Idx → BitVec 1) (h : s.ReducesTo axes t) (hu : 0 < u.numel) (j : t.Idx)
    (hx : ∀ i, x i = 1#1) (hi : ∀ i, init i = 1#1) : Host.reduce IntOp.andi x init h hu j = 1#1 := by
  unfold Host.reduce
  rw [hi]
  generalize List.filter _ _ = l
  induction l with
  | nil => rfl
  | cons n l ih =>
    rw [List.foldl_cons, hx]
    exact ih

/-- A word of a small number is at least zero -/
theorem sge_zero (n : ℕ) (h : n < 2 ^ 31) : IntOp.cmpi .sge (BitVec.ofNat 32 n) 0#32 = 1#1 := by
  show BitVec.ofBool ((0#32 : BitVec 32).sle (BitVec.ofNat 32 n)) = 1#1
  rw [BitVec.sle_eq_decide, toInt_nat n h, decide_eq_true (by show (0 : ℤ) ≤ _; omega)]
  rfl

/-- and at most a larger one. -/
theorem sle_nat (n b : ℕ) (h : n ≤ b) (hb : b < 2 ^ 31) : IntOp.cmpi .sle (BitVec.ofNat 32 n) (BitVec.ofNat 32 b) = 1#1 := by
  show BitVec.ofBool ((BitVec.ofNat 32 n).sle (BitVec.ofNat 32 b)) = 1#1
  rw [BitVec.sle_eq_decide, toInt_nat n (by omega), toInt_nat b hb, decide_eq_true (by omega)]
  rfl

/-- Rows taken at indices that are all in range. -/
theorem take_rows {α : Type} (x : S8192x1024.Idx → α) (i z y : IVec S2048 32) (fill : S2048x1024.Idx → α) (b : Fin 2048 → Fin 8192) (lo hi : IVec S2048x1 32) (one : IVec S_ 1)
    (hb : ∀ t, i (ix1 t) = BitVec.ofNat 32 (b t).val) (hz : ∀ t, z t = 0#32) (hlo : ∀ t, lo t = 0#32) (hhi : ∀ t, hi t = 8191#32) (h1 : ∀ t, one t = 1#1) (t : Fin 2048) (k : Fin 1024) :
    select (broadcastInDim S2048x1024 ![0] bcast_S2048_S2048x1024_0
        (Host.reduce IntOp.andi (andi (cmpi .sge (broadcastInDim S2048x1 ![0] bcast_S2048_S2048x1_0 (select (cmpi .slt i z) y i)) lo)
          (cmpi .sle (broadcastInDim S2048x1 ![0] bcast_S2048_S2048x1_0 (select (cmpi .slt i z) y i)) hi)) one reducesTo_S2048x1_S2048_d1 h_S_))
      (Host.gather gather_S8192x1024_S2048x1_S2048x1024_1_0_n_n_0_1_11024 x (broadcastInDim S2048x1 ![0] bcast_S2048_S2048x1_0 (select (cmpi .slt i z) y i))) fill (ix2 t k)
      = x (ix2 (b t) k) := by
  have hcol : ∀ r, broadcastInDim S2048x1 ![0] bcast_S2048_S2048x1_0 (select (cmpi .slt i z) y i) (ix2 r (0 : Fin 1)) = BitVec.ofNat 32 (b r).val := fun r =>
    col_read _ _ _ _ r _ (by have := (b r).isLt; omega) (hb r) (hz _)
  generalize broadcastInDim S2048x1 ![0] bcast_S2048_S2048x1_0 (select (cmpi .slt i z) y i) = C at hcol ⊢
  have hm : ∀ j, Host.reduce IntOp.andi (andi (cmpi .sge C lo) (cmpi .sle C hi)) one reducesTo_S2048x1_S2048_d1 h_S_ j = 1#1 := by
    intro j
    refine reduce_andi_one _ _ _ _ _ (fun r => ?_) h1
    obtain ⟨a, s, rfl⟩ : ∃ (a : Fin 2048) (s : Fin 1), r = ix2 a s := ⟨_, _, eq_ix2 r⟩
    obtain rfl : s = 0 := Subsingleton.elim _ _
    show IntOp.andi (IntOp.cmpi .sge (C (ix2 a 0)) (lo _)) (IntOp.cmpi .sle (C (ix2 a 0)) (hi _)) = 1#1
    rw [hcol, hlo, hhi, sge_zero _ (by have := (b a).isLt; omega), sle_nat _ 8191 (by have := (b a).isLt; omega) (by decide)]
    rfl
  show Scalar.select (Host.reduce IntOp.andi (andi (cmpi .sge C lo) (cmpi .sle C hi)) one reducesTo_S2048x1_S2048_d1 h_S_ _) _ _ = _
  rw [hm]
  exact gather_row (nb := 8192) (n := 2048) (B := 1024) gather_S8192x1024_S2048x1_S2048x1024_1_0_n_n_0_1_11024 rfl rfl rfl rfl rfl x C t k (b t) (hcol t) (by decide)

/-! ## After the region -/

variable {F : FTy → Type} [FloatOps F] (m : (ℓ : Loc nD τ sig) → Buf (Elt F) ℓ) (c : Dev nD) (e : Fin 4096 → Fin 128)

/-- Where a pair stands in the order of the experts. -/
def at_ (p : Fin 4096) : Fin 4096 := ((ord_bij e).2 p).choose

/-- The pair that stands there is the pair. -/
theorem ord_at (p : Fin 4096) : ord e (at_ e p) = p := ((ord_bij e).2 p).choose_spec

/-- The row of each pair, in the pairs' own order. -/
theorem v181_read (hE : Routes m c e) (hcnt : ∀ x : Fin 128, (Finset.univ.filter fun p => e p = x).card ≤ 64) (p : Fin 4096) :
    (V16 m (outs m) c (Proc.devRef .tc main_v181) : S4096.Idx → Elt F .i32) (ix1 p) = (BitVec.ofNat 32 (slot e hcnt c (at_ e p)).val : BitVec 32) := by
  have h111 : ∀ q, (V15 m (outs m) c (Proc.devRef .tc main_v111) : S4096.Idx → Elt F .i32) (ix1 q) = (BitVec.ofNat 32 (ord e q).val : BitVec 32) := fun q => by
    rw [V15_of m _ c _ (by decide), V14_of m c _ (by decide), V13_of m c _ (by decide), V12_of m c _ (by decide), V11_of m c _ (by decide), V10_of m c _ (by decide), V9_of m c _ (by decide)]
    exact v111_read m c e hE q
  have h152 : ∀ q, (V15 m (outs m) c (Proc.devRef .tc main_v152) : S4096.Idx → Elt F .i32) (ix1 q) = (BitVec.ofNat 32 (slot e hcnt c q).val : BitVec 32) := fun q => by
    rw [V15_of m _ c _ (by decide), V14_of m c _ (by decide)]
    exact v152_read m c e hE hcnt q
  unfold V16
  generalize V15 m (outs m) c = V at h111 h152 ⊢
  after_reads_simp
  refine Eq.trans ?_ (h152 (at_ e p))
  conv_lhs => rw [← ord_at e p]
  refine scatter_pairs_hit _ _ _ (ord e) (ord_bij e).1 (fun q => ?_) (at_ e p)
  exact col_read _ _ _ _ q _ (by have := (ord e q).isLt; omega) (h111 q) rfl

/-- The rows of the tokens' first pairs -/
theorem v182_read (hE : Routes m c e) (hcnt : ∀ x : Fin 128, (Finset.univ.filter fun p => e p = x).card ≤ 64) (t : Fin 2048) :
    (V16 m (outs m) c (Proc.devRef .tc main_v182) : S2048.Idx → Elt F .i32) (ix1 t) = (BitVec.ofNat 32 (slot e hcnt c (at_ e ⟨2 * t.val, by omega⟩)).val : BitVec 32) := by
  have h := v181_read m c e hE hcnt ⟨2 * t.val, by omega⟩
  refine Eq.trans ?_ h
  unfold V16
  generalize V15 m (outs m) c = V
  after_reads_simp
  unfold Host.slice
  refine congrArg _ ?_
  rw [eq_ix1 (n := 4096) (fun a => _)]
  exact congrArg ix1 (Fin.ext (by show 0 + 2 * t.val = 2 * t.val; omega))

/-- and of their second ones. -/
theorem v184_read (hE : Routes m c e) (hcnt : ∀ x : Fin 128, (Finset.univ.filter fun p => e p = x).card ≤ 64) (t : Fin 2048) :
    (V18 m (outs m) c (Proc.devRef .tc main_v184) : S2048.Idx → Elt F .i32) (ix1 t) = (BitVec.ofNat 32 (slot e hcnt c (at_ e ⟨2 * t.val + 1, by omega⟩)).val : BitVec 32) := by
  have h : (V17 m (outs m) c (Proc.devRef .tc main_v181) : S4096.Idx → Elt F .i32) (ix1 (⟨2 * t.val + 1, by omega⟩ : Fin 4096)) = _ := (congrFun (V17_of m (outs m) c main_v181 (by decide)) _).trans (v181_read m c e hE hcnt ⟨2 * t.val + 1, by omega⟩)
  refine Eq.trans ?_ h
  clear h
  unfold V18
  generalize V17 m (outs m) c = V
  after_reads_simp
  unfold Host.slice
  refine congrArg _ ?_
  rw [eq_ix1 (n := 4096) (fun a => _)]
  exact congrArg ix1 (Fin.ext (by show 1 + 2 * t.val = 2 * t.val + 1; omega))

/-- The region's rows of the tokens' first pairs -/
theorem v183_read (hE : Routes m c e) (hcnt : ∀ x : Fin 128, (Finset.univ.filter fun p => e p = x).card ≤ 64) (t : Fin 2048) (k : Fin 1024) :
    (V17 m (outs m) c (Proc.devRef .tc main_v183) : S2048x1024.Idx → Elt F .bf16) (ix2 t k)
      = G (Ew (V14 m)) (Xw (V14 m) c) c (ix2 (slot e hcnt c (at_ e ⟨2 * t.val, by omega⟩)) k) := by
  have h := v182_read m c e hE hcnt
  have hG : (V16 m (outs m) c (Proc.devRef .tc main_v173) : S8192x1024.Idx → Elt F .bf16) = G (Ew (V14 m)) (Xw (V14 m) c) c := by
    rw [V16_of m _ c _ (by decide), V15_eq]
    exact Function.update_self _ _ _
  rw [← hG]
  clear hG
  unfold V17
  generalize V16 m (outs m) c = V at h ⊢
  after_reads_simp
  exact take_rows _ _ _ _ _ (fun t => slot e hcnt c (at_ e ⟨2 * t.val, by omega⟩)) _ _ _ h (fun _ => rfl) (fun _ => rfl) (fun _ => rfl) (fun _ => rfl) t k

/-- and of their second ones. -/
theorem v185_read (hE : Routes m c e) (hcnt : ∀ x : Fin 128, (Finset.univ.filter fun p => e p = x).card ≤ 64) (t : Fin 2048) (k : Fin 1024) :
    (V19 m (outs m) c (Proc.devRef .tc main_v185) : S2048x1024.Idx → Elt F .bf16) (ix2 t k)
      = G (Ew (V14 m)) (Xw (V14 m) c) c (ix2 (slot e hcnt c (at_ e ⟨2 * t.val + 1, by omega⟩)) k) := by
  have h := v184_read m c e hE hcnt
  have hG : (V18 m (outs m) c (Proc.devRef .tc main_v173) : S8192x1024.Idx → Elt F .bf16) = G (Ew (V14 m)) (Xw (V14 m) c) c := by
    rw [V18_of m _ c _ (by decide), V17_of m _ c _ (by decide), V16_of m _ c _ (by decide), V15_eq]
    exact Function.update_self _ _ _
  rw [← hG]
  clear hG
  unfold V19
  generalize V18 m (outs m) c = V at h ⊢
  after_reads_simp
  exact take_rows _ _ _ _ _ (fun t => slot e hcnt c (at_ e ⟨2 * t.val + 1, by omega⟩)) _ _ _ h (fun _ => rfl) (fun _ => rfl) (fun _ => rfl) (fun _ => rfl) t k

/-- The result: each token's sum of the region's rows of its two pairs. -/
theorem v188_read (hE : Routes m c e) (hcnt : ∀ x : Fin 128, (Finset.univ.filter fun p => e p = x).card ≤ 64) (t : Fin 2048) (k : Fin 1024) :
    (V20 m (outs m) c (Proc.devRef .tc main_v188) : S2048x1024.Idx → Elt F .f32) (ix2 t k)
      = FloatOps.addf (φ := .f32) (FloatOps.extf .f32 (by decide : FTy.bf16.bits < FTy.f32.bits) (G (Ew (V14 m)) (Xw (V14 m) c) c (ix2 (slot e hcnt c (at_ e ⟨2 * t.val, by omega⟩)) k)))
        (FloatOps.extf .f32 (by decide : FTy.bf16.bits < FTy.f32.bits) (G (Ew (V14 m)) (Xw (V14 m) c) c (ix2 (slot e hcnt c (at_ e ⟨2 * t.val + 1, by omega⟩)) k))) := by
  have h0 : (V19 m (outs m) c (Proc.devRef .tc main_v183) : S2048x1024.Idx → Elt F .bf16) (ix2 t k) = _ :=
    (congrFun ((V19_of m (outs m) c main_v183 (by decide)).trans (V18_of m (outs m) c main_v183 (by decide))) (ix2 t k)).trans (v183_read m c e hE hcnt t k)
  have h1 := v185_read m c e hE hcnt t k
  rw [← h0, ← h1]
  clear h0 h1
  unfold V20
  generalize V19 m (outs m) c = V
  after_reads_simp
  rfl

end Cert.Proof.Maths

end
-- ==== Proof.Maths.Gates.lean ====
/- The gates. -/

module

public import proofs.«01_k».proof.Proof.Maths.Final
public import Idealize.ShloMosaic.Lib.Pointwise.Contract
public import Idealize.ShloMosaic.Lib.Pointwise.Reduce
public import Idealize.ShloMosaic.Lib.IdealHost

@[expose] public section

set_option maxRecDepth 16384

noncomputable section

namespace Cert.Proof.Maths

open Cert.KernelIdeal Cert.KernelIdeal.Gen Cert.Proof.Ring
open Idealize.ShloMosaic hiding ix0 ix1 ix2 ix3 eq_ix1 eq_ix2 eq_ix3
open Idealize.ShloMosaic.Routing Idealize.ShloMosaic.ValueIdx

/-! ## Positive real numbers among the extended ones -/

/-- A positive real number. -/
def Pos (v : EReal) : Prop := ∃ r : ℝ, 0 < r ∧ v = (r : EReal)

/-- The exponential of a difference of two reals is positive. -/
theorem Pos.exp {a b : EReal} (ha : ∃ r : ℝ, a = (r : EReal)) (hb : ∃ r : ℝ, b = (r : EReal)) : Pos (Ideal.exp (a - b)) := by
  obtain ⟨r, rfl⟩ := ha
  obtain ⟨s, rfl⟩ := hb
  exact ⟨Real.exp (r - s), Real.exp_pos _, by rw [← EReal.coe_sub]; rfl⟩

/-- A sum of finitely many positive reals, not of none, is positive. -/
theorem Pos.sum {n : ℕ} [NeZero n] {f : Fin n → EReal} (h : ∀ j, Pos (f j)) : Pos (0 + ∑ j, f j) := by
  choose r hr he using h
  refine ⟨∑ j, r j, Finset.sum_pos (fun j _ => hr j) ⟨0, Finset.mem_univ _⟩, ?_⟩
  rw [zero_add, funext he]
  exact (map_sum (⟨⟨((↑) : ℝ → EReal), rfl⟩, EReal.coe_add⟩ : ℝ →+ EReal) r Finset.univ).symm

/-- A quotient of positive reals is positive. -/
theorem Pos.div {a b : EReal} (ha : Pos a) (hb : Pos b) : Pos (Ideal.div a b) := by
  obtain ⟨r, hr, rfl⟩ := ha
  obtain ⟨s, hs, rfl⟩ := hb
  refine ⟨r * s⁻¹, mul_pos hr (inv_pos.2 hs), ?_⟩
  unfold Ideal.div
  rw [if_neg (by exact_mod_cast hs.ne'), EReal.coe_mul, EReal.coe_inv]

/-- A positive real may be moved out of a sum of products. -/
theorem Pos.mul_sum {g : EReal} (hg : Pos g) {ι : Type*} (s : Finset ι) (x w : ι → EReal) :
    ∑ k ∈ s, x k * g * w k = g * ∑ k ∈ s, x k * w k := by
  obtain ⟨r, hr, rfl⟩ := hg
  classical
  induction s using Finset.induction_on with
  | empty => simp
  | insert a s ha ih =>
    rw [Finset.sum_insert ha, Finset.sum_insert ha, ih,
      EReal.left_distrib_of_nonneg_of_ne_top (by exact_mod_cast hr.le) (EReal.coe_ne_top _), mul_comm (x a), mul_assoc]

/-! ## A token's gates from its scores -/

/-- The largest score. -/
def top (s : Fin 128 → EReal) : EReal := Finset.univ.fold max ⊥ s

/-- The softmax of the scores. -/
def soft (s : Fin 128 → EReal) (j : Fin 128) : EReal :=
  Ideal.div (Ideal.exp (s j - top s)) (0 + ∑ j' : Fin 128, Ideal.exp (s j' - top s))

/-- The gate of each of the two experts: its softmax value over the sum of both. -/
def gate (s : Fin 128 → EReal) (i : Fin 2 → Fin 128) (k : Fin 2) : EReal :=
  Ideal.div (soft s (i k)) (0 + ∑ k' : Fin 2, soft s (i k'))

/-- The largest of real scores is real. -/
theorem top_real {s : Fin 128 → EReal} (h : ∀ j, ∃ r : ℝ, s j = (r : EReal)) : ∃ r : ℝ, top s = (r : EReal) := by
  obtain ⟨j, -, hj⟩ := Finset.exists_mem_eq_sup Finset.univ ⟨(0 : Fin 128), Finset.mem_univ _⟩ s
  obtain ⟨r, hr⟩ := h j
  exact ⟨r, (show top s = Finset.univ.sup s from rfl).trans (hj.trans hr)⟩

/-- The gates of real scores are positive reals. -/
theorem gate_pos {s : Fin 128 → EReal} (h : ∀ j, ∃ r : ℝ, s j = (r : EReal)) (i : Fin 2 → Fin 128) (k : Fin 2) : Pos (gate s i k) :=
  have hs : ∀ j, Pos (soft s j) := fun j => (Pos.exp (h j) (top_real h)).div (Pos.sum fun j' => Pos.exp (h j') (top_real h))
  (hs _).div (Pos.sum fun k' => hs (i k'))

/-- Scores of real rows against real columns are real. -/
theorem score_real {n : ℕ} {x w : Fin n → EReal} (hx : ∀ k, ∃ r : ℝ, x k = (r : EReal)) (hw : ∀ k, ∃ r : ℝ, w k = (r : EReal)) :
    ∃ r : ℝ, 0 + ∑ k, x k * w k = (r : EReal) := by
  choose a ha using hx
  choose b hb using hw
  refine ⟨∑ k, a k * b k, ?_⟩
  rw [zero_add, show (fun k => x k * w k) = fun k => ((a k * b k : ℝ) : EReal) from funext fun k => by rw [ha, hb, EReal.coe_mul]]
  exact (map_sum (⟨⟨((↑) : ℝ → EReal), rfl⟩, EReal.coe_add⟩ : ℝ →+ EReal) (fun k => a k * b k) Finset.univ).symm

/-! ## The host's row operations, at any number of rows -/

/-- The sum of a row. -/
theorem row_sum {n k : ℕ} (x : FVec Ideal (shape2 n k) .f32) (init : shape0.Idx → Ideal .f32) (h : (shape2 n k).ReducesTo [1] (shape1 n))
    (hu : 0 < shape0.numel) (r : Fin n) : Host.reduceAdd x init h hu (ix1 r) = init ix0 + ∑ j : Fin k, x (ix2 r j) := by
  rw [hostReduceAdd_apply, Ideal.hostReduceAdd_r2_a1]
  refine congrArg₂ (· + ·) (congrArg init (Subsingleton.elim _ _)) (Finset.sum_congr rfl fun j _ => congrArg x (funext fun a => ?_))
  match a with
  | ⟨0, _⟩ => rfl
  | ⟨1, _⟩ => rfl

/-- The largest of a row. -/
theorem row_top {n : ℕ} (x : FVec Ideal (shape2 n 128) .f32) (init : shape0.Idx → Ideal .f32) (h : (shape2 n 128).ReducesTo [1] (shape1 n))
    (hu : 0 < shape0.numel) (hi : ∀ i, (init i : EReal) = ⊥) (r : Fin n) :
    Host.reduce FloatOps.maximumf x init h hu (ix1 r) = top fun j => x (ix2 r j) := by
  have h1 := Host.reduce_eq_fold (α := EReal) max x init h hu (ix1 r)
  refine h1.trans ?_
  rw [Shape.ReducesTo.fold_fiber_r2_a1, hi]
  refine congrArg top (funext fun j => congrArg x (funext fun a => ?_))
  match a with
  | ⟨0, _⟩ => rfl
  | ⟨1, _⟩ => rfl

/-- The softmax of every row, as a host program computes it. -/
theorem soft_rows {n : ℕ} (s : FVec Ideal (shape2 n 128) .f32) (M : FVec Ideal (shape1 n) .f32) (zero : shape0.Idx → Ideal .f32)
    (h₁ : (shape1 n).BroadcastsInDim (shape2 n 1) (![0] : Fin 1 → Fin (shape2 n 1).rank)) (h₂ : (shape2 n 1).BroadcastsInDim (shape2 n 128) (![0, 1] : Fin 2 → Fin (shape2 n 128).rank))
    (h : (shape2 n 128).ReducesTo [1] (shape1 n)) (hu : 0 < shape0.numel) (r : Fin n) (j : Fin 128)
    (hM : (M (ix1 r) : EReal) = top fun j => s (ix2 r j)) (hz : ∀ i, (zero i : EReal) = 0) :
    Host.divf (Host.exp (subf s (broadcastInDim (shape2 n 128) ![0, 1] h₂ (broadcastInDim (shape2 n 1) ![0] h₁ M))))
      (broadcastInDim (shape2 n 128) ![0, 1] h₂ (broadcastInDim (shape2 n 1) ![0] h₁
        (Host.reduceAdd (Host.exp (subf s (broadcastInDim (shape2 n 128) ![0, 1] h₂ (broadcastInDim (shape2 n 1) ![0] h₁ M)))) zero h hu))) (ix2 r j)
      = soft (fun j => s (ix2 r j)) j := by
  have hE : ∀ j, Host.exp (subf s (broadcastInDim (shape2 n 128) ![0, 1] h₂ (broadcastInDim (shape2 n 1) ![0] h₁ M))) (ix2 r j)
      = Ideal.exp ((s (ix2 r j) : EReal) - top fun j => s (ix2 r j)) := fun j => by
    refine congrArg Ideal.exp (congrArg (fun v : EReal => (s (ix2 r j) : EReal) - v) ?_)
    exact (bcRows _ _ _ r j).trans hM
  rw [hostDivf_apply]
  refine congrArg₂ Ideal.div (hE j) ((bcRows _ _ _ r j).trans ?_)
  rw [row_sum, hz]
  exact congrArg (fun v : EReal => 0 + v) (Finset.sum_congr rfl fun j _ => hE j)

/-- A row of two divided by its sum, as a host program computes it. -/
theorem norm_rows {n : ℕ} (P : FVec Ideal (shape2 n 2) .f32) (zero : shape0.Idx → Ideal .f32)
    (h₁ : (shape1 n).BroadcastsInDim (shape2 n 1) (![0] : Fin 1 → Fin (shape2 n 1).rank)) (h₂ : (shape2 n 1).BroadcastsInDim (shape2 n 2) (![0, 1] : Fin 2 → Fin (shape2 n 2).rank))
    (h : (shape2 n 2).ReducesTo [1] (shape1 n)) (hu : 0 < shape0.numel) (hz : ∀ i, (zero i : EReal) = 0)
    (s : Fin 128 → EReal) (i : Fin 2 → Fin 128) (r : Fin n) (k : Fin 2) (hP : ∀ k, (P (ix2 r k) : EReal) = soft s (i k)) :
    Host.divf P (broadcastInDim (shape2 n 2) ![0, 1] h₂ (broadcastInDim (shape2 n 1) ![0] h₁ (Host.reduceAdd P zero h hu))) (ix2 r k) = gate s i k := by
  rw [hostDivf_apply]
  refine congrArg₂ Ideal.div (hP k) ((bcRows _ _ _ r k).trans ?_)
  rw [row_sum, hz]
  exact congrArg (fun v : EReal => 0 + v) (Finset.sum_congr rfl fun j _ => hP j)

/-- The column of a matrix of two, laid out as an array of one-entry rows, with no negative index. -/
theorem pick_read {n : ℕ} (a z y : IVec (shape2 n 2) 32) (hc : (shape2 n 2).ShapeCasts (⟨3, ![n, 2, 1]⟩ : Shape)) (r : Fin n) (k : Fin 2) (b : Fin 128)
    (ha : a (ix2 r k) = BitVec.ofNat 32 b.val) (hz : z (ix2 r k) = 0#32) :
    shapeCast (⟨3, ![n, 2, 1]⟩ : Shape) (select (cmpi .slt a z) y a) hc (ix3 r k (0 : Fin 1)) = BitVec.ofNat 32 b.val := by
  refine (shapeCast_apply _ _ _ (ix2 r k) ?_).trans ?_
  · rw [Shape.rowMajor_val_two, Shape.rowMajor_val_three]
    show r.val * 2 + k.val = (r.val * 2 + k.val) * 1 + 0
    omega
  · show Scalar.select (IntOp.cmpi .slt (a (ix2 r k)) (z (ix2 r k))) (y (ix2 r k)) (a (ix2 r k)) = _
    rw [ha]
    exact fix_nat _ (by have := b.isLt; omega) _ _ hz

/-- Taking along axis 1, when every index is in range. -/
theorem take_along {α : Type} {n : ℕ} (wf) (x : (shape2 n 128).Idx → α) (J lo hi : IVec (⟨3, ![n, 2, 1]⟩ : Shape) 32) (one : IVec shape0 1) (fill : (shape2 n 2).Idx → α)
    (hr : (⟨3, ![n, 2, 1]⟩ : Shape).ReducesTo [2] (shape2 n 2)) (hu : 0 < shape0.numel) (b : Fin n → Fin 2 → Fin 128)
    (hJ : ∀ r k, J (ix3 r k (0 : Fin 1)) = BitVec.ofNat 32 (b r k).val) (hlo : ∀ i, lo i = 0#32) (hhi : ∀ i, hi i = 127#32) (h1 : ∀ i, one i = 1#1) (r : Fin n) (k : Fin 2) :
    select (Host.reduce IntOp.andi (andi (cmpi .sge J lo) (cmpi .sle J hi)) one hr hu) (Host.gather (alongD n wf) x J) fill (ix2 r k) = x (ix2 r (b r k)) := by
  have hm : ∀ j, Host.reduce IntOp.andi (andi (cmpi .sge J lo) (cmpi .sle J hi)) one hr hu j = 1#1 := by
    intro j
    refine reduce_andi_one _ _ _ _ _ (fun q => ?_) h1
    obtain ⟨a, d, o, rfl⟩ : ∃ (a : Fin n) (d : Fin 2) (o : Fin 1), q = ix3 a d o := ⟨_, _, _, eq_ix3 q⟩
    obtain rfl : o = 0 := Subsingleton.elim _ _
    show IntOp.andi (IntOp.cmpi .sge (J (ix3 a d 0)) (lo _)) (IntOp.cmpi .sle (J (ix3 a d 0)) (hi _)) = 1#1
    rw [hJ, hlo, hhi, sge_zero _ (by have := (b a d).isLt; omega), sle_nat _ 127 (by have := (b a d).isLt; omega) (by decide)]
    rfl
  show Scalar.select (Host.reduce IntOp.andi (andi (cmpi .sge J lo) (cmpi .sle J hi)) one hr hu _) _ _ = _
  rw [hm]
  exact gather_along wf x J r k (b r k) (hJ r k)

/-- The router's score of row `t` of `x` for expert `j`. -/
def score {n : ℕ} (x : (shape2 n 512).Idx → EReal) (w : (shape2 512 128).Idx → EReal) (t : Fin n) (j : Fin 128) : EReal :=
  0 + ∑ k : Fin 512, x (ix2 t k) * w (ix2 k j)

end Cert.Proof.Maths

end
-- ==== Proof.Maths.KGates.lean ====
/- The kernel's gates. -/

module

public import proofs.«01_k».proof.Proof.Maths.Gates

@[expose] public section

set_option maxRecDepth 16384

noncomputable section

namespace Cert.Proof.Maths

open Cert.KernelIdeal Cert.KernelIdeal.Gen Cert.Proof.Ring
open Idealize.ShloMosaic hiding ix0 ix1 ix2 ix3 eq_ix1 eq_ix2 eq_ix3
open Idealize.ShloMosaic.Routing Idealize.ShloMosaic.ValueIdx

/-! ## The kernel's gates -/

/-- The router's scores of the kernel: row `t`, expert `j`. -/
theorem score_kernel (x : FVec Ideal S2048x512 .f32) (w : FVec Ideal S512x128 .f32) (t : Fin 2048) (j : Fin 128) :
    Host.dotGeneral (F := Ideal) (φ₁ := .f32) (φ₂ := .f32) dot_S2048x512_S512x128_S2048x128_1_0_0_1_n_n none x w (ix2 t j) = score (n := 2048) x w t j := by
  simp only [pointwise]
  rfl

variable (m : (ℓ : Loc nD τ sig) → Buf (Elt Ideal) ℓ) (c : Dev nD)

/-- The scores of token `t` of device `c`. -/
def sc (t : Fin 2048) (j : Fin 128) : EReal :=
  score (n := 2048) (m ((c.tc : Thread nD τ).loc main_arg0)) (m ((c.tc : Thread nD τ).loc main_arg1)) t j

attribute [local irreducible] Host.reduce Host.gather in
/-- The kernel's softmax. -/
theorem v100_read (t : Fin 2048) (j : Fin 128) : (V5 m c (Proc.devRef .tc main_v100) : S2048x128.Idx → EReal) (ix2 t j) = soft (sc m c t) j := by
  have h0 : (V4 m c (Proc.devRef .tc main_arg0) : S2048x512.Idx → EReal) = m ((c.tc : Thread nD τ).loc main_arg0) := by
    rw [V4_of m c _ (by decide), V3_of m c _ (by decide), V2_of m c _ (by decide), V1_of m c _ (by decide)]
  have h1 : (V4 m c (Proc.devRef .tc main_arg1) : S512x128.Idx → EReal) = m ((c.tc : Thread nD τ).loc main_arg1) := by
    rw [V4_of m c _ (by decide), V3_of m c _ (by decide), V2_of m c _ (by decide), V1_of m c _ (by decide)]
  have hs : sc m c t = fun j => Host.dotGeneral (F := Ideal) (φ₁ := .f32) (φ₂ := .f32) dot_S2048x512_S512x128_S2048x128_1_0_0_1_n_n none (V4 m c (Proc.devRef .tc main_arg0) : S2048x512.Idx → EReal)
      (V4 m c (Proc.devRef .tc main_arg1) : S512x128.Idx → EReal) (ix2 t j) := funext fun j => by
    rw [score_kernel, h0, h1]
    rfl
  rw [hs]
  clear hs h0 h1
  unfold V5
  generalize V4 m c = V
  after_reads_simp
  refine soft_rows _ _ _ _ _ _ _ t j ?_ fun i => ?_
  · show max (Ideal.ofBits .f32 0xFF800000#32) _ = _
    rw [show Ideal.ofBits .f32 0xFF800000#32 = ⊥ by simp [Ideal.ofBits, Ideal.ieee], max_eq_right bot_le]
    exact row_top _ _ _ _ (fun i => show Ideal.ofBits .f32 0xFF800000#32 = ⊥ by simp [Ideal.ofBits, Ideal.ieee]) t
  · show Ideal.ofBits .f32 0x00000000#32 = 0
    simp [Ideal.ofBits, Ideal.ieee]

attribute [local irreducible] Host.reduce Host.gather in
/-- The two softmax values of every token. -/
theorem v101_read (e : Fin 4096 → Fin 128) (hE : Routes m c e) (t : Fin 2048) (k : Fin 2) :
    (V6 m c (Proc.devRef .tc main_v101) : S2048x2.Idx → EReal) (ix2 t k) = soft (sc m c t) (e ⟨2 * t.val + k.val, by omega⟩) := by
  have h := v100_read m c t (e ⟨2 * t.val + k.val, by omega⟩)
  have h2 : ∀ t k, (V5 m c (Proc.devRef .tc main_arg2) : S2048x2.Idx → Elt Ideal .i32) (ix2 t k) = BitVec.ofNat 32 (e ⟨2 * t.val + k.val, by omega⟩).val := fun t k => by
    rw [V5_of m c _ (by decide), V4_of m c _ (by decide), V3_of m c _ (by decide), V2_of m c _ (by decide), V1_of m c _ (by decide)]
    refine Eq.trans (congrArg (m ((c.tc : Thread nD τ).loc main_arg2)) (congrArg₂ ix2 (Fin.ext ?_) (Fin.ext ?_))) (hE ⟨2 * t.val + k.val, by omega⟩)
    · show t.val = (2 * t.val + k.val) / 2
      omega
    · show k.val = (2 * t.val + k.val) % 2
      omega
  rw [← h]
  clear h
  unfold V6
  generalize V5 m c = V at h2 ⊢
  after_reads_simp
  refine take_along _ _ _ _ _ _ _ _ _ (fun t k => e ⟨2 * t.val + k.val, by omega⟩) (fun t k => ?_) (fun _ => rfl) (fun _ => rfl) (fun _ => rfl) t k
  exact pick_read _ _ _ _ t k _ (h2 t k) rfl

/-- The gates of every token. -/
theorem v105_read (e : Fin 4096 → Fin 128) (hE : Routes m c e) (t : Fin 2048) (k : Fin 2) :
    (V7 m c (Proc.devRef .tc main_v105) : S2048x2.Idx → EReal) (ix2 t k) = gate (sc m c t) (fun k => e ⟨2 * t.val + k.val, by omega⟩) k := by
  have h := v101_read m c e hE t
  unfold V7
  generalize V6 m c = V at h ⊢
  after_reads_simp
  refine norm_rows _ _ _ _ _ _ (fun i => ?_) _ _ t k h
  show Ideal.ofBits .f32 0x00000000#32 = 0
  simp [Ideal.ofBits, Ideal.ieee]

end Cert.Proof.Maths

end
-- ==== Proof.Maths.Place.lean ====
/- The ring's result at the rows of the pairs. -/

module

public import proofs.«01_k».proof.Proof.Maths.Final
public import Idealize.ShloMosaic.Lib.Pointwise.Contract

@[expose] public section

set_option maxRecDepth 16384

noncomputable section

namespace Cert.Proof.Maths

open Cert.KernelIdeal Cert.KernelIdeal.Gen Cert.Proof.Ring
open Idealize.ShloMosaic hiding ix0 ix1 ix2 ix3 eq_ix1 eq_ix2 eq_ix3
open Idealize.ShloMosaic.Routing Idealize.ShloMosaic.ValueIdx

/-- A block of rows times an expert's weights, as the kernel's body computes it, at one entry. -/
theorem pay_read (a : Vec Ideal S64x512 .bf16) (b : Vec Ideal S1x1x512x1024 .bf16) (r : Fin 64) (h : Fin 1024) :
    (k0_pay4 (F := Ideal) a b (ix2 r h) : EReal)
      = (0 : EReal) + ∑ k : Fin 512, (show EReal from a (ix2 r k)) * (show EReal from b (fun | ⟨0, _⟩ => (0 : Fin 1) | ⟨1, _⟩ => (0 : Fin 1) | ⟨2, _⟩ => k | ⟨3, _⟩ => h)) := by
  have h1 : ∀ (x : FVec Ideal S64x512 .bf16) (w : FVec Ideal S512x1024 .bf16) (z : FVec Ideal S64x1024 .f32),
      matmul (F := Ideal) dot_S64x512_S512x1024_S64x1024_1_0_0_1_n_n none x w z (ix2 r h) = z (ix2 r h) + ∑ k : Fin 512, x (ix2 r k) * w (ix2 k h) := by
    intro x w z
    simp only [pointwise]
    rfl
  unfold k0_pay4
  show matmul (F := Ideal) dot_S64x512_S512x1024_S64x1024_1_0_0_1_n_n none _ _ _ (ix2 r h) = _
  rw [h1]
  refine congrArg₂ (· + ·) (show Ideal.ofBits .f32 0x00000000#32 = 0 by simp [Ideal.ofBits, Ideal.ieee]) (Finset.sum_congr rfl fun k _ => congrArg₂ (· * ·) ?_ ?_)
  · refine shapeCast_apply _ _ _ _ ?_
    rfl
  · refine shapeCast_apply _ _ _ _ ?_
    rw [Shape.rowMajor_val_four, Shape.rowMajor_val_two]
    show ((0 * 1 + 0) * 512 + k.val) * 1024 + h.val = k.val * 1024 + h.val
    omega

variable (m : (ℓ : Loc nD τ sig) → Buf (Elt Ideal) ℓ) (c : Dev nD) (e : Fin 4096 → Fin 128)

/-- The device that holds expert `b`, and its number there. -/
def dev (b : Fin 128) : Dev nD := ⟨b.val / 4, by have := b.isLt; show _ < 32; omega⟩
/-- The number of expert `b` on the device that holds it. -/
def loc4 (b : Fin 128) : Fin 4 := ⟨b.val % 4, Nat.mod_lt _ (by decide)⟩

/-- The weights that row block `blk c x` is multiplied by are those of expert `x`. -/
theorem dev_blk (x : Fin 128) : src (dOf (blk c x).val) (hOf (blk c x).val) c = dev x ∧ cond (dOf (blk c x).val) 2 0 + (jOf (blk c x).val).val = (loc4 x).val := by
  have h := congrArg Fin.val (expOf_blk c x)
  have h2 := (jOf (blk c x).val).isLt
  have h3 : cond (dOf (blk c x).val) 2 0 ≤ 2 := by cases dOf (blk c x).val <;> simp
  have h4 : 4 * (src (dOf (blk c x).val) (hOf (blk c x).val) c).val + cond (dOf (blk c x).val) 2 0 + (jOf (blk c x).val).val = x.val := h
  refine ⟨Fin.ext ?_, ?_⟩
  · show _ = x.val / 4
    omega
  · show _ = x.val % 4
    omega

/-- The ring's result at the row of pair `p`: the pair's token, scaled by its gate, times the weights of its expert. -/
theorem place_read (hE : Routes m c e) (hcnt : ∀ x : Fin 128, (Finset.univ.filter fun p => e p = x).card ≤ 64) (p : Fin 4096) (h : Fin 1024) :
    (G (Ew (V14 m)) (Xw (V14 m) c) c (ix2 (slot e hcnt c (at_ e p)) h) : EReal)
      = (0 : EReal) + ∑ k : Fin 512, (show EReal from (m ((c.tc : Thread nD τ).loc main_arg0) : S2048x512.Idx → Elt Ideal .f32) (ix2 (tok p) k))
          * (show EReal from (V7 m c (Proc.devRef .tc main_v105) : S2048x2.Idx → Elt Ideal .f32) (ix2 (tok p) (ch p)))
          * (show EReal from (m (((dev (e p)).tc : Thread nD τ).loc main_arg3) : S4x512x1024.Idx → Elt Ideal .f32) (ix3 (loc4 (e p)) k h)) := by
  have hr := rank_lt e hcnt (at_ e p)
  have hk : key e (at_ e p) = e p := congrArg e (ord_at e p)
  have hb : blkOf (ix2 (slot e hcnt c (at_ e p)) h) = blk c (e p) := by
    refine Fin.ext ?_
    show (64 * (blk c (key e (at_ e p))).val + rank e (at_ e p)) / 64 = _
    rw [hk]
    omega
  have hrow : rowIn (ix2 (slot e hcnt c (at_ e p)) h) = ix2 (⟨rank e (at_ e p), hr⟩ : Fin 64) h := by
    funext a
    match a with
    | ⟨0, _⟩ =>
      refine Fin.ext ?_
      show (64 * (blk c (key e (at_ e p))).val + rank e (at_ e p)) % 64 = rank e (at_ e p)
      omega
    | ⟨1, _⟩ => rfl
  have hd := dev_blk c (e p)
  unfold G
  rw [hb, hrow, hd.1, pay_read]
  refine congrArg₂ (· + ·) rfl (Finset.sum_congr rfl fun k _ => congrArg₂ (· * ·) ?_ ?_)
  · have hx : xIdx (blk c (e p)) (ix2 (⟨rank e (at_ e p), hr⟩ : Fin 64) k) = ix2 (slot e hcnt c (at_ e p)) k := by
      funext a
      match a with
      | ⟨0, _⟩ =>
        refine Fin.ext ?_
        show 64 * (blk c (e p)).val + rank e (at_ e p) = 64 * (blk c (key e (at_ e p))).val + rank e (at_ e p)
        rw [hk]
      | ⟨1, _⟩ => rfl
    show (V14 m c (Proc.devRef .tc main_v171) : S8192x512.Idx → Elt Ideal .bf16) (xIdx (blk c (e p)) _) = _
    rw [hx, v171_read m c e hE hcnt (at_ e p) k, v164_read m c e hE, ord_at]
    rfl
  · have hx : eIdx (dOf (blk c (e p)).val) (jOf (blk c (e p)).val) (fun | ⟨0, _⟩ => (0 : Fin 1) | ⟨1, _⟩ => (0 : Fin 1) | ⟨2, _⟩ => k | ⟨3, _⟩ => h) = ix3 (loc4 (e p)) k h := by
      funext a
      match a with
      | ⟨0, _⟩ => exact Fin.ext hd.2
      | ⟨1, _⟩ => rfl
      | ⟨2, _⟩ => rfl
    show (V14 m (dev (e p)) (Proc.devRef .tc main_v172) : S4x512x1024.Idx → Elt Ideal .bf16) (eIdx _ _ _) = _
    rw [hx, v172_read]
    rfl

end Cert.Proof.Maths

end
-- ==== Proof.Maths.RefRead.lean ====
/- The reference's result at one entry. -/

module

public import proofs.«01_k».proof.Proof.Maths.Gates
public import proofs.«01_k».proof.Proof.Gen.ReferenceIdeal.Run

@[expose] public section

set_option maxRecDepth 16384

noncomputable section

namespace Cert.Proof.Maths

open Cert.ReferenceIdeal Cert.ReferenceIdeal.Gen Cert.ReferenceIdeal.Value
open Idealize.ShloMosaic hiding ix0 ix1 ix2 ix3 eq_ix1 eq_ix2 eq_ix3
open Idealize.ShloMosaic.Routing Idealize.ShloMosaic.ValueIdx

/-- Column `o` of a matrix of two columns, as a column. -/
theorem col_slice {α : Type} {n : ℕ} (o : ℕ) (k : Fin 2) (ho : o = k.val) (a : (shape2 n 2).Idx → α) (h : (shape2 n 2).Slices ![0, o] (shape2 n 1)) (r : Fin n) :
    extractStridedSlice (shape2 n 1) ![0, o] a h (ix2 r (0 : Fin 1)) = a (ix2 r k) := by
  subst ho
  unfold extractStridedSlice
  refine congrArg a (funext fun b => Fin.ext ?_)
  match b with
  | ⟨0, _⟩ => exact Nat.zero_add _
  | ⟨1, _⟩ => exact Nat.add_zero _

/-- That column along the rows of a wider matrix. -/
theorem col_spread {α : Type} {n w : ℕ} (o : ℕ) (k : Fin 2) (ho : o = k.val) (a : (shape2 n 2).Idx → α) (h : (shape2 n 2).Slices ![0, o] (shape2 n 1))
    (h₂ : (shape2 n 1).BroadcastsInDim (shape2 n w) (![0, 1] : Fin 2 → Fin (shape2 n w).rank)) (r : Fin n) (q : Fin w) :
    broadcastInDim (shape2 n w) ![0, 1] h₂ (extractStridedSlice (shape2 n 1) ![0, o] a h) (ix2 r q) = a (ix2 r k) := by
  refine (broadcastInDim_apply _ h₂ _ _ (ix2 r (0 : Fin 1)) fun b => ?_).trans (col_slice o k ho a h r)
  match b with
  | ⟨0, _⟩ =>
    show r.val = _
    split
    · rename_i h1
      have := r.isLt
      have h1 : n = 1 := h1
      omega
    · rfl
  | ⟨1, _⟩ => rfl

/-- That column as a vector. -/
theorem col_flat {α : Type} {n : ℕ} (o : ℕ) (k : Fin 2) (ho : o = k.val) (a : (shape2 n 2).Idx → α) (h : (shape2 n 2).Slices ![0, o] (shape2 n 1))
    (hc : (shape2 n 1).ShapeCasts (shape1 n)) (r : Fin n) : shapeCast (shape1 n) (extractStridedSlice (shape2 n 1) ![0, o] a h) hc (ix1 r) = a (ix2 r k) := by
  refine (shapeCast_apply _ _ _ (ix2 r (0 : Fin 1)) ?_).trans (col_slice o k ho a h r)
  rw [Shape.rowMajor_val_two, Shape.rowMajor_val_one]
  show r.val * 1 + 0 = r.val
  omega

/-- The reference's scores. -/
theorem score_ref (x : FVec Ideal S65536x512 .f32) (w : FVec Ideal S512x128 .f32) (t : Fin 65536) (j : Fin 128) :
    Host.dotGeneral (F := Ideal) (φ₁ := .f32) (φ₂ := .f32) dot_S65536x512_S512x128_S65536x128_1_0_0_1_n_n none x w (ix2 t j) = score (n := 65536) x w t j := by
  simp only [pointwise]
  rfl

/-- Each token times its own expert's weights. -/
theorem prod_ref (x : FVec Ideal S65536x512 .f32) (w : FVec Ideal S65536x512x1024 .f32) (t : Fin 65536) (h : Fin 1024) :
    Host.dotGeneral (F := Ideal) (φ₁ := .f32) (φ₂ := .f32) dot_S65536x512_S65536x512x1024_S65536x1024_1_1_n_2_0_0 none x w (ix2 t h)
      = 0 + ∑ k : Fin 512, x (ix2 t k) * w (ix3 t k h) := by
  simp only [pointwise]
  rfl

attribute [local irreducible] Host.reduce Host.gather in
/-- The reference's result at one entry: the two experts' products, each times its gate. -/
theorem ref_read (m : (ℓ : Loc nD τ sig) → Buf (Elt Ideal) ℓ) (c : Dev nD) (x : S65536x512.Idx → EReal) (w : S512x128.Idx → EReal) (i : IVec S65536x2 32) (W : S128x512x1024.Idx → EReal)
    (h0 : m ((c.tc : Thread nD τ).loc main_arg0) = x) (h1 : m ((c.tc : Thread nD τ).loc main_arg1) = w) (h2 : m ((c.tc : Thread nD τ).loc main_arg2) = i) (h3 : m ((c.tc : Thread nD τ).loc main_arg3) = W)
    (b : Fin 65536 → Fin 2 → Fin 128) (hi : ∀ r k, i (ix2 r k) = BitVec.ofNat 32 (b r k).val) (r : Fin 65536) (h : Fin 1024) :
    (res_main_v41 m c (ix2 r h) : EReal)
      = gate (score (n := 65536) x w r) (b r) 0 * (0 + ∑ k : Fin 512, x (ix2 r k) * W (ix3 (b r 0) k h))
        + gate (score (n := 65536) x w r) (b r) 1 * (0 + ∑ k : Fin 512, x (ix2 r k) * W (ix3 (b r 1) k h)) := by
  have hs : score (n := 65536) x w r = fun j => Host.dotGeneral (F := Ideal) (φ₁ := .f32) (φ₂ := .f32) dot_S65536x512_S512x128_S65536x128_1_0_0_1_n_n none x w (ix2 r j) :=
    funext fun j => (score_ref x w r j).symm
  rw [hs]
  have hbot : Ideal.ofBits .f32 0xFF800000#32 = ⊥ := by simp [Ideal.ofBits, Ideal.ieee]
  have hzero : Ideal.ofBits .f32 0x00000000#32 = 0 := by simp [Ideal.ofBits, Ideal.ieee]
  unfold res_main_v41
  rw [h0, h1, h2, h3]
  refine congrArg₂ (fun u v : EReal => u + v) (congrArg₂ (fun u v : EReal => u * v) ?_ ?_) (congrArg₂ (fun u v : EReal => u * v) ?_ ?_)
  · refine (col_spread 0 0 rfl _ _ _ r h).trans ?_
    refine norm_rows _ _ _ _ _ _ (fun _ => hzero) _ _ r 0 fun k => ?_
    refine (take_along _ _ _ _ _ _ _ _ _ b (fun r k => pick_read _ _ _ _ r k _ (hi r k) rfl) (fun _ => rfl) (fun _ => rfl) (fun _ => rfl) r k).trans ?_
    exact soft_rows _ _ _ _ _ _ _ r _ (row_top _ _ _ _ (fun _ => hbot) r) fun _ => hzero
  · refine (prod_ref _ _ r h).trans ?_
    refine congrArg₂ (fun u v : EReal => u + v) rfl (Finset.sum_congr rfl fun k _ => congrArg₂ (fun u v : EReal => u * v) rfl ?_)
    refine gather_slab _ _ _ r k h (b r 0) ?_
    exact col_read _ _ _ _ r _ (by have := (b r 0).isLt; omega) ((col_flat 0 0 rfl _ _ _ r).trans (hi r 0)) rfl
  · refine (col_spread 1 1 rfl _ _ _ r h).trans ?_
    refine norm_rows _ _ _ _ _ _ (fun _ => hzero) _ _ r 1 fun k => ?_
    refine (take_along _ _ _ _ _ _ _ _ _ b (fun r k => pick_read _ _ _ _ r k _ (hi r k) rfl) (fun _ => rfl) (fun _ => rfl) (fun _ => rfl) r k).trans ?_
    exact soft_rows _ _ _ _ _ _ _ r _ (row_top _ _ _ _ (fun _ => hbot) r) fun _ => hzero
  · refine (prod_ref _ _ r h).trans ?_
    refine congrArg₂ (fun u v : EReal => u + v) rfl (Finset.sum_congr rfl fun k _ => congrArg₂ (fun u v : EReal => u * v) rfl ?_)
    refine gather_slab _ _ _ r k h (b r 1) ?_
    exact col_read _ _ _ _ r _ (by have := (b r 1).isLt; omega) ((col_flat 1 1 rfl _ _ _ r).trans (hi r 1)) rfl

end Cert.Proof.Maths

end
-- ==== Proof.Maths.Equation.lean ====
/- The kernel's result is the reference's. -/

module

public import proofs.«01_k».proof.Proof.Maths.Given
public import proofs.«01_k».proof.Proof.Maths.KGates
public import proofs.«01_k».proof.Proof.Maths.Place
public import proofs.«01_k».proof.Proof.Maths.RefRead
public import Idealize.ShloMosaic.Lib.Layout

@[expose] public section

set_option maxRecDepth 16384

noncomputable section

namespace Cert.Proof.Maths

open Cert.KernelIdeal Cert.KernelIdeal.Gen Cert.Proof.Ring
open Idealize.ShloMosaic hiding ix0 ix1 ix2 ix3 eq_ix1 eq_ix2 eq_ix3
open Idealize.ShloMosaic.Routing Idealize.ShloMosaic.ValueIdx

/-! ## Blocks of the whole arrays -/

/-- The whole array's row of row `t` of device `c`. -/
def row (c : Fin 32) (t : Fin 2048) : Fin 65536 := ⟨2048 * c.val + t.val, by omega⟩

/-- Block `c` of an array of 65536 rows, at an entry. -/
theorem block_row {α : Type} {w : ℕ} (c : Fin 32) (v : (shape2 65536 w).Idx → α) (h : Layout.Tiles (shape2 2048 w) (shape2 65536 w) 0 32) (t : Fin 2048) (k : Fin w) :
    Layout.block (shape2 2048 w) (shape2 65536 w) 0 32 c v h (ix2 t k) = v (ix2 (row c t) k) := by
  refine congrArg v (funext fun b => Fin.ext ?_)
  rw [Layout.Tiles.idx_val]
  match b with
  | ⟨0, _⟩ =>
    show c.val * 2048 + t.val = 2048 * c.val + t.val
    omega
  | ⟨1, _⟩ => rfl

/-- The weights of expert `b`, on the device that holds it. -/
theorem block_expert {α : Type} (b : Fin 128) (v : (⟨3, ![128, 512, 1024]⟩ : Shape).Idx → α) (h : Layout.Tiles (⟨3, ![4, 512, 1024]⟩ : Shape) (⟨3, ![128, 512, 1024]⟩ : Shape) 0 32) (k : Fin 512) (j : Fin 1024) :
    Layout.block (⟨3, ![4, 512, 1024]⟩ : Shape) (⟨3, ![128, 512, 1024]⟩ : Shape) 0 32 (dev b) v h (ix3 (loc4 b) k j) = v (ix3 b k j) := by
  refine congrArg v (funext fun a => Fin.ext ?_)
  rw [Layout.Tiles.idx_val]
  match a with
  | ⟨0, _⟩ =>
    show b.val / 4 * 4 + b.val % 4 = b.val
    omega
  | ⟨1, _⟩ => rfl
  | ⟨2, _⟩ => rfl

/-! ## One entry of the result -/

section
variable [hF : Cert.Pre_pre_KernelIdeal.Facts] (m : (ℓ : Loc nD τ sig) → Buf (Elt Ideal) ℓ) (hp : Cert.Pre_KernelIdeal_pre_KernelIdeal m) (c : Dev nD)

include hp in
/-- The scores of every token are real. -/
theorem sc_real (t : Fin 2048) (j : Fin 128) : ∃ r : ℝ, sc m c t j = (r : EReal) :=
  score_real (fun k => x_real m hp c (ix2 t k)) (fun k => w_real m hp c (ix2 k j))

include hp in
/-- The ring's result at the row of pair `2 t + k`: the gate times the token times the weights of its expert. -/
theorem pair_value (t : Fin 2048) (k : Fin 2) (h : Fin 1024) (p : Fin 4096) (hpk : p.val = 2 * t.val + k.val) :
    (G (Ew (V14 m)) (Xw (V14 m) c) c (ix2 (slot (ex m c) (load_le m hp c) c (at_ (ex m c) p)) h) : EReal)
      = gate (sc m c t) (fun k => ex m c ⟨2 * t.val + k.val, by omega⟩) k
        * ((0 : EReal) + ∑ d : Fin 512, (show EReal from (m ((c.tc : Thread nD τ).loc main_arg0) : S2048x512.Idx → Elt Ideal .f32) (ix2 t d))
            * (show EReal from (m (((dev (ex m c p)).tc : Thread nD τ).loc main_arg3) : S4x512x1024.Idx → Elt Ideal .f32) (ix3 (loc4 (ex m c p)) d h))) := by
  have ht : tok p = t := Fin.ext (by show p.val / 2 = t.val; omega)
  have hk : ch p = k := Fin.ext (by show p.val % 2 = k.val; omega)
  rw [place_read m c (ex m c) (routes m hp c) (load_le m hp c) p h, ht, hk, zero_add, zero_add]
  have hg := v105_read m c (ex m c) (routes m hp c) t k
  refine Eq.trans ?_ (Pos.mul_sum (gate_pos (sc_real m hp c t) (fun k => ex m c ⟨2 * t.val + k.val, by omega⟩) k) Finset.univ
    (fun d => (show EReal from (m ((c.tc : Thread nD τ).loc main_arg0) : S2048x512.Idx → Elt Ideal .f32) (ix2 t d)))
    (fun d => (show EReal from (m (((dev (ex m c p)).tc : Thread nD τ).loc main_arg3) : S4x512x1024.Idx → Elt Ideal .f32) (ix3 (loc4 (ex m c p)) d h))))
  exact Finset.sum_congr rfl fun d _ => congrArg (fun g : EReal => (show EReal from (m ((c.tc : Thread nD τ).loc main_arg0) : S2048x512.Idx → Elt Ideal .f32) (ix2 t d)) * g
    * (show EReal from (m (((dev (ex m c p)).tc : Thread nD τ).loc main_arg3) : S4x512x1024.Idx → Elt Ideal .f32) (ix3 (loc4 (ex m c p)) d h))) hg

variable (m' : (ℓ : Loc Cert.ReferenceIdeal.nD Cert.ReferenceIdeal.τ Cert.ReferenceIdeal.sig) → Buf (Elt Ideal) ℓ)
  (x : (shape2 65536 512).Idx → EReal) (w : (shape2 512 128).Idx → EReal) (i : IVec (shape2 65536 2) 32) (W : (⟨3, ![128, 512, 1024]⟩ : Shape).Idx → EReal)
  (h0 : m' (((0 : Dev Cert.ReferenceIdeal.nD).tc : Thread Cert.ReferenceIdeal.nD Cert.ReferenceIdeal.τ).loc Cert.ReferenceIdeal.main_arg0) = x)
  (h1 : m' (((0 : Dev Cert.ReferenceIdeal.nD).tc : Thread Cert.ReferenceIdeal.nD Cert.ReferenceIdeal.τ).loc Cert.ReferenceIdeal.main_arg1) = w)
  (h2 : m' (((0 : Dev Cert.ReferenceIdeal.nD).tc : Thread Cert.ReferenceIdeal.nD Cert.ReferenceIdeal.τ).loc Cert.ReferenceIdeal.main_arg2) = i)
  (h3 : m' (((0 : Dev Cert.ReferenceIdeal.nD).tc : Thread Cert.ReferenceIdeal.nD Cert.ReferenceIdeal.τ).loc Cert.ReferenceIdeal.main_arg3) = W)
  (hx : ∀ (c : Dev nD) t k, (m ((c.tc : Thread nD τ).loc main_arg0) : S2048x512.Idx → Elt Ideal .f32) (ix2 t k) = x (ix2 (row c t) k))
  (hw : ∀ (c : Dev nD), (m ((c.tc : Thread nD τ).loc main_arg1) : S512x128.Idx → Elt Ideal .f32) = w)
  (hi : ∀ (c : Dev nD) t k, (m ((c.tc : Thread nD τ).loc main_arg2) : S2048x2.Idx → Elt Ideal .i32) (ix2 t k) = i (ix2 (row c t) k))
  (hW : ∀ b k h, (m (((dev b).tc : Thread nD τ).loc main_arg3) : S4x512x1024.Idx → Elt Ideal .f32) (ix3 (loc4 b) k h) = W (ix3 b k h))

/-- The experts of the whole array's row `r`. -/
def exAll (i : IVec (shape2 65536 2) 32) (r : Fin 65536) (k : Fin 2) : Fin 128 := ⟨(i (ix2 r k)).toNat % 128, Nat.mod_lt _ (by decide)⟩

/-- Every row is a row of some device. -/
theorem row_surj (r : Fin 65536) : ∃ c t, r = row c t :=
  ⟨⟨r.val / 2048, by omega⟩, ⟨r.val % 2048, Nat.mod_lt _ (by decide)⟩, Fin.ext (by show r.val = 2048 * (r.val / 2048) + r.val % 2048; omega)⟩

include hp hi in
/-- Their words. -/
theorem exAll_word (r : Fin 65536) (k : Fin 2) : i (ix2 r k) = BitVec.ofNat 32 (exAll i r k).val := by
  obtain ⟨c, t, rfl⟩ := row_surj r
  have h : (i (ix2 (row c t) k)).toNat < 128 := by
    have := word_lt m hp c t k
    rw [← hi c t k]
    exact this
  apply BitVec.eq_of_toNat_eq
  rw [BitVec.toNat_ofNat]
  show _ = ((i (ix2 (row c t) k)).toNat % 128) % 2 ^ 32
  omega

include hi in
/-- They are the experts of the device's pairs. -/
theorem exAll_ex (t : Fin 2048) (k : Fin 2) (p : Fin 4096) (hpk : p.val = 2 * t.val + k.val) : ex m c p = exAll i (row c t) k := by
  have ht : tok p = t := Fin.ext (by show p.val / 2 = t.val; omega)
  have hk : ch p = k := Fin.ext (by show p.val % 2 = k.val; omega)
  refine Fin.ext ?_
  show ((m ((c.tc : Thread nD τ).loc main_arg2) : S2048x2.Idx → Elt Ideal .i32) (ix2 (tok p) (ch p))).toNat % 128 = (i (ix2 (row c t) k)).toNat % 128
  rw [ht, hk, hi]

include hx hw in
/-- The scores are the whole arrays'. -/
theorem sc_all (t : Fin 2048) : sc m c t = score (n := 65536) x w (row c t) := by
  funext j
  unfold sc score
  rw [hw c]
  exact congrArg (fun v : EReal => 0 + v) (Finset.sum_congr rfl fun k _ => congrArg (fun v : EReal => v * w (ix2 k j)) (hx c t k))

include hp hx hw hi hW in
/-- The value of pair `2 t + k`, of the whole arrays. -/
theorem pair_all (t : Fin 2048) (k : Fin 2) (h : Fin 1024) (p : Fin 4096) (hpk : p.val = 2 * t.val + k.val) :
    (G (Ew (V14 m)) (Xw (V14 m) c) c (ix2 (slot (ex m c) (load_le m hp c) c (at_ (ex m c) p)) h) : EReal)
      = gate (score (n := 65536) x w (row c t)) (exAll i (row c t)) k * (0 + ∑ d : Fin 512, x (ix2 (row c t) d) * W (ix3 (exAll i (row c t) k) d h)) := by
  rw [pair_value m hp c t k h p hpk, sc_all m c x w hx hw t, exAll_ex m c i hi t k p hpk]
  refine congrArg₂ (fun u v : EReal => u * v) (congrFun (congrArg (gate _) (funext fun k => exAll_ex m c i hi t k _ rfl)) k)
    (congrArg (fun v : EReal => 0 + v) (Finset.sum_congr rfl fun d _ => congrArg₂ (fun u v : EReal => u * v) (hx c t d) (hW _ d h)))

include hp h0 h1 h2 h3 hx hw hi hW in
/-- An entry of the kernel's result is the reference's entry at the whole array's row. -/
theorem entry (t : Fin 2048) (h : Fin 1024) :
    (V20 m (outs m) c (Proc.devRef .tc main_v188) : S2048x1024.Idx → Elt Ideal .f32) (ix2 t h) = Cert.ReferenceIdeal.Value.res_main_v41 m' 0 (ix2 (row c t) h) := by
  refine (v188_read m c (ex m c) (routes m hp c) (load_le m hp c) t h).trans ?_
  refine Eq.trans ?_ (ref_read m' 0 x w i W h0 h1 h2 h3 (exAll i) (exAll_word m hp i hi) (row c t) h).symm
  exact congrArg₂ (fun u v : EReal => u + v) (pair_all m hp c x w i W hx hw hi hW t 0 h _ rfl) (pair_all m hp c x w i W hx hw hi hW t 1 h _ rfl)

end

end Cert.Proof.Maths

end
-- ==== Proof.Maths.Algebraic.lean ====
/- The algebraic claim. -/

module

public import proofs.«01_k».proof.Proof.Maths.Equation

@[expose] public section

set_option maxRecDepth 16384

noncomputable section

namespace Cert.Proof.Maths

open Cert.KernelIdeal Cert.KernelIdeal.Gen Cert.Proof.Ring
open Idealize.ShloMosaic hiding ix0 ix1 ix2 ix3 eq_ix1 eq_ix2 eq_ix3
open Idealize.ShloMosaic.Routing Idealize.ShloMosaic.ValueIdx

open Idealize.SL.Sem

/-- From blocks of the reference's arrays, every device ends with its block of the reference's result. -/
theorem algebraic [hF : Cert.Pre_pre_KernelIdeal.Facts] : Cert.algebraic_KernelIdeal_ReferenceIdeal_pre_pre_KernelIdeal := by
  intro m g m' g' hp ha
  refine ⟨Cert.ReferenceIdeal.Value.res_main_v41 m' 0, ?_, ?_⟩
  · refine (θ_run defs _ _).mono (fun r hr c => ?_) (run_main (F := Ideal) m g)
    have hf := hr.1 c
    refine ⟨hf.1.trans ?_, hf.2⟩
    funext j
    obtain ⟨t, h, rfl⟩ : ∃ (t : Fin 2048) (h : Fin 1024), j = ix2 t h := ⟨_, _, eq_ix2 j⟩
    refine Eq.trans ?_ (block_row c (Cert.ReferenceIdeal.Value.res_main_v41 m' 0) (by decide) t h).symm
    exact entry m hp c m' _ _ _ _ rfl rfl rfl rfl
      (fun c t k => (congrFun (ha c).1 (ix2 t k)).trans (block_row c _ _ t k))
      (fun c => (ha c).2.1)
      (fun c t k => (congrFun (ha c).2.2.1 (ix2 t k)).trans (block_row c _ _ t k))
      (fun b k h => (congrFun (ha (dev b)).2.2.2 (ix3 (loc4 b) k h)).trans (block_expert b _ _ k h)) t h
  · exact (θ_run Cert.ReferenceIdeal.defs _ _).mono (fun r hr => hr 0) (Cert.ReferenceIdeal.Value.run (F := Ideal) m' g')

end Cert.Proof.Maths

end
-- ==== Proof.lean ====
module

public import proofs.«01_k».proof.Defs
public import proofs.«01_k».proof.Proof.Gen.ReferenceIdeal.Run
public import proofs.«01_k».proof.Proof.Frames
public import proofs.«01_k».proof.Proof.Maths.Algebraic

@[expose] public section

noncomputable section

namespace Cert.Proof

open Idealize.ShloMosaic Idealize.SL.Sem

/-- The claim. -/
theorem claim : Cert.Claim := ⟨Cert.Kernel.Gen.facts, Cert.KernelIdeal.Gen.facts, Cert.ReferenceIdeal.Gen.facts,
  Maths.pre_facts_kernel, Maths.pre_facts_reference,
  frame_kernel, frame_kernelIdeal, fun m ρ _ => frame_kernelIdeal m ρ trivial,
  frame_referenceIdeal, fun m ρ _ => frame_referenceIdeal m ρ trivial, trivial,
  Maths.algebraic (hF := Maths.pre_facts_kernel)⟩

end Cert.Proof

end
